-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S4096x3 : Shape := ⟨2, ![4096, 3]⟩
abbrev S4096x50 : Shape := ⟨2, ![4096, 50]⟩
abbrev S100000x128 : Shape := ⟨2, ![100000, 128]⟩
abbrev S1000x128 : Shape := ⟨2, ![1000, 128]⟩
abbrev S640x1024 : Shape := ⟨2, ![640, 1024]⟩
abbrev S1024 : Shape := ⟨1, ![1024]⟩
abbrev S1024x1024 : Shape := ⟨2, ![1024, 1024]⟩
abbrev S1024x1000 : Shape := ⟨2, ![1024, 1000]⟩
abbrev S1000 : Shape := ⟨1, ![1000]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096x50 : S_.BroadcastsInDim S4096x50 (![] : Fin 0 → Fin S4096x50.rank)
  reducesTo_S4096x50_S_d0_1 : S4096x50.ReducesTo [0, 1] S_

variable [Facts]

def fn_part1 {F : FTy → Type} [FloatOps F] (main_arg2 : IVec S4096x50 32) (main_v14 : IVec S_ 1) (main_c_7 : IVec S_ 32) : IVec S_ 1 :=
  let main_v15 : IVec S4096x50 32 := broadcastInDim S4096x50 ![] bcast_S_S4096x50 main_c_7
  let main_v16 : IVec S4096x50 1 := cmpi .sge main_arg2 main_v15
  let main_c_8 : IVec S_ 1 := constantI S_ 1 1#1
  let main_v17 : IVec S_ 1 := (fun x v => Host.reduce IntOp.andi x v reducesTo_S4096x50_S_d0_1 h_S_) main_v16 main_c_8
  let main_v18 : IVec S_ 1 := andi main_v14 main_v17
  let main_c_9 : IVec S_ 32 := constantI S_ 32 1000#32
  let main_v19 : IVec S4096x50 32 := broadcastInDim S4096x50 ![] bcast_S_S4096x50 main_c_9
  let main_v20 : IVec S4096x50 1 := cmpi .slt main_arg2 main_v19
  let main_c_10 : IVec S_ 1 := constantI S_ 1 1#1
  let main_v21 : IVec S_ 1 := (fun x v => Host.reduce IntOp.andi x v reducesTo_S4096x50_S_d0_1 h_S_) main_v20 main_c_10
  let main_v22 : IVec S_ 1 := andi main_v18 main_v21
  main_v22

def fn {F : FTy → Type} [FloatOps F] (main_arg0 : IVec S4096x3 32) (main_arg1 : IVec S4096x50 32) (main_arg2 : IVec S4096x50 32) (main_arg3 : FVec F S100000x128 .f32) (main_arg4 : FVec F S100000x128 .f32) (main_arg5 : FVec F S1000x128 .f32) (main_arg6 : FVec F S640x1024 .f32) (main_arg7 : FVec F S1024 .f32) (main_arg8 : FVec F S1024x1024 .f32) (main_arg9 : FVec F S1024 .f32) (main_arg10 : FVec F S1024x1000 .f32) (main_arg11 : FVec F S1000 .f32) : IVec S_ 1 :=
  let main_c : IVec S_ 32 := constantI S_ 32 0#32
  let main_v0 : IVec S4096x3 32 := broadcastInDim S4096x3 ![] bcast_S_S4096x3 main_c
  let main_v1 : IVec S4096x3 1 := cmpi .sge main_arg0 main_v0
  let main_c_0 : IVec S_ 1 := constantI S_ 1 1#1
  let main_v2 : IVec S_ 1 := (fun x v => Host.reduce IntOp.andi x v reducesTo_S4096x3_S_d0_1 h_S_) main_v1 main_c_0
  let main_c_1 : IVec S_ 32 := constantI S_ 32 100000#32
  let main_v3 : IVec S4096x3 32 := broadcastInDim S4096x3 ![] bcast_S_S4096x3 main_c_1
  let main_v4 : IVec S4096x3 1 := cmpi .slt main_arg0 main_v3
  let main_c_2 : IVec S_ 1 := constantI S_ 1 1#1
  let main_v5 : IVec S_ 1 := (fun x v => Host.reduce IntOp.andi x v reducesTo_S4096x3_S_d0_1 h_S_) main_v4 main_c_2
  let main_v6 : IVec S_ 1 := andi main_v2 main_v5
  let main_c_3 : IVec S_ 32 := constantI S_ 32 0#32
  let main_v7 : IVec S4096x50 32 := broadcastInDim S4096x50 ![] bcast_S_S4096x50 main_c_3
  let main_v8 : IVec S4096x50 1 := cmpi .sge main_arg1 main_v7
  let main_c_4 : IVec S_ 1 := constantI S_ 1 1#1
  let main_v9 : IVec S_ 1 := (fun x v => Host.reduce IntOp.andi x v reducesTo_S4096x50_S_d0_1 h_S_) main_v8 main_c_4
  let main_v10 : IVec S_ 1 := andi main_v6 main_v9
  let main_c_5 : IVec S_ 32 := constantI S_ 32 1000#32
  let main_v11 : IVec S4096x50 32 := broadcastInDim S4096x50 ![] bcast_S_S4096x50 main_c_5
  let main_v12 : IVec S4096x50 1 := cmpi .slt main_arg1 main_v11
  let main_c_6 : IVec S_ 1 := constantI S_ 1 1#1
  let main_v13 : IVec S_ 1 := (fun x v => Host.reduce IntOp.andi x v reducesTo_S4096x50_S_d0_1 h_S_) main_v12 main_c_6
  let main_v14 : IVec S_ 1 := andi main_v10 main_v13
  let main_c_7 : IVec S_ 32 := constantI S_ 32 0#32
  fn_part1 (F := F) main_arg2 main_v14 main_c_7
-- ==== Kernel.lean ====
abbrev S4096x3 : Shape := ⟨2, ![4096, 3]⟩
abbrev S4096x50 : Shape := ⟨2, ![4096, 50]⟩
abbrev S100000x128 : Shape := ⟨2, ![100000, 128]⟩
abbrev S1000x128 : Shape := ⟨2, ![1000, 128]⟩
abbrev S640x1024 : Shape := ⟨2, ![640, 1024]⟩
abbrev S1024 : Shape := ⟨1, ![1024]⟩
abbrev S1024x1024 : Shape := ⟨2, ![1024, 1024]⟩
abbrev S1024x1000 : Shape := ⟨2, ![1024, 1000]⟩
abbrev S1000 : Shape := ⟨1, ![1000]⟩
abbrev S4096x1 : Shape := ⟨2, ![4096, 1]⟩
abbrev S4096 : Shape := ⟨1, ![4096]⟩
abbrev S50x4096 : Shape := ⟨2, ![50, 4096]⟩
abbrev S_ : Shape := ⟨0, ![]⟩
abbrev S1024x128 : Shape := ⟨2, ![1024, 128]⟩
abbrev S4096x128 : Shape := ⟨2, ![4096, 128]⟩
abbrev S4096x1024 : Shape := ⟨2, ![4096, 1024]⟩
abbrev S128 : Shape := ⟨1, ![128]⟩
abbrev S128x128 : Shape := ⟨2, ![128, 128]⟩
abbrev S50x128 : Shape := ⟨2, ![50, 128]⟩
abbrev S32x1024 : Shape := ⟨2, ![32, 1024]⟩
abbrev S16 : Shape := ⟨1, ![16]⟩
abbrev S1x16 : Shape := ⟨2, ![1, 16]⟩
abbrev S1x1024 : Shape := ⟨2, ![1, 1024]⟩
abbrev S1000x1024 : Shape := ⟨2, ![1000, 1024]⟩
abbrev S1000x1 : Shape := ⟨2, ![1000, 1]⟩
abbrev S1000x4096 : Shape := ⟨2, ![1000, 4096]⟩
abbrev S512x128 : Shape := ⟨2, ![512, 128]⟩
abbrev S512x1024 : Shape := ⟨2, ![512, 1024]⟩
abbrev S1000x512 : Shape := ⟨2, ![1000, 512]⟩
abbrev S512x640 : Shape := ⟨2, ![512, 640]⟩
abbrev S4096x1000 : Shape := ⟨2, ![4096, 1000]⟩

abbrev nBuf : Table → Nat
  | .hbm => 37
  | .local .tc .vmem => 17
  | .local .scVector .vmem => 8
  | _ => 0

abbrev bufTy : (tb : Table) → Fin (nBuf tb) → BufTy
  | .hbm, ⟨0, _⟩ => ⟨S4096x3, .i32⟩
  | .hbm, ⟨1, _⟩ => ⟨S4096x50, .i32⟩
  | .hbm, ⟨2, _⟩ => ⟨S4096x50, .i32⟩
  | .hbm, ⟨3, _⟩ => ⟨S100000x128, .f32⟩
  | .hbm, ⟨4, _⟩ => ⟨S100000x128, .f32⟩
  | .hbm, ⟨5, _⟩ => ⟨S1000x128, .f32⟩
  | .hbm, ⟨6, _⟩ => ⟨S640x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1000, .f32⟩
  | .hbm, ⟨11, _⟩ => ⟨S1000, .f32⟩
  | .hbm, ⟨12, _⟩ => ⟨S4096x1, .i32⟩
  | .hbm, ⟨13, _⟩ => ⟨S4096, .i32⟩
  | .hbm, ⟨14, _⟩ => ⟨S4096x1, .i32⟩
  | .hbm, ⟨15, _⟩ => ⟨S4096, .i32⟩
  | .hbm, ⟨16, _⟩ => ⟨S4096x1, .i32⟩
  | .hbm, ⟨17, _⟩ => ⟨S4096, .i32⟩
  | .hbm, ⟨18, _⟩ => ⟨S50x4096, .i32⟩
  | .hbm, ⟨19, _⟩ => ⟨S50x4096, .i32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S4096x128, .f32⟩
  | .hbm, ⟨24, _⟩ => ⟨S4096x128, .f32⟩
  | .hbm, ⟨25, _⟩ => ⟨S4096x128, .f32⟩
  | .hbm, ⟨26, _⟩ => ⟨S4096x1024, .f32⟩
  | .hbm, ⟨27, _⟩ => ⟨S1024x128, .bf16⟩
  | .hbm, ⟨28, _⟩ => ⟨S640x1024, .bf16⟩
  | .hbm, ⟨29, _⟩ => ⟨S1x1024, .f32⟩
  | .hbm, ⟨30, _⟩ => ⟨S1024x1024, .bf16⟩
  | .hbm, ⟨31, _⟩ => ⟨S1x1024, .f32⟩
  | .hbm, ⟨32, _⟩ => ⟨S1000x1024, .f32⟩
  | .hbm, ⟨33, _⟩ => ⟨S1000x1024, .bf16⟩
  | .hbm, ⟨34, _⟩ => ⟨S1000x1, .f32⟩
  | .hbm, ⟨35, _⟩ => ⟨S1000x4096, .f32⟩
  | .hbm, ⟨36, _⟩ => ⟨S4096x1000, .f32⟩
  | .local .tc .vmem, ⟨0, _⟩ => ⟨S512x128, .f32⟩
  | .local .tc .vmem, ⟨1, _⟩ => ⟨S512x128, .f32⟩
  | .local .tc .vmem, ⟨2, _⟩ => ⟨S512x128, .f32⟩
  | .local .tc .vmem, ⟨3, _⟩ => ⟨S512x128, .f32⟩
  | .local .tc .vmem, ⟨4, _⟩ => ⟨S512x128, .f32⟩
  | .local .tc .vmem, ⟨5, _⟩ => ⟨S512x128, .f32⟩
  | .local .tc .vmem, ⟨6, _⟩ => ⟨S512x1024, .f32⟩
  | .local .tc .vmem, ⟨7, _⟩ => ⟨S512x1024, .f32⟩
  | .local .tc .vmem, ⟨8, _⟩ => ⟨S1024x128, .bf16⟩
  | .local .tc .vmem, ⟨9, _⟩ => ⟨S640x1024, .bf16⟩
  | .local .tc .vmem, ⟨10, _⟩ => ⟨S1x1024, .f32⟩
  | .local .tc .vmem, ⟨11, _⟩ => ⟨S1024x1024, .bf16⟩
  | .local .tc .vmem, ⟨12, _⟩ => ⟨S1x1024, .f32⟩
  | .local .tc .vmem, ⟨13, _⟩ => ⟨S1000x1024, .bf16⟩
  | .local .tc .vmem, ⟨14, _⟩ => ⟨S1000x1, .f32⟩
  | .local .tc .vmem, ⟨15, _⟩ => ⟨S1000x512, .f32⟩
  | .local .tc .vmem, ⟨16, _⟩ => ⟨S1000x512, .f32⟩
  | .local .scVector .vmem, ⟨0, _⟩ => ⟨S128, .i32⟩
  | .local .scVector .vmem, ⟨1, _⟩ => ⟨S128, .i32⟩
  | .local .scVector .vmem, ⟨2, _⟩ => ⟨S128x128, .f32⟩
  | .local .scVector .vmem, ⟨3, _⟩ => ⟨S128x128, .f32⟩
  | .local .scVector .vmem, ⟨4, _⟩ => ⟨S50x128, .i32⟩
  | .local .scVector .vmem, ⟨5, _⟩ => ⟨S50x128, .i32⟩
  | .local .scVector .vmem, ⟨6, _⟩ => ⟨S32x1024, .f32⟩
  | .local .scVector .vmem, ⟨7, _⟩ => ⟨S32x1024, .f32⟩
  | _, _ => ⟨S4096x3, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 28 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTables nBuf rfl bufTy 4 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_v0 : Ref sig .tc := ⟨.hbm, 21, rfl⟩
abbrev main_v8 : Ref sig .tc := ⟨.hbm, 22, rfl⟩
abbrev main_v9_0 : Ref sig .tc := ⟨.hbm, 23, rfl⟩
abbrev main_v9_1 : Ref sig .tc := ⟨.hbm, 24, rfl⟩
abbrev main_v9_2 : Ref sig .tc := ⟨.hbm, 25, rfl⟩
abbrev main_v9_3 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v1_scv : Ref sig .scVector := ⟨.hbm, 13, rfl⟩
abbrev main_v3_scv : Ref sig .scVector := ⟨.hbm, 15, rfl⟩
abbrev main_v5_scv : Ref sig .scVector := ⟨.hbm, 17, rfl⟩
abbrev main_v6_scv : Ref sig .scVector := ⟨.hbm, 18, rfl⟩
abbrev main_v7_scv : Ref sig .scVector := ⟨.hbm, 19, rfl⟩
abbrev main_arg3_scv : Ref sig .scVector := ⟨.hbm, 3, rfl⟩
abbrev main_arg4_scv : Ref sig .scVector := ⟨.hbm, 4, rfl⟩
abbrev main_v9_0_scv : Ref sig .scVector := ⟨.hbm, 23, rfl⟩
abbrev main_v9_1_scv : Ref sig .scVector := ⟨.hbm, 24, rfl⟩
abbrev main_v9_2_scv : Ref sig .scVector := ⟨.hbm, 25, rfl⟩
abbrev main_v9_3_scv : Ref sig .scVector := ⟨.hbm, 26, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc1_stg8_0 : Ref sig .tc := ⟨.vmem, 12, rfl⟩
abbrev cc1_stg9_0 : Ref sig .tc := ⟨.vmem, 13, rfl⟩
abbrev cc1_stg10_0 : Ref sig .tc := ⟨.vmem, 14, rfl⟩
abbrev cc1_stg11_0 : Ref sig .tc := ⟨.vmem, 15, rfl⟩
abbrev cc1_stg11_1 : Ref sig .tc := ⟨.vmem, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev cc1_sem11_1 : DmaSem sig := 27
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_5 : BitVec 32 := 0#32
  ![v2.toNat, 0]
@[reducible] def k0_t1_loop : Scf.Loop 32 :=
  let c0_i32_26 : BitVec 32 := 0#32
  let c32_i32 : BitVec 32 := 32#32
  let v27 : BitVec 32 := Scalar.addi c0_i32_26 c32_i32
  let c1_i32 : BitVec 32 := 1#32
  ⟨c0_i32_26, v27, c1_i32⟩
def k0_off3 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v75 : Index := Scalar.indexCast arg27
  let c0 : Index := 0#32
  ![v75.toNat, 0]
def k0_off4 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v77 : Index := Scalar.indexCast arg27
  let c16 : Index := 16#32
  ![v77.toNat, 16]
def k0_off5 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v79 : Index := Scalar.indexCast arg27
  let c32 : Index := 32#32
  ![v79.toNat, 32]
def k0_off6 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v81 : Index := Scalar.indexCast arg27
  let c48 : Index := 48#32
  ![v81.toNat, 48]
def k0_off7 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v83 : Index := Scalar.indexCast arg27
  let c64 : Index := 64#32
  ![v83.toNat, 64]
def k0_off8 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v85 : Index := Scalar.indexCast arg27
  let c80 : Index := 80#32
  ![v85.toNat, 80]
def k0_off9 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v87 : Index := Scalar.indexCast arg27
  let c96 : Index := 96#32
  ![v87.toNat, 96]
def k0_off10 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v89 : Index := Scalar.indexCast arg27
  let c112 : Index := 112#32
  ![v89.toNat, 112]
def k0_off11 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v91 : Index := Scalar.indexCast arg27
  let c128 : Index := 128#32
  ![v91.toNat, 128]
def k0_off12 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v93 : Index := Scalar.indexCast arg27
  let c144 : Index := 144#32
  ![v93.toNat, 144]
def k0_off13 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v95 : Index := Scalar.indexCast arg27
  let c160 : Index := 160#32
  ![v95.toNat, 160]
def k0_off14 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v97 : Index := Scalar.indexCast arg27
  let c176 : Index := 176#32
  ![v97.toNat, 176]
def k0_off15 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v99 : Index := Scalar.indexCast arg27
  let c192 : Index := 192#32
  ![v99.toNat, 192]
def k0_off16 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v101 : Index := Scalar.indexCast arg27
  let c208 : Index := 208#32
  ![v101.toNat, 208]
def k0_off17 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v103 : Index := Scalar.indexCast arg27
  let c224 : Index := 224#32
  ![v103.toNat, 224]
def k0_off18 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v105 : Index := Scalar.indexCast arg27
  let c240 : Index := 240#32
  ![v105.toNat, 240]
def k0_off19 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v107 : Index := Scalar.indexCast arg27
  let c256 : Index := 256#32
  ![v107.toNat, 256]
def k0_off20 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v109 : Index := Scalar.indexCast arg27
  let c272 : Index := 272#32
  ![v109.toNat, 272]
def k0_off21 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v111 : Index := Scalar.indexCast arg27
  let c288 : Index := 288#32
  ![v111.toNat, 288]
def k0_off22 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v113 : Index := Scalar.indexCast arg27
  let c304 : Index := 304#32
  ![v113.toNat, 304]
def k0_off23 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v115 : Index := Scalar.indexCast arg27
  let c320 : Index := 320#32
  ![v115.toNat, 320]
def k0_off24 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v117 : Index := Scalar.indexCast arg27
  let c336 : Index := 336#32
  ![v117.toNat, 336]
def k0_off25 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v119 : Index := Scalar.indexCast arg27
  let c352 : Index := 352#32
  ![v119.toNat, 352]
def k0_off26 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v121 : Index := Scalar.indexCast arg27
  let c368 : Index := 368#32
  ![v121.toNat, 368]
def k0_off27 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v123 : Index := Scalar.indexCast arg27
  let c384 : Index := 384#32
  ![v123.toNat, 384]
def k0_off28 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v125 : Index := Scalar.indexCast arg27
  let c400 : Index := 400#32
  ![v125.toNat, 400]
def k0_off29 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v127 : Index := Scalar.indexCast arg27
  let c416 : Index := 416#32
  ![v127.toNat, 416]
def k0_off30 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v129 : Index := Scalar.indexCast arg27
  let c432 : Index := 432#32
  ![v129.toNat, 432]
def k0_off31 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v131 : Index := Scalar.indexCast arg27
  let c448 : Index := 448#32
  ![v131.toNat, 448]
def k0_off32 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v133 : Index := Scalar.indexCast arg27
  let c464 : Index := 464#32
  ![v133.toNat, 464]
def k0_off33 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v135 : Index := Scalar.indexCast arg27
  let c480 : Index := 480#32
  ![v135.toNat, 480]
def k0_off34 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v137 : Index := Scalar.indexCast arg27
  let c496 : Index := 496#32
  ![v137.toNat, 496]
def k0_off35 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v139 : Index := Scalar.indexCast arg27
  let c512 : Index := 512#32
  ![v139.toNat, 512]
def k0_off36 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v141 : Index := Scalar.indexCast arg27
  let c528 : Index := 528#32
  ![v141.toNat, 528]
def k0_off37 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v143 : Index := Scalar.indexCast arg27
  let c544 : Index := 544#32
  ![v143.toNat, 544]
def k0_off38 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v145 : Index := Scalar.indexCast arg27
  let c560 : Index := 560#32
  ![v145.toNat, 560]
def k0_off39 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v147 : Index := Scalar.indexCast arg27
  let c576 : Index := 576#32
  ![v147.toNat, 576]
def k0_off40 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v149 : Index := Scalar.indexCast arg27
  let c592 : Index := 592#32
  ![v149.toNat, 592]
def k0_off41 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v151 : Index := Scalar.indexCast arg27
  let c608 : Index := 608#32
  ![v151.toNat, 608]
def k0_off42 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v153 : Index := Scalar.indexCast arg27
  let c624 : Index := 624#32
  ![v153.toNat, 624]
def k0_off43 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v155 : Index := Scalar.indexCast arg27
  let c640 : Index := 640#32
  ![v155.toNat, 640]
def k0_off44 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v157 : Index := Scalar.indexCast arg27
  let c656 : Index := 656#32
  ![v157.toNat, 656]
def k0_off45 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v159 : Index := Scalar.indexCast arg27
  let c672 : Index := 672#32
  ![v159.toNat, 672]
def k0_off46 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v161 : Index := Scalar.indexCast arg27
  let c688 : Index := 688#32
  ![v161.toNat, 688]
def k0_off47 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v163 : Index := Scalar.indexCast arg27
  let c704 : Index := 704#32
  ![v163.toNat, 704]
def k0_off48 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v165 : Index := Scalar.indexCast arg27
  let c720 : Index := 720#32
  ![v165.toNat, 720]
def k0_off49 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v167 : Index := Scalar.indexCast arg27
  let c736 : Index := 736#32
  ![v167.toNat, 736]
def k0_off50 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v169 : Index := Scalar.indexCast arg27
  let c752 : Index := 752#32
  ![v169.toNat, 752]
def k0_off51 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v171 : Index := Scalar.indexCast arg27
  let c768 : Index := 768#32
  ![v171.toNat, 768]
def k0_off52 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v173 : Index := Scalar.indexCast arg27
  let c784 : Index := 784#32
  ![v173.toNat, 784]
def k0_off53 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v175 : Index := Scalar.indexCast arg27
  let c800 : Index := 800#32
  ![v175.toNat, 800]
def k0_off54 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v177 : Index := Scalar.indexCast arg27
  let c816 : Index := 816#32
  ![v177.toNat, 816]
def k0_off55 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v179 : Index := Scalar.indexCast arg27
  let c832 : Index := 832#32
  ![v179.toNat, 832]
def k0_off56 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v181 : Index := Scalar.indexCast arg27
  let c848 : Index := 848#32
  ![v181.toNat, 848]
def k0_off57 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v183 : Index := Scalar.indexCast arg27
  let c864 : Index := 864#32
  ![v183.toNat, 864]
def k0_off58 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v185 : Index := Scalar.indexCast arg27
  let c880 : Index := 880#32
  ![v185.toNat, 880]
def k0_off59 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v187 : Index := Scalar.indexCast arg27
  let c896 : Index := 896#32
  ![v187.toNat, 896]
def k0_off60 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v189 : Index := Scalar.indexCast arg27
  let c912 : Index := 912#32
  ![v189.toNat, 912]
def k0_off61 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v191 : Index := Scalar.indexCast arg27
  let c928 : Index := 928#32
  ![v191.toNat, 928]
def k0_off62 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v193 : Index := Scalar.indexCast arg27
  let c944 : Index := 944#32
  ![v193.toNat, 944]
def k0_off63 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v195 : Index := Scalar.indexCast arg27
  let c960 : Index := 960#32
  ![v195.toNat, 960]
def k0_off64 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v197 : Index := Scalar.indexCast arg27
  let c976 : Index := 976#32
  ![v197.toNat, 976]
def k0_off65 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v199 : Index := Scalar.indexCast arg27
  let c992 : Index := 992#32
  ![v199.toNat, 992]
def k0_off66 (k0_t1 : Fin k0_t1_loop.trips) : Fin 2 → Nat :=
  let c0_i32_26 : BitVec 32 := 0#32
  let c1_i32 : BitVec 32 := 1#32
  let arg27 : BitVec 32 := Scf.iv c0_i32_26 c1_i32 k0_t1
  let v201 : Index := Scalar.indexCast arg27
  let c1008 : Index := 1008#32
  ![v201.toNat, 1008]
@[reducible] def k0_t2_loop : Scf.Loop 32 :=
  let c0_i32_29 : BitVec 32 := 0#32
  let c32_i32_30 : BitVec 32 := 32#32
  let v29 : BitVec 32 := Scalar.addi c0_i32_29 c32_i32_30
  let c1_i32_31 : BitVec 32 := 1#32
  ⟨c0_i32_29, v29, c1_i32_31⟩
def k0_off67 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v75 : Index := Scalar.indexCast arg27
  let c0 : Index := 0#32
  ![v75.toNat, 0]
def k0_off68 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v77 : Index := Scalar.indexCast arg27
  let c16 : Index := 16#32
  ![v77.toNat, 16]
def k0_off69 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v79 : Index := Scalar.indexCast arg27
  let c32 : Index := 32#32
  ![v79.toNat, 32]
def k0_off70 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v81 : Index := Scalar.indexCast arg27
  let c48 : Index := 48#32
  ![v81.toNat, 48]
def k0_off71 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v83 : Index := Scalar.indexCast arg27
  let c64 : Index := 64#32
  ![v83.toNat, 64]
def k0_off72 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v85 : Index := Scalar.indexCast arg27
  let c80 : Index := 80#32
  ![v85.toNat, 80]
def k0_off73 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v87 : Index := Scalar.indexCast arg27
  let c96 : Index := 96#32
  ![v87.toNat, 96]
def k0_off74 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v89 : Index := Scalar.indexCast arg27
  let c112 : Index := 112#32
  ![v89.toNat, 112]
def k0_off75 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v91 : Index := Scalar.indexCast arg27
  let c128 : Index := 128#32
  ![v91.toNat, 128]
def k0_off76 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v93 : Index := Scalar.indexCast arg27
  let c144 : Index := 144#32
  ![v93.toNat, 144]
def k0_off77 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v95 : Index := Scalar.indexCast arg27
  let c160 : Index := 160#32
  ![v95.toNat, 160]
def k0_off78 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v97 : Index := Scalar.indexCast arg27
  let c176 : Index := 176#32
  ![v97.toNat, 176]
def k0_off79 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v99 : Index := Scalar.indexCast arg27
  let c192 : Index := 192#32
  ![v99.toNat, 192]
def k0_off80 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v101 : Index := Scalar.indexCast arg27
  let c208 : Index := 208#32
  ![v101.toNat, 208]
def k0_off81 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v103 : Index := Scalar.indexCast arg27
  let c224 : Index := 224#32
  ![v103.toNat, 224]
def k0_off82 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v105 : Index := Scalar.indexCast arg27
  let c240 : Index := 240#32
  ![v105.toNat, 240]
def k0_off83 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v107 : Index := Scalar.indexCast arg27
  let c256 : Index := 256#32
  ![v107.toNat, 256]
def k0_off84 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v109 : Index := Scalar.indexCast arg27
  let c272 : Index := 272#32
  ![v109.toNat, 272]
def k0_off85 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v111 : Index := Scalar.indexCast arg27
  let c288 : Index := 288#32
  ![v111.toNat, 288]
def k0_off86 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v113 : Index := Scalar.indexCast arg27
  let c304 : Index := 304#32
  ![v113.toNat, 304]
def k0_off87 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v115 : Index := Scalar.indexCast arg27
  let c320 : Index := 320#32
  ![v115.toNat, 320]
def k0_off88 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v117 : Index := Scalar.indexCast arg27
  let c336 : Index := 336#32
  ![v117.toNat, 336]
def k0_off89 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v119 : Index := Scalar.indexCast arg27
  let c352 : Index := 352#32
  ![v119.toNat, 352]
def k0_off90 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v121 : Index := Scalar.indexCast arg27
  let c368 : Index := 368#32
  ![v121.toNat, 368]
def k0_off91 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v123 : Index := Scalar.indexCast arg27
  let c384 : Index := 384#32
  ![v123.toNat, 384]
def k0_off92 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v125 : Index := Scalar.indexCast arg27
  let c400 : Index := 400#32
  ![v125.toNat, 400]
def k0_off93 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v127 : Index := Scalar.indexCast arg27
  let c416 : Index := 416#32
  ![v127.toNat, 416]
def k0_off94 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v129 : Index := Scalar.indexCast arg27
  let c432 : Index := 432#32
  ![v129.toNat, 432]
def k0_off95 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v131 : Index := Scalar.indexCast arg27
  let c448 : Index := 448#32
  ![v131.toNat, 448]
def k0_off96 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v133 : Index := Scalar.indexCast arg27
  let c464 : Index := 464#32
  ![v133.toNat, 464]
def k0_off97 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v135 : Index := Scalar.indexCast arg27
  let c480 : Index := 480#32
  ![v135.toNat, 480]
def k0_off98 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v137 : Index := Scalar.indexCast arg27
  let c496 : Index := 496#32
  ![v137.toNat, 496]
def k0_off99 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v139 : Index := Scalar.indexCast arg27
  let c512 : Index := 512#32
  ![v139.toNat, 512]
def k0_off100 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v141 : Index := Scalar.indexCast arg27
  let c528 : Index := 528#32
  ![v141.toNat, 528]
def k0_off101 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v143 : Index := Scalar.indexCast arg27
  let c544 : Index := 544#32
  ![v143.toNat, 544]
def k0_off102 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v145 : Index := Scalar.indexCast arg27
  let c560 : Index := 560#32
  ![v145.toNat, 560]
def k0_off103 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v147 : Index := Scalar.indexCast arg27
  let c576 : Index := 576#32
  ![v147.toNat, 576]
def k0_off104 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v149 : Index := Scalar.indexCast arg27
  let c592 : Index := 592#32
  ![v149.toNat, 592]
def k0_off105 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v151 : Index := Scalar.indexCast arg27
  let c608 : Index := 608#32
  ![v151.toNat, 608]
def k0_off106 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v153 : Index := Scalar.indexCast arg27
  let c624 : Index := 624#32
  ![v153.toNat, 624]
def k0_off107 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v155 : Index := Scalar.indexCast arg27
  let c640 : Index := 640#32
  ![v155.toNat, 640]
def k0_off108 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v157 : Index := Scalar.indexCast arg27
  let c656 : Index := 656#32
  ![v157.toNat, 656]
def k0_off109 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v159 : Index := Scalar.indexCast arg27
  let c672 : Index := 672#32
  ![v159.toNat, 672]
def k0_off110 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v161 : Index := Scalar.indexCast arg27
  let c688 : Index := 688#32
  ![v161.toNat, 688]
def k0_off111 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v163 : Index := Scalar.indexCast arg27
  let c704 : Index := 704#32
  ![v163.toNat, 704]
def k0_off112 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v165 : Index := Scalar.indexCast arg27
  let c720 : Index := 720#32
  ![v165.toNat, 720]
def k0_off113 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v167 : Index := Scalar.indexCast arg27
  let c736 : Index := 736#32
  ![v167.toNat, 736]
def k0_off114 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v169 : Index := Scalar.indexCast arg27
  let c752 : Index := 752#32
  ![v169.toNat, 752]
def k0_off115 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v171 : Index := Scalar.indexCast arg27
  let c768 : Index := 768#32
  ![v171.toNat, 768]
def k0_off116 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v173 : Index := Scalar.indexCast arg27
  let c784 : Index := 784#32
  ![v173.toNat, 784]
def k0_off117 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v175 : Index := Scalar.indexCast arg27
  let c800 : Index := 800#32
  ![v175.toNat, 800]
def k0_off118 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v177 : Index := Scalar.indexCast arg27
  let c816 : Index := 816#32
  ![v177.toNat, 816]
def k0_off119 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v179 : Index := Scalar.indexCast arg27
  let c832 : Index := 832#32
  ![v179.toNat, 832]
def k0_off120 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v181 : Index := Scalar.indexCast arg27
  let c848 : Index := 848#32
  ![v181.toNat, 848]
def k0_off121 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v183 : Index := Scalar.indexCast arg27
  let c864 : Index := 864#32
  ![v183.toNat, 864]
def k0_off122 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v185 : Index := Scalar.indexCast arg27
  let c880 : Index := 880#32
  ![v185.toNat, 880]
def k0_off123 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v187 : Index := Scalar.indexCast arg27
  let c896 : Index := 896#32
  ![v187.toNat, 896]
def k0_off124 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v189 : Index := Scalar.indexCast arg27
  let c912 : Index := 912#32
  ![v189.toNat, 912]
def k0_off125 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v191 : Index := Scalar.indexCast arg27
  let c928 : Index := 928#32
  ![v191.toNat, 928]
def k0_off126 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v193 : Index := Scalar.indexCast arg27
  let c944 : Index := 944#32
  ![v193.toNat, 944]
def k0_off127 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v195 : Index := Scalar.indexCast arg27
  let c960 : Index := 960#32
  ![v195.toNat, 960]
def k0_off128 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v197 : Index := Scalar.indexCast arg27
  let c976 : Index := 976#32
  ![v197.toNat, 976]
def k0_off129 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v199 : Index := Scalar.indexCast arg27
  let c992 : Index := 992#32
  ![v199.toNat, 992]
def k0_off130 (k0_t2 : Fin k0_t2_loop.trips) : Fin 2 → Nat :=
  let c0_i32_29 : BitVec 32 := 0#32
  let c1_i32_31 : BitVec 32 := 1#32
  let arg27 : BitVec 32 := Scf.iv c0_i32_29 c1_i32_31 k0_t2
  let v201 : Index := Scalar.indexCast arg27
  let c1008 : Index := 1008#32
  ![v201.toNat, 1008]
def k0_off131 (i : grid0.Coords) : Fin 2 → Nat :=
  let c0_i32_110_r3 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![0, v2.toNat]
@[reducible] def k0_t3_loop : Scf.Loop 32 :=
  let c0_i32_34 : BitVec 32 := 0#32
  let c50_i32 : BitVec 32 := 50#32
  let v31 : BitVec 32 := Scalar.addi c0_i32_34 c50_i32
  let c1_i32_35 : BitVec 32 := 1#32
  ⟨c0_i32_34, v31, c1_i32_35⟩
def k0_off132 (k0_t3 : Fin k0_t3_loop.trips) : Fin 2 → Nat :=
  let c0_i32_34 : BitVec 32 := 0#32
  let c1_i32_35 : BitVec 32 := 1#32
  let arg27 : BitVec 32 := Scf.iv c0_i32_34 c1_i32_35 k0_t3
  let v75 : Index := Scalar.indexCast arg27
  let c0 : Index := 0#32
  ![v75.toNat, 0]

def k0_chk1 (v76 : IVec S16 32) (v78 : IVec S16 32) : Prop :=
  (∀ a x, ((![v78, v76] : Fin 2 → IVec S16 32) a x).toNat < S32x1024.size a)
theorem k0_idx1_inb : ∀ (v76 : IVec S16 32) (v78 : IVec S16 32) (k0_hw1 : k0_chk1 v76 v78), ∀ a x, ((![v78, v76] : Fin 2 → IVec S16 32) a x).toNat < S32x1024.size a := fun v76 v78 k0_hw1 => k0_hw1
def k0_off133 (k0_t3 : Fin k0_t3_loop.trips) : Fin 2 → Nat :=
  let c0_i32_34 : BitVec 32 := 0#32
  let c1_i32_35 : BitVec 32 := 1#32
  let arg27 : BitVec 32 := Scf.iv c0_i32_34 c1_i32_35 k0_t3
  let v79 : Index := Scalar.indexCast arg27
  let c16 : Index := 16#32
  ![v79.toNat, 16]

def k0_chk2 (v80 : IVec S16 32) (v82 : IVec S16 32) : Prop :=
  (∀ a x, ((![v82, v80] : Fin 2 → IVec S16 32) a x).toNat < S32x1024.size a)
theorem k0_idx2_inb : ∀ (v80 : IVec S16 32) (v82 : IVec S16 32) (k0_hw2 : k0_chk2 v80 v82), ∀ a x, ((![v82, v80] : Fin 2 → IVec S16 32) a x).toNat < S32x1024.size a := fun v80 v82 k0_hw2 => k0_hw2
@[reducible] def k0_t4_loop : Scf.Loop 32 :=
  let c0_i32_38 : BitVec 32 := 0#32
  let c50_i32_39 : BitVec 32 := 50#32
  let v33 : BitVec 32 := Scalar.addi c0_i32_38 c50_i32_39
  let c1_i32_40 : BitVec 32 := 1#32
  ⟨c0_i32_38, v33, c1_i32_40⟩
def k0_off134 (k0_t4 : Fin k0_t4_loop.trips) : Fin 2 → Nat :=
  let c0_i32_38 : BitVec 32 := 0#32
  let c1_i32_40 : BitVec 32 := 1#32
  let arg27 : BitVec 32 := Scf.iv c0_i32_38 c1_i32_40 k0_t4
  let v75 : Index := Scalar.indexCast arg27
  let c0 : Index := 0#32
  ![v75.toNat, 0]

def k0_chk3 (v76 : IVec S16 32) (v78 : IVec S16 32) : Prop :=
  (∀ a x, ((![v78, v76] : Fin 2 → IVec S16 32) a x).toNat < S32x1024.size a)
theorem k0_idx3_inb : ∀ (v76 : IVec S16 32) (v78 : IVec S16 32) (k0_hw3 : k0_chk3 v76 v78), ∀ a x, ((![v78, v76] : Fin 2 → IVec S16 32) a x).toNat < S32x1024.size a := fun v76 v78 k0_hw3 => k0_hw3
def k0_off135 (k0_t4 : Fin k0_t4_loop.trips) : Fin 2 → Nat :=
  let c0_i32_38 : BitVec 32 := 0#32
  let c1_i32_40 : BitVec 32 := 1#32
  let arg27 : BitVec 32 := Scf.iv c0_i32_38 c1_i32_40 k0_t4
  let v79 : Index := Scalar.indexCast arg27
  let c16 : Index := 16#32
  ![v79.toNat, 16]

def k0_chk4 (v80 : IVec S16 32) (v82 : IVec S16 32) : Prop :=
  (∀ a x, ((![v82, v80] : Fin 2 → IVec S16 32) a x).toNat < S32x1024.size a)
theorem k0_idx4_inb : ∀ (v80 : IVec S16 32) (v82 : IVec S16 32) (k0_hw4 : k0_chk4 v80 v82), ∀ a x, ((![v82, v80] : Fin 2 → IVec S16 32) a x).toNat < S32x1024.size a := fun v80 v82 k0_hw4 => k0_hw4
def k0_off136 (i : grid0.Coords) (c0_i32_42 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v35 : BitVec 32 := Scalar.addi v2 c0_i32_42
  let c0_i32_43 : BitVec 32 := 0#32
  ![v35.toNat, 0]
@[reducible] def k0_t5_loop : Scf.Loop 32 :=
  let c0_i32_46 : BitVec 32 := 0#32
  let c50_i32_47 : BitVec 32 := 50#32
  let v38 : BitVec 32 := Scalar.addi c0_i32_46 c50_i32_47
  let c1_i32_48 : BitVec 32 := 1#32
  ⟨c0_i32_46, v38, c1_i32_48⟩
def k0_off137 (k0_t5 : Fin k0_t5_loop.trips) : Fin 2 → Nat :=
  let c0_i32_46 : BitVec 32 := 0#32
  let c1_i32_48 : BitVec 32 := 1#32
  let arg27 : BitVec 32 := Scf.iv c0_i32_46 c1_i32_48 k0_t5
  let v75 : Index := Scalar.indexCast arg27
  let c32 : Index := 32#32
  ![v75.toNat, 32]

def k0_chk5 (v76 : IVec S16 32) (v78 : IVec S16 32) : Prop :=
  (∀ a x, ((![v78, v76] : Fin 2 → IVec S16 32) a x).toNat < S32x1024.size a)
theorem k0_idx5_inb : ∀ (v76 : IVec S16 32) (v78 : IVec S16 32) (k0_hw5 : k0_chk5 v76 v78), ∀ a x, ((![v78, v76] : Fin 2 → IVec S16 32) a x).toNat < S32x1024.size a := fun v76 v78 k0_hw5 => k0_hw5
def k0_off138 (k0_t5 : Fin k0_t5_loop.trips) : Fin 2 → Nat :=
  let c0_i32_46 : BitVec 32 := 0#32
  let c1_i32_48 : BitVec 32 := 1#32
  let arg27 : BitVec 32 := Scf.iv c0_i32_46 c1_i32_48 k0_t5
  let v79 : Index := Scalar.indexCast arg27
  let c48 : Index := 48#32
  ![v79.toNat, 48]

def k0_chk6 (v80 : IVec S16 32) (v82 : IVec S16 32) : Prop :=
  (∀ a x, ((![v82, v80] : Fin 2 → IVec S16 32) a x).toNat < S32x1024.size a)
theorem k0_idx6_inb : ∀ (v80 : IVec S16 32) (v82 : IVec S16 32) (k0_hw6 : k0_chk6 v80 v82), ∀ a x, ((![v82, v80] : Fin 2 → IVec S16 32) a x).toNat < S32x1024.size a := fun v80 v82 k0_hw6 => k0_hw6
@[reducible] def k0_t6_loop : Scf.Loop 32 :=
  let c0_i32_51 : BitVec 32 := 0#32
  let c50_i32_52 : BitVec 32 := 50#32
  let v40 : BitVec 32 := Scalar.addi c0_i32_51 c50_i32_52
  let c1_i32_53 : BitVec 32 := 1#32
  ⟨c0_i32_51, v40, c1_i32_53⟩
def k0_off139 (k0_t6 : Fin k0_t6_loop.trips) : Fin 2 → Nat :=
  let c0_i32_51 : BitVec 32 := 0#32
  let c1_i32_53 : BitVec 32 := 1#32
  let arg27 : BitVec 32 := Scf.iv c0_i32_51 c1_i32_53 k0_t6
  let v75 : Index := Scalar.indexCast arg27
  let c32 : Index := 32#32
  ![v75.toNat, 32]

def k0_chk7 (v76 : IVec S16 32) (v78 : IVec S16 32) : Prop :=
  (∀ a x, ((![v78, v76] : Fin 2 → IVec S16 32) a x).toNat < S32x1024.size a)
theorem k0_idx7_inb : ∀ (v76 : IVec S16 32) (v78 : IVec S16 32) (k0_hw7 : k0_chk7 v76 v78), ∀ a x, ((![v78, v76] : Fin 2 → IVec S16 32) a x).toNat < S32x1024.size a := fun v76 v78 k0_hw7 => k0_hw7
def k0_off140 (k0_t6 : Fin k0_t6_loop.trips) : Fin 2 → Nat :=
  let c0_i32_51 : BitVec 32 := 0#32
  let c1_i32_53 : BitVec 32 := 1#32
  let arg27 : BitVec 32 := Scf.iv c0_i32_51 c1_i32_53 k0_t6
  let v79 : Index := Scalar.indexCast arg27
  let c48 : Index := 48#32
  ![v79.toNat, 48]

def k0_chk8 (v80 : IVec S16 32) (v82 : IVec S16 32) : Prop :=
  (∀ a x, ((![v82, v80] : Fin 2 → IVec S16 32) a x).toNat < S32x1024.size a)
theorem k0_idx8_inb : ∀ (v80 : IVec S16 32) (v82 : IVec S16 32) (k0_hw8 : k0_chk8 v80 v82), ∀ a x, ((![v82, v80] : Fin 2 → IVec S16 32) a x).toNat < S32x1024.size a := fun v80 v82 k0_hw8 => k0_hw8
@[reducible] def k0_t7_loop : Scf.Loop 32 :=
  let c0_i32_61 : BitVec 32 := 0#32
  let c50_i32_62 : BitVec 32 := 50#32
  let v47 : BitVec 32 := Scalar.addi c0_i32_61 c50_i32_62
  let c1_i32_63 : BitVec 32 := 1#32
  ⟨c0_i32_61, v47, c1_i32_63⟩
def k0_off141 (k0_t7 : Fin k0_t7_loop.trips) : Fin 2 → Nat :=
  let c0_i32_61 : BitVec 32 := 0#32
  let c1_i32_63 : BitVec 32 := 1#32
  let arg27 : BitVec 32 := Scf.iv c0_i32_61 c1_i32_63 k0_t7
  let v75 : Index := Scalar.indexCast arg27
  let c0 : Index := 0#32
  ![v75.toNat, 0]

def k0_chk9 (v76 : IVec S16 32) (v78 : IVec S16 32) : Prop :=
  (∀ a x, ((![v78, v76] : Fin 2 → IVec S16 32) a x).toNat < S32x1024.size a)
theorem k0_idx9_inb : ∀ (v76 : IVec S16 32) (v78 : IVec S16 32) (k0_hw9 : k0_chk9 v76 v78), ∀ a x, ((![v78, v76] : Fin 2 → IVec S16 32) a x).toNat < S32x1024.size a := fun v76 v78 k0_hw9 => k0_hw9
def k0_off142 (k0_t7 : Fin k0_t7_loop.trips) : Fin 2 → Nat :=
  let c0_i32_61 : BitVec 32 := 0#32
  let c1_i32_63 : BitVec 32 := 1#32
  let arg27 : BitVec 32 := Scf.iv c0_i32_61 c1_i32_63 k0_t7
  let v79 : Index := Scalar.indexCast arg27
  let c16 : Index := 16#32
  ![v79.toNat, 16]

def k0_chk10 (v80 : IVec S16 32) (v82 : IVec S16 32) : Prop :=
  (∀ a x, ((![v82, v80] : Fin 2 → IVec S16 32) a x).toNat < S32x1024.size a)
theorem k0_idx10_inb : ∀ (v80 : IVec S16 32) (v82 : IVec S16 32) (k0_hw10 : k0_chk10 v80 v82), ∀ a x, ((![v82, v80] : Fin 2 → IVec S16 32) a x).toNat < S32x1024.size a := fun v80 v82 k0_hw10 => k0_hw10
@[reducible] def k0_t8_loop : Scf.Loop 32 :=
  let c0_i32_66 : BitVec 32 := 0#32
  let c50_i32_67 : BitVec 32 := 50#32
  let v49 : BitVec 32 := Scalar.addi c0_i32_66 c50_i32_67
  let c1_i32_68 : BitVec 32 := 1#32
  ⟨c0_i32_66, v49, c1_i32_68⟩
def k0_off143 (k0_t8 : Fin k0_t8_loop.trips) : Fin 2 → Nat :=
  let c0_i32_66 : BitVec 32 := 0#32
  let c1_i32_68 : BitVec 32 := 1#32
  let arg27 : BitVec 32 := Scf.iv c0_i32_66 c1_i32_68 k0_t8
  let v75 : Index := Scalar.indexCast arg27
  let c0 : Index := 0#32
  ![v75.toNat, 0]

def k0_chk11 (v76 : IVec S16 32) (v78 : IVec S16 32) : Prop :=
  (∀ a x, ((![v78, v76] : Fin 2 → IVec S16 32) a x).toNat < S32x1024.size a)
theorem k0_idx11_inb : ∀ (v76 : IVec S16 32) (v78 : IVec S16 32) (k0_hw11 : k0_chk11 v76 v78), ∀ a x, ((![v78, v76] : Fin 2 → IVec S16 32) a x).toNat < S32x1024.size a := fun v76 v78 k0_hw11 => k0_hw11
def k0_off144 (k0_t8 : Fin k0_t8_loop.trips) : Fin 2 → Nat :=
  let c0_i32_66 : BitVec 32 := 0#32
  let c1_i32_68 : BitVec 32 := 1#32
  let arg27 : BitVec 32 := Scf.iv c0_i32_66 c1_i32_68 k0_t8
  let v79 : Index := Scalar.indexCast arg27
  let c16 : Index := 16#32
  ![v79.toNat, 16]

def k0_chk12 (v80 : IVec S16 32) (v82 : IVec S16 32) : Prop :=
  (∀ a x, ((![v82, v80] : Fin 2 → IVec S16 32) a x).toNat < S32x1024.size a)
theorem k0_idx12_inb : ∀ (v80 : IVec S16 32) (v82 : IVec S16 32) (k0_hw12 : k0_chk12 v80 v82), ∀ a x, ((![v82, v80] : Fin 2 → IVec S16 32) a x).toNat < S32x1024.size a := fun v80 v82 k0_hw12 => k0_hw12
@[reducible] def k0_t9_loop : Scf.Loop 32 :=
  let c0_i32_71 : BitVec 32 := 0#32
  let c50_i32_72 : BitVec 32 := 50#32
  let v51 : BitVec 32 := Scalar.addi c0_i32_71 c50_i32_72
  let c1_i32_73 : BitVec 32 := 1#32
  ⟨c0_i32_71, v51, c1_i32_73⟩
def k0_off145 (k0_t9 : Fin k0_t9_loop.trips) : Fin 2 → Nat :=
  let c0_i32_71 : BitVec 32 := 0#32
  let c1_i32_73 : BitVec 32 := 1#32
  let arg27 : BitVec 32 := Scf.iv c0_i32_71 c1_i32_73 k0_t9
  let v75 : Index := Scalar.indexCast arg27
  let c64 : Index := 64#32
  ![v75.toNat, 64]

def k0_chk13 (v76 : IVec S16 32) (v78 : IVec S16 32) : Prop :=
  (∀ a x, ((![v78, v76] : Fin 2 → IVec S16 32) a x).toNat < S32x1024.size a)
theorem k0_idx13_inb : ∀ (v76 : IVec S16 32) (v78 : IVec S16 32) (k0_hw13 : k0_chk13 v76 v78), ∀ a x, ((![v78, v76] : Fin 2 → IVec S16 32) a x).toNat < S32x1024.size a := fun v76 v78 k0_hw13 => k0_hw13
def k0_off146 (k0_t9 : Fin k0_t9_loop.trips) : Fin 2 → Nat :=
  let c0_i32_71 : BitVec 32 := 0#32
  let c1_i32_73 : BitVec 32 := 1#32
  let arg27 : BitVec 32 := Scf.iv c0_i32_71 c1_i32_73 k0_t9
  let v79 : Index := Scalar.indexCast arg27
  let c80 : Index := 80#32
  ![v79.toNat, 80]

def k0_chk14 (v80 : IVec S16 32) (v82 : IVec S16 32) : Prop :=
  (∀ a x, ((![v82, v80] : Fin 2 → IVec S16 32) a x).toNat < S32x1024.size a)
theorem k0_idx14_inb : ∀ (v80 : IVec S16 32) (v82 : IVec S16 32) (k0_hw14 : k0_chk14 v80 v82), ∀ a x, ((![v82, v80] : Fin 2 → IVec S16 32) a x).toNat < S32x1024.size a := fun v80 v82 k0_hw14 => k0_hw14
@[reducible] def k0_t10_loop : Scf.Loop 32 :=
  let c0_i32_76 : BitVec 32 := 0#32
  let c50_i32_77 : BitVec 32 := 50#32
  let v53 : BitVec 32 := Scalar.addi c0_i32_76 c50_i32_77
  let c1_i32_78 : BitVec 32 := 1#32
  ⟨c0_i32_76, v53, c1_i32_78⟩
def k0_off147 (k0_t10 : Fin k0_t10_loop.trips) : Fin 2 → Nat :=
  let c0_i32_76 : BitVec 32 := 0#32
  let c1_i32_78 : BitVec 32 := 1#32
  let arg27 : BitVec 32 := Scf.iv c0_i32_76 c1_i32_78 k0_t10
  let v75 : Index := Scalar.indexCast arg27
  let c64 : Index := 64#32
  ![v75.toNat, 64]

def k0_chk15 (v76 : IVec S16 32) (v78 : IVec S16 32) : Prop :=
  (∀ a x, ((![v78, v76] : Fin 2 → IVec S16 32) a x).toNat < S32x1024.size a)
theorem k0_idx15_inb : ∀ (v76 : IVec S16 32) (v78 : IVec S16 32) (k0_hw15 : k0_chk15 v76 v78), ∀ a x, ((![v78, v76] : Fin 2 → IVec S16 32) a x).toNat < S32x1024.size a := fun v76 v78 k0_hw15 => k0_hw15
def k0_off148 (k0_t10 : Fin k0_t10_loop.trips) : Fin 2 → Nat :=
  let c0_i32_76 : BitVec 32 := 0#32
  let c1_i32_78 : BitVec 32 := 1#32
  let arg27 : BitVec 32 := Scf.iv c0_i32_76 c1_i32_78 k0_t10
  let v79 : Index := Scalar.indexCast arg27
  let c80 : Index := 80#32
  ![v79.toNat, 80]

def k0_chk16 (v80 : IVec S16 32) (v82 : IVec S16 32) : Prop :=
  (∀ a x, ((![v82, v80] : Fin 2 → IVec S16 32) a x).toNat < S32x1024.size a)
theorem k0_idx16_inb : ∀ (v80 : IVec S16 32) (v82 : IVec S16 32) (k0_hw16 : k0_chk16 v80 v82), ∀ a x, ((![v82, v80] : Fin 2 → IVec S16 32) a x).toNat < S32x1024.size a := fun v80 v82 k0_hw16 => k0_hw16
@[reducible] def k0_t11_loop : Scf.Loop 32 :=
  let c0_i32_85 : BitVec 32 := 0#32
  let c50_i32_86 : BitVec 32 := 50#32
  let v60 : BitVec 32 := Scalar.addi c0_i32_85 c50_i32_86
  let c1_i32_87 : BitVec 32 := 1#32
  ⟨c0_i32_85, v60, c1_i32_87⟩
def k0_off149 (k0_t11 : Fin k0_t11_loop.trips) : Fin 2 → Nat :=
  let c0_i32_85 : BitVec 32 := 0#32
  let c1_i32_87 : BitVec 32 := 1#32
  let arg27 : BitVec 32 := Scf.iv c0_i32_85 c1_i32_87 k0_t11
  let v75 : Index := Scalar.indexCast arg27
  let c32 : Index := 32#32
  ![v75.toNat, 32]

def k0_chk17 (v76 : IVec S16 32) (v78 : IVec S16 32) : Prop :=
  (∀ a x, ((![v78, v76] : Fin 2 → IVec S16 32) a x).toNat < S32x1024.size a)
theorem k0_idx17_inb : ∀ (v76 : IVec S16 32) (v78 : IVec S16 32) (k0_hw17 : k0_chk17 v76 v78), ∀ a x, ((![v78, v76] : Fin 2 → IVec S16 32) a x).toNat < S32x1024.size a := fun v76 v78 k0_hw17 => k0_hw17
def k0_off150 (k0_t11 : Fin k0_t11_loop.trips) : Fin 2 → Nat :=
  let c0_i32_85 : BitVec 32 := 0#32
  let c1_i32_87 : BitVec 32 := 1#32
  let arg27 : BitVec 32 := Scf.iv c0_i32_85 c1_i32_87 k0_t11
  let v79 : Index := Scalar.indexCast arg27
  let c48 : Index := 48#32
  ![v79.toNat, 48]

def k0_chk18 (v80 : IVec S16 32) (v82 : IVec S16 32) : Prop :=
  (∀ a x, ((![v82, v80] : Fin 2 → IVec S16 32) a x).toNat < S32x1024.size a)
theorem k0_idx18_inb : ∀ (v80 : IVec S16 32) (v82 : IVec S16 32) (k0_hw18 : k0_chk18 v80 v82), ∀ a x, ((![v82, v80] : Fin 2 → IVec S16 32) a x).toNat < S32x1024.size a := fun v80 v82 k0_hw18 => k0_hw18
@[reducible] def k0_t12_loop : Scf.Loop 32 :=
  let c0_i32_90 : BitVec 32 := 0#32
  let c50_i32_91 : BitVec 32 := 50#32
  let v62 : BitVec 32 := Scalar.addi c0_i32_90 c50_i32_91
  let c1_i32_92 : BitVec 32 := 1#32
  ⟨c0_i32_90, v62, c1_i32_92⟩
def k0_off151 (k0_t12 : Fin k0_t12_loop.trips) : Fin 2 → Nat :=
  let c0_i32_90 : BitVec 32 := 0#32
  let c1_i32_92 : BitVec 32 := 1#32
  let arg27 : BitVec 32 := Scf.iv c0_i32_90 c1_i32_92 k0_t12
  let v75 : Index := Scalar.indexCast arg27
  let c32 : Index := 32#32
  ![v75.toNat, 32]

def k0_chk19 (v76 : IVec S16 32) (v78 : IVec S16 32) : Prop :=
  (∀ a x, ((![v78, v76] : Fin 2 → IVec S16 32) a x).toNat < S32x1024.size a)
theorem k0_idx19_inb : ∀ (v76 : IVec S16 32) (v78 : IVec S16 32) (k0_hw19 : k0_chk19 v76 v78), ∀ a x, ((![v78, v76] : Fin 2 → IVec S16 32) a x).toNat < S32x1024.size a := fun v76 v78 k0_hw19 => k0_hw19
def k0_off152 (k0_t12 : Fin k0_t12_loop.trips) : Fin 2 → Nat :=
  let c0_i32_90 : BitVec 32 := 0#32
  let c1_i32_92 : BitVec 32 := 1#32
  let arg27 : BitVec 32 := Scf.iv c0_i32_90 c1_i32_92 k0_t12
  let v79 : Index := Scalar.indexCast arg27
  let c48 : Index := 48#32
  ![v79.toNat, 48]

def k0_chk20 (v80 : IVec S16 32) (v82 : IVec S16 32) : Prop :=
  (∀ a x, ((![v82, v80] : Fin 2 → IVec S16 32) a x).toNat < S32x1024.size a)
theorem k0_idx20_inb : ∀ (v80 : IVec S16 32) (v82 : IVec S16 32) (k0_hw20 : k0_chk20 v80 v82), ∀ a x, ((![v82, v80] : Fin 2 → IVec S16 32) a x).toNat < S32x1024.size a := fun v80 v82 k0_hw20 => k0_hw20
@[reducible] def k0_t13_loop : Scf.Loop 32 :=
  let c0_i32_95 : BitVec 32 := 0#32
  let c50_i32_96 : BitVec 32 := 50#32
  let v64 : BitVec 32 := Scalar.addi c0_i32_95 c50_i32_96
  let c1_i32_97 : BitVec 32 := 1#32
  ⟨c0_i32_95, v64, c1_i32_97⟩
def k0_off153 (k0_t13 : Fin k0_t13_loop.trips) : Fin 2 → Nat :=
  let c0_i32_95 : BitVec 32 := 0#32
  let c1_i32_97 : BitVec 32 := 1#32
  let arg27 : BitVec 32 := Scf.iv c0_i32_95 c1_i32_97 k0_t13
  let v75 : Index := Scalar.indexCast arg27
  let c96 : Index := 96#32
  ![v75.toNat, 96]

def k0_chk21 (v76 : IVec S16 32) (v78 : IVec S16 32) : Prop :=
  (∀ a x, ((![v78, v76] : Fin 2 → IVec S16 32) a x).toNat < S32x1024.size a)
theorem k0_idx21_inb : ∀ (v76 : IVec S16 32) (v78 : IVec S16 32) (k0_hw21 : k0_chk21 v76 v78), ∀ a x, ((![v78, v76] : Fin 2 → IVec S16 32) a x).toNat < S32x1024.size a := fun v76 v78 k0_hw21 => k0_hw21
def k0_off154 (k0_t13 : Fin k0_t13_loop.trips) : Fin 2 → Nat :=
  let c0_i32_95 : BitVec 32 := 0#32
  let c1_i32_97 : BitVec 32 := 1#32
  let arg27 : BitVec 32 := Scf.iv c0_i32_95 c1_i32_97 k0_t13
  let v79 : Index := Scalar.indexCast arg27
  let c112 : Index := 112#32
  ![v79.toNat, 112]

def k0_chk22 (v80 : IVec S16 32) (v82 : IVec S16 32) : Prop :=
  (∀ a x, ((![v82, v80] : Fin 2 → IVec S16 32) a x).toNat < S32x1024.size a)
theorem k0_idx22_inb : ∀ (v80 : IVec S16 32) (v82 : IVec S16 32) (k0_hw22 : k0_chk22 v80 v82), ∀ a x, ((![v82, v80] : Fin 2 → IVec S16 32) a x).toNat < S32x1024.size a := fun v80 v82 k0_hw22 => k0_hw22
@[reducible] def k0_t14_loop : Scf.Loop 32 :=
  let c0_i32_100 : BitVec 32 := 0#32
  let c50_i32_101 : BitVec 32 := 50#32
  let v66 : BitVec 32 := Scalar.addi c0_i32_100 c50_i32_101
  let c1_i32_102 : BitVec 32 := 1#32
  ⟨c0_i32_100, v66, c1_i32_102⟩
def k0_off155 (k0_t14 : Fin k0_t14_loop.trips) : Fin 2 → Nat :=
  let c0_i32_100 : BitVec 32 := 0#32
  let c1_i32_102 : BitVec 32 := 1#32
  let arg27 : BitVec 32 := Scf.iv c0_i32_100 c1_i32_102 k0_t14
  let v75 : Index := Scalar.indexCast arg27
  let c96 : Index := 96#32
  ![v75.toNat, 96]

def k0_chk23 (v76 : IVec S16 32) (v78 : IVec S16 32) : Prop :=
  (∀ a x, ((![v78, v76] : Fin 2 → IVec S16 32) a x).toNat < S32x1024.size a)
theorem k0_idx23_inb : ∀ (v76 : IVec S16 32) (v78 : IVec S16 32) (k0_hw23 : k0_chk23 v76 v78), ∀ a x, ((![v78, v76] : Fin 2 → IVec S16 32) a x).toNat < S32x1024.size a := fun v76 v78 k0_hw23 => k0_hw23
def k0_off156 (k0_t14 : Fin k0_t14_loop.trips) : Fin 2 → Nat :=
  let c0_i32_100 : BitVec 32 := 0#32
  let c1_i32_102 : BitVec 32 := 1#32
  let arg27 : BitVec 32 := Scf.iv c0_i32_100 c1_i32_102 k0_t14
  let v79 : Index := Scalar.indexCast arg27
  let c112 : Index := 112#32
  ![v79.toNat, 112]

def k0_chk24 (v80 : IVec S16 32) (v82 : IVec S16 32) : Prop :=
  (∀ a x, ((![v82, v80] : Fin 2 → IVec S16 32) a x).toNat < S32x1024.size a)
theorem k0_idx24_inb : ∀ (v80 : IVec S16 32) (v82 : IVec S16 32) (k0_hw24 : k0_chk24 v80 v82), ∀ a x, ((![v82, v80] : Fin 2 → IVec S16 32) a x).toNat < S32x1024.size a := fun v80 v82 k0_hw24 => k0_hw24
abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1024x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S640x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1000x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1000x1 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1000x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x3 : Shape := ⟨2, ![4096, 3]⟩
abbrev S4096x50 : Shape := ⟨2, ![4096, 50]⟩
abbrev S100000x128 : Shape := ⟨2, ![100000, 128]⟩
abbrev S1000x128 : Shape := ⟨2, ![1000, 128]⟩
abbrev S640x1024 : Shape := ⟨2, ![640, 1024]⟩
abbrev S1024 : Shape := ⟨1, ![1024]⟩
abbrev S1024x1024 : Shape := ⟨2, ![1024, 1024]⟩
abbrev S1024x1000 : Shape := ⟨2, ![1024, 1000]⟩
abbrev S1000 : Shape := ⟨1, ![1000]⟩
abbrev S4096x1 : Shape := ⟨2, ![4096, 1]⟩
abbrev S4096 : Shape := ⟨1, ![4096]⟩
abbrev S_ : Shape := ⟨0, ![]⟩
abbrev S1 : Shape := ⟨1, ![1]⟩
abbrev S1x1 : Shape := ⟨2, ![1, 1]⟩
abbrev S4096x128 : Shape := ⟨2, ![4096, 128]⟩
abbrev S4096x50x1 : Shape := ⟨3, ![4096, 50, 1]⟩
abbrev S1x1x1 : Shape := ⟨3, ![1, 1, 1]⟩
abbrev S4096x50x128 : Shape := ⟨3, ![4096, 50, 128]⟩
abbrev S4096x640 : Shape := ⟨2, ![4096, 640]⟩
abbrev S4096x1024 : Shape := ⟨2, ![4096, 1024]⟩
abbrev S1x1024 : Shape := ⟨2, ![1, 1024]⟩
abbrev S4096x1000 : Shape := ⟨2, ![4096, 1000]⟩
abbrev S1x1000 : Shape := ⟨2, ![1, 1000]⟩

abbrev nBuf : Space → Nat
  | .hbm => 162
  | .vmem => 0
  | .smem => 0
  | _ => 0

abbrev hbmTy0_0 (i : Nat) : BufTy := match i % 128 with
  | 0 => ⟨S4096x3, .i32⟩
  | 1 => ⟨S4096x50, .i32⟩
  | 2 => ⟨S4096x50, .i32⟩
  | 3 => ⟨S100000x128, .f32⟩
  | 4 => ⟨S100000x128, .f32⟩
  | 5 => ⟨S1000x128, .f32⟩
  | 6 => ⟨S640x1024, .f32⟩
  | 7 => ⟨S1024, .f32⟩
  | 8 => ⟨S1024x1024, .f32⟩
  | 9 => ⟨S1024, .f32⟩
  | 10 => ⟨S1024x1000, .f32⟩
  | 11 => ⟨S1000, .f32⟩
  | 12 => ⟨S4096x1, .i32⟩
  | 13 => ⟨S4096, .i32⟩
  | 14 => ⟨S_, .i32⟩
  | 15 => ⟨S4096, .i32⟩
  | 16 => ⟨S4096, .i1⟩
  | 17 => ⟨S_, .i32⟩
  | 18 => ⟨S4096, .i32⟩
  | 19 => ⟨S4096, .i32⟩
  | 20 => ⟨S4096, .i32⟩
  | 21 => ⟨S4096x1, .i32⟩
  | 22 => ⟨S1, .i32⟩
  | 23 => ⟨S_, .i32⟩
  | 24 => ⟨S4096x1, .i32⟩
  | 25 => ⟨S4096x1, .i1⟩
  | 26 => ⟨S1x1, .i32⟩
  | 27 => ⟨S4096x1, .i32⟩
  | 28 => ⟨S4096x1, .i1⟩
  | 29 => ⟨S4096x1, .i1⟩
  | 30 => ⟨S_, .i1⟩
  | 31 => ⟨S4096, .i1⟩
  | 32 => ⟨S4096x128, .f32⟩
  | 33 => ⟨S4096x128, .i1⟩
  | 34 => ⟨S_, .f32⟩
  | 35 => ⟨S4096x128, .f32⟩
  | 36 => ⟨S4096x128, .f32⟩
  | 37 => ⟨S4096x1, .i32⟩
  | 38 => ⟨S4096, .i32⟩
  | 39 => ⟨S_, .i32⟩
  | 40 => ⟨S4096, .i32⟩
  | 41 => ⟨S4096, .i1⟩
  | 42 => ⟨S_, .i32⟩
  | 43 => ⟨S4096, .i32⟩
  | 44 => ⟨S4096, .i32⟩
  | 45 => ⟨S4096, .i32⟩
  | 46 => ⟨S4096x1, .i32⟩
  | 47 => ⟨S1, .i32⟩
  | 48 => ⟨S_, .i32⟩
  | 49 => ⟨S4096x1, .i32⟩
  | 50 => ⟨S4096x1, .i1⟩
  | 51 => ⟨S1x1, .i32⟩
  | 52 => ⟨S4096x1, .i32⟩
  | 53 => ⟨S4096x1, .i1⟩
  | 54 => ⟨S4096x1, .i1⟩
  | 55 => ⟨S_, .i1⟩
  | 56 => ⟨S4096, .i1⟩
  | 57 => ⟨S4096x128, .f32⟩
  | 58 => ⟨S4096x128, .i1⟩
  | 59 => ⟨S_, .f32⟩
  | 60 => ⟨S4096x128, .f32⟩
  | 61 => ⟨S4096x128, .f32⟩
  | 62 => ⟨S4096x1, .i32⟩
  | 63 => ⟨S4096, .i32⟩
  | 64 => ⟨S_, .i32⟩
  | 65 => ⟨S4096, .i32⟩
  | 66 => ⟨S4096, .i1⟩
  | 67 => ⟨S_, .i32⟩
  | 68 => ⟨S4096, .i32⟩
  | 69 => ⟨S4096, .i32⟩
  | 70 => ⟨S4096, .i32⟩
  | 71 => ⟨S4096x1, .i32⟩
  | 72 => ⟨S1, .i32⟩
  | 73 => ⟨S_, .i32⟩
  | 74 => ⟨S4096x1, .i32⟩
  | 75 => ⟨S4096x1, .i1⟩
  | 76 => ⟨S1x1, .i32⟩
  | 77 => ⟨S4096x1, .i32⟩
  | 78 => ⟨S4096x1, .i1⟩
  | 79 => ⟨S4096x1, .i1⟩
  | 80 => ⟨S_, .i1⟩
  | 81 => ⟨S4096, .i1⟩
  | 82 => ⟨S4096x128, .f32⟩
  | 83 => ⟨S4096x128, .i1⟩
  | 84 => ⟨S_, .f32⟩
  | 85 => ⟨S4096x128, .f32⟩
  | 86 => ⟨S4096x128, .f32⟩
  | 87 => ⟨S_, .i32⟩
  | 88 => ⟨S4096x50, .i32⟩
  | 89 => ⟨S4096x50, .i1⟩
  | 90 => ⟨S_, .i32⟩
  | 91 => ⟨S4096x50, .i32⟩
  | 92 => ⟨S4096x50, .i32⟩
  | 93 => ⟨S4096x50, .i32⟩
  | 94 => ⟨S4096x50x1, .i32⟩
  | 95 => ⟨S1, .i32⟩
  | 96 => ⟨S_, .i32⟩
  | 97 => ⟨S4096x50x1, .i32⟩
  | 98 => ⟨S4096x50x1, .i1⟩
  | 99 => ⟨S1x1x1, .i32⟩
  | 100 => ⟨S4096x50x1, .i32⟩
  | 101 => ⟨S4096x50x1, .i1⟩
  | 102 => ⟨S4096x50x1, .i1⟩
  | 103 => ⟨S_, .i1⟩
  | 104 => ⟨S4096x50, .i1⟩
  | 105 => ⟨S4096x50x128, .f32⟩
  | 106 => ⟨S4096x50x128, .i1⟩
  | 107 => ⟨S_, .f32⟩
  | 108 => ⟨S4096x50x128, .f32⟩
  | 109 => ⟨S4096x50x128, .f32⟩
  | 110 => ⟨S_, .f32⟩
  | 111 => ⟨S4096x128, .f32⟩
  | 112 => ⟨S_, .f32⟩
  | 113 => ⟨S4096x128, .f32⟩
  | 114 => ⟨S4096x128, .f32⟩
  | 115 => ⟨S_, .i32⟩
  | 116 => ⟨S4096x50, .i32⟩
  | 117 => ⟨S4096x50, .i1⟩
  | 118 => ⟨S_, .i32⟩
  | 119 => ⟨S4096x50, .i32⟩
  | 120 => ⟨S4096x50, .i32⟩
  | 121 => ⟨S4096x50, .i32⟩
  | 122 => ⟨S4096x50x1, .i32⟩
  | 123 => ⟨S1, .i32⟩
  | 124 => ⟨S_, .i32⟩
  | 125 => ⟨S4096x50x1, .i32⟩
  | 126 => ⟨S4096x50x1, .i1⟩
  | 127 => ⟨S1x1x1, .i32⟩
  | _ => ⟨S4096x3, .i32⟩

abbrev hbmTy0_1 (i : Nat) : BufTy := match i % 128 with
  | 0 => ⟨S4096x50x1, .i32⟩
  | 1 => ⟨S4096x50x1, .i1⟩
  | 2 => ⟨S4096x50x1, .i1⟩
  | 3 => ⟨S_, .i1⟩
  | 4 => ⟨S4096x50, .i1⟩
  | 5 => ⟨S4096x50x128, .f32⟩
  | 6 => ⟨S4096x50x128, .i1⟩
  | 7 => ⟨S_, .f32⟩
  | 8 => ⟨S4096x50x128, .f32⟩
  | 9 => ⟨S4096x50x128, .f32⟩
  | 10 => ⟨S_, .f32⟩
  | 11 => ⟨S4096x128, .f32⟩
  | 12 => ⟨S_, .f32⟩
  | 13 => ⟨S4096x128, .f32⟩
  | 14 => ⟨S4096x128, .f32⟩
  | 15 => ⟨S4096x640, .f32⟩
  | 16 => ⟨S4096x1024, .f32⟩
  | 17 => ⟨S1x1024, .f32⟩
  | 18 => ⟨S4096x1024, .f32⟩
  | 19 => ⟨S4096x1024, .f32⟩
  | 20 => ⟨S_, .f32⟩
  | 21 => ⟨S4096x1024, .f32⟩
  | 22 => ⟨S4096x1024, .f32⟩
  | 23 => ⟨S4096x1024, .f32⟩
  | 24 => ⟨S1x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1000, .f32⟩
  | 31 => ⟨S1x1000, .f32⟩
  | 32 => ⟨S4096x1000, .f32⟩
  | 33 => ⟨S4096x1000, .f32⟩
  | _ => ⟨S4096x3, .i32⟩

abbrev hbmTy (i : Nat) : BufTy := match i / 128 with
  | 0 => hbmTy0_0 i
  | 1 => hbmTy0_1 i
  | _ => ⟨S4096x3, .i32⟩

abbrev bufTy : (tb : Table) → Fin (tcTables nBuf tb) → BufTy
  | .hbm, ⟨i, _⟩ => hbmTy i
  | _, _ => ⟨S4096x3, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v2 : Ref sig .tc := ⟨.hbm, 36, rfl⟩
abbrev main_v3 : Ref sig .tc := ⟨.hbm, 37, rfl⟩
abbrev main_v4 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v5 : Ref sig .tc := ⟨.hbm, 61, rfl⟩
abbrev main_v6 : Ref sig .tc := ⟨.hbm, 62, rfl⟩
abbrev main_v7 : Ref sig .tc := ⟨.hbm, 63, rfl⟩
abbrev main_call2_c : Ref sig .tc := ⟨.hbm, 64, rfl⟩
abbrev main_call2_v0 : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_c_1 : Ref sig .tc := ⟨.hbm, 72, rfl⟩
abbrev main_call2_c_2 : Ref sig .tc := ⟨.hbm, 73, rfl⟩
abbrev main_call2_v6 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_c_3 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_call2_cst : Ref sig .tc := ⟨.hbm, 84, rfl⟩
abbrev main_call2_v15 : Ref sig .tc := ⟨.hbm, 85, rfl⟩
abbrev main_v8 : Ref sig .tc := ⟨.hbm, 86, rfl⟩
abbrev main_call3_c : Ref sig .tc := ⟨.hbm, 87, rfl⟩
abbrev main_call3_v0 : Ref sig .tc := ⟨.hbm, 88, rfl⟩
abbrev main_call3_v1 : Ref sig .tc := ⟨.hbm, 89, rfl⟩
abbrev main_call3_c_0 : Ref sig .tc := ⟨.hbm, 90, rfl⟩
abbrev main_call3_v2 : Ref sig .tc := ⟨.hbm, 91, rfl⟩
abbrev main_call3_v3 : Ref sig .tc := ⟨.hbm, 92, rfl⟩
abbrev main_call3_v4 : Ref sig .tc := ⟨.hbm, 93, rfl⟩
abbrev main_call3_v5 : Ref sig .tc := ⟨.hbm, 94, rfl⟩
abbrev main_call3_c_1 : Ref sig .tc := ⟨.hbm, 95, rfl⟩
abbrev main_call3_c_2 : Ref sig .tc := ⟨.hbm, 96, rfl⟩
abbrev main_call3_v6 : Ref sig .tc := ⟨.hbm, 97, rfl⟩
abbrev main_call3_v7 : Ref sig .tc := ⟨.hbm, 98, rfl⟩
abbrev main_call3_v8 : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_3 : Ref sig .tc := ⟨.hbm, 103, rfl⟩
abbrev main_call3_v12 : Ref sig .tc := ⟨.hbm, 104, rfl⟩
abbrev main_call3_v13 : Ref sig .tc := ⟨.hbm, 105, rfl⟩
abbrev main_call3_v14 : Ref sig .tc := ⟨.hbm, 106, rfl⟩
abbrev main_call3_cst : Ref sig .tc := ⟨.hbm, 107, rfl⟩
abbrev main_call3_v15 : Ref sig .tc := ⟨.hbm, 108, rfl⟩
abbrev main_v9 : Ref sig .tc := ⟨.hbm, 109, rfl⟩
abbrev main_cst : Ref sig .tc := ⟨.hbm, 110, rfl⟩
abbrev main_v10 : Ref sig .tc := ⟨.hbm, 111, rfl⟩
abbrev main_cst_0 : Ref sig .tc := ⟨.hbm, 112, rfl⟩
abbrev main_v11 : Ref sig .tc := ⟨.hbm, 113, rfl⟩
abbrev main_v12 : Ref sig .tc := ⟨.hbm, 114, rfl⟩
abbrev main_call4_c : Ref sig .tc := ⟨.hbm, 115, rfl⟩
abbrev main_call4_v0 : Ref sig .tc := ⟨.hbm, 116, rfl⟩
abbrev main_call4_v1 : Ref sig .tc := ⟨.hbm, 117, rfl⟩
abbrev main_call4_c_0 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_c_1 : Ref sig .tc := ⟨.hbm, 123, rfl⟩
abbrev main_call4_c_2 : Ref sig .tc := ⟨.hbm, 124, rfl⟩
abbrev main_call4_v6 : Ref sig .tc := ⟨.hbm, 125, rfl⟩
abbrev main_call4_v7 : Ref sig .tc := ⟨.hbm, 126, rfl⟩
abbrev main_call4_v8 : Ref sig .tc := ⟨.hbm, 127, rfl⟩
abbrev main_call4_v9 : Ref sig .tc := ⟨.hbm, 128, rfl⟩
abbrev main_call4_v10 : Ref sig .tc := ⟨.hbm, 129, rfl⟩
abbrev main_call4_v11 : Ref sig .tc := ⟨.hbm, 130, rfl⟩
abbrev main_call4_c_3 : Ref sig .tc := ⟨.hbm, 131, rfl⟩
abbrev main_call4_v12 : Ref sig .tc := ⟨.hbm, 132, rfl⟩
abbrev main_call4_v13 : Ref sig .tc := ⟨.hbm, 133, rfl⟩
abbrev main_call4_v14 : Ref sig .tc := ⟨.hbm, 134, rfl⟩
abbrev main_call4_cst : Ref sig .tc := ⟨.hbm, 135, rfl⟩
abbrev main_call4_v15 : Ref sig .tc := ⟨.hbm, 136, rfl⟩
abbrev main_v13 : Ref sig .tc := ⟨.hbm, 137, rfl⟩
abbrev main_cst_1 : Ref sig .tc := ⟨.hbm, 138, rfl⟩
abbrev main_v14 : Ref sig .tc := ⟨.hbm, 139, rfl⟩
abbrev main_cst_2 : Ref sig .tc := ⟨.hbm, 140, rfl⟩
abbrev main_v15 : Ref sig .tc := ⟨.hbm, 141, rfl⟩
abbrev main_v16 : Ref sig .tc := ⟨.hbm, 142, rfl⟩
abbrev main_v17 : Ref sig .tc := ⟨.hbm, 143, rfl⟩
abbrev main_v18 : Ref sig .tc := ⟨.hbm, 144, rfl⟩
abbrev main_v19 : Ref sig .tc := ⟨.hbm, 145, rfl⟩
abbrev main_v20 : Ref sig .tc := ⟨.hbm, 146, rfl⟩
abbrev main_v21 : Ref sig .tc := ⟨.hbm, 147, rfl⟩
abbrev main_call5_cst : Ref sig .tc := ⟨.hbm, 148, rfl⟩
abbrev main_call5_v0 : Ref sig .tc := ⟨.hbm, 149, rfl⟩
abbrev main_v22 : Ref sig .tc := ⟨.hbm, 150, rfl⟩
abbrev main_v23 : Ref sig .tc := ⟨.hbm, 151, rfl⟩
abbrev main_v24 : Ref sig .tc := ⟨.hbm, 152, rfl⟩
abbrev main_v25 : Ref sig .tc := ⟨.hbm, 153, rfl⟩
abbrev main_v26 : Ref sig .tc := ⟨.hbm, 154, rfl⟩
abbrev main_call6_cst : Ref sig .tc := ⟨.hbm, 155, rfl⟩
abbrev main_call6_v0 : Ref sig .tc := ⟨.hbm, 156, rfl⟩
abbrev main_v27 : Ref sig .tc := ⟨.hbm, 157, rfl⟩
abbrev main_v28 : Ref sig .tc := ⟨.hbm, 158, rfl⟩
abbrev main_v29 : Ref sig .tc := ⟨.hbm, 159, rfl⟩
abbrev main_v30 : Ref sig .tc := ⟨.hbm, 160, rfl⟩
abbrev main_v31 : Ref sig .tc := ⟨.hbm, 161, rfl⟩

abbrev nD : Nat := 1
abbrev τ : Topo := Topo.v7x

variable {F : FTy → Type} [FloatOps F]
-- ==== Proof.Sweep.lean ====
/-
  Counting by indexed stores, on contents alone. One indexed store of sixteen lanes whose lanes name sixteen different
  rows changes, in each row it names, the one cell its lane's column selects; two such stores treat the thirty-two rows
  of a count buffer. A pass over fifty lists of columns then leaves in each cell what fifty guarded steps make of it
  (`cell`), and a pass that stores zero at every cell touched before leaves the buffer zero again.
-/
module

public import proofs.«01_k».proof.Proof.Gen.KernelIdeal
public import proofs.«01_k».proof.Proof.Gen.KernelIdeal.Skeleton
public import Idealize.ShloMosaic.Lib.Tactic

@[expose] public section

noncomputable section

namespace Cert.Proof.Sweep

open Cert.KernelIdeal Cert.KernelIdeal.Gen
open Idealize.ShloMosaic
open Classical

/-! ## One cell under a run of guarded steps -/

section Cell
variable {α : Type}

/-- A value after `n` steps: step `m` applies `u` if `p m` holds and does nothing otherwise. -/
def cell (p : ℕ → Prop) (u : α → α) : ℕ → α → α
  | 0, y => y
  | n + 1, y => if p n then u (cell p u n y) else cell p u n y

/-- If no step's guard holds, nothing changes. -/
theorem cell_none {p : ℕ → Prop} (u : α → α) : ∀ (n : ℕ) (y : α), (∀ m < n, ¬ p m) → cell p u n y = y
  | 0, _, _ => rfl
  | n + 1, y, h => by
    rw [cell, if_neg (h n (Nat.lt_succ_self n)), cell_none u n y fun m hm => h m (Nat.lt_succ_of_lt hm)]

/-- Steps that all write `z`: the result is `z` once some guard held, and the old value otherwise. -/
theorem cell_const (p : ℕ → Prop) (z : α) : ∀ (n : ℕ) (y : α), cell p (fun _ => z) n y = if ∃ m < n, p m then z else y
  | 0, y => by simp [cell]
  | n + 1, y => by
    rw [cell, cell_const p z n y]
    by_cases hn : p n
    · rw [if_pos hn, if_pos ⟨n, Nat.lt_succ_self n, hn⟩]
    · rw [if_neg hn]
      have e : (∃ m < n + 1, p m) ↔ ∃ m < n, p m :=
        ⟨fun ⟨m, hm, h⟩ => ⟨m, lt_of_le_of_ne (Nat.le_of_lt_succ hm) (fun e => hn (e ▸ h)), h⟩,
          fun ⟨m, hm, h⟩ => ⟨m, Nat.lt_succ_of_lt hm, h⟩⟩
      simp only [e]

/-- Guards that agree give the same value. -/
theorem cell_congr {p p' : ℕ → Prop} (u : α → α) : ∀ (n : ℕ) (y : α), (∀ m < n, (p m ↔ p' m)) → cell p u n y = cell p' u n y
  | 0, _, _ => rfl
  | n + 1, y, h => by
    rw [cell, cell, cell_congr u n y fun m hm => h m (Nat.lt_succ_of_lt hm)]
    simp only [h n (Nat.lt_succ_self n)]

/-- Counting on one cell from `z` and then writing `z` wherever something was counted gives `z` back. -/
theorem cell_clear (p q : ℕ → Prop) (u w : α → α) (z : α) (n : ℕ) :
    cell q (fun _ => z) n (cell p (fun _ => z) n (cell q w n (cell p u n z))) = z := by
  rw [cell_const, cell_const]
  by_cases hq : ∃ m < n, q m
  · rw [if_pos hq]
  by_cases hp : ∃ m < n, p m
  · rw [if_neg hq, if_pos hp]
  rw [if_neg hq, if_neg hp, cell_none w n _ fun m hm h => hq ⟨m, hm, h⟩, cell_none u n _ fun m hm h => hp ⟨m, hm, h⟩]

/-- A fold of guarded steps of which at most one acts. -/
theorem foldl_unique {β : Type} (u : α → α) (p : β → Prop) [DecidablePred p] :
    ∀ (l : List β) (_ : l.Nodup) (_ : ∀ a ∈ l, ∀ b ∈ l, p a → p b → a = b) (y : α),
      l.foldl (fun y k => if p k then u y else y) y = if ∃ k ∈ l, p k then u y else y
  | [], _, _, y => by simp
  | k :: l, hl, h, y => by
    rw [List.foldl_cons]
    have hl' := List.nodup_cons.mp hl
    rw [foldl_unique u p l hl'.2 (fun a ha b hb => h a (List.mem_cons_of_mem _ ha) b (List.mem_cons_of_mem _ hb))]
    by_cases hk : p k
    · have hno : ¬ ∃ k' ∈ l, p k' := fun ⟨k', hm, hp⟩ =>
        hl'.1 (h k List.mem_cons_self k' (List.mem_cons_of_mem _ hm) hk hp ▸ hm)
      rw [if_pos hk, if_neg hno, if_pos ⟨k, List.mem_cons_self, hk⟩]
    · rw [if_neg hk]
      have e : (∃ k' ∈ k :: l, p k') ↔ ∃ k' ∈ l, p k' := by simp [hk]
      simp only [e]

end Cell

/-! ## An indexed store of sixteen lanes into sixteen different rows -/

section Store
variable {F : FTy → Type} [FloatOps F]

/-- What one lane's store makes of the cell it names: the constant `c` added to it, or `c` itself. -/
def bump (add : Bool) (c : F .f32) (y : F .f32) : F .f32 := if add then Elt.idxAdd (F := F) .f32 y c else c

/-- A lane, as an index of a sixteen-lane vector. -/
def lane (k : Fin 16) : S16.Idx := fun a => match a with | 0 => k

/-- A fold that updates functions one index at a time, seen at one index. -/
theorem foldl_apply {ι β γ : Type} (step : (γ → β) → ι → γ → β) (one : γ → β → ι → β)
    (h : ∀ g k j, step g k j = one j (g j) k) : ∀ (l : List ι) (g : γ → β) (j : γ), (l.foldl step g) j = l.foldl (one j) (g j)
  | [], _, _ => rfl
  | k :: l, g, j => by rw [List.foldl_cons, List.foldl_cons, foldl_apply step one h l, h]

/-- An unmasked store whose lane `x` names row `r0 + x` and the column its list holds: it acts on exactly the cells so named. -/
theorem storeIdx_rows (f : Vec F S32x1024 .f32) (rows ids : IVec S16 32) (v : Vec F S16 .f32) (mask : IVec S16 1) (add : Bool)
    (h : ∀ a x, ((![rows, ids] : Fin 2 → IVec S16 32) a x).toNat < S32x1024.size a) (c : F .f32) (r0 : ℕ)
    (hrow : ∀ x : S16.Idx, (rows x).toNat = r0 + (x 0).val) (hv : ∀ x, v x = c) (hm : ∀ x, mask x = 1) (j : S32x1024.Idx) :
    storeIdx (F := F) (s := S32x1024) (e := .f32) f ![rows, ids] v mask add h j
      = if ∃ x : S16.Idx, r0 + (x 0).val = (j 0).val ∧ (ids x).toNat = (j 1).val then bump add c (f j) else f j := by
  have hfold : storeIdx (F := F) (s := S32x1024) (e := .f32) f ![rows, ids] v mask add h j
      = (List.finRange 16).foldl
          (fun (y : F .f32) (k : Fin 16) => if r0 + k.val = (j 0).val ∧ (ids (lane k)).toNat = (j 1).val then bump add c y else y) (f j) := by
    unfold storeIdx
    refine foldl_apply _ (fun (i : S32x1024.Idx) (y : F .f32) (k : Fin 16) =>
      if r0 + k.val = (i 0).val ∧ (ids (lane k)).toNat = (i 1).val then bump add c y else y) ?_ (List.finRange 16) f j
    intro g k i
    have el : Shape.ofLane (d := ![16]) k = lane k := by
      funext a; match a with | 0 => rfl
    have hiff : (∀ a, (i a).val = ((idxAt (s := S32x1024) ![rows, ids] h (lane k)) a).val)
        ↔ (r0 + k.val = (i 0).val ∧ (ids (lane k)).toNat = (i 1).val) := by
      have h0 : ((idxAt (s := S32x1024) ![rows, ids] h (lane k)) 0).val = r0 + k.val := hrow (lane k)
      have h1 : ((idxAt (s := S32x1024) ![rows, ids] h (lane k)) 1).val = (ids (lane k)).toNat := rfl
      constructor
      · intro ha; exact ⟨(h0 ▸ ha 0).symm, (h1 ▸ ha 1).symm⟩
      · rintro ⟨e0, e1⟩ a
        match a with
        | 0 => rw [h0, e0]
        | 1 => rw [h1, e1]
    have key : ∀ x : S16.Idx, x = lane k →
        (if ∀ a : Fin 2, (i a).val = ((idxAt (s := S32x1024) ![rows, ids] h x) a).val then
            (if add = true then Elt.idxAdd (F := F) .f32 (g (idxAt (s := S32x1024) ![rows, ids] h x)) (v x) else v x) else g i)
          = if r0 + k.val = (i 0).val ∧ (ids (lane k)).toNat = (i 1).val then bump add c (g i) else g i := by
      rintro x rfl
      by_cases hk : r0 + k.val = (i 0).val ∧ (ids (lane k)).toNat = (i 1).val
      · have hi : i = idxAt (s := S32x1024) ![rows, ids] h (lane k) := funext fun a => Fin.ext (hiff.mpr hk a)
        rw [if_pos hk]
        refine (if_pos (hiff.mpr hk)).trans ?_
        rw [hv (lane k), ← hi]; rfl
      · rw [if_neg hk]
        exact if_neg fun e => hk (hiff.mp e)
    dsimp only
    rw [if_pos (hm _)]
    convert key _ el using 2
  rw [hfold]
  refine (foldl_unique (bump add c) (fun k => r0 + k.val = (j 0).val ∧ (ids (lane k)).toNat = (j 1).val) _ (List.nodup_finRange 16)
    (fun a _ b _ ha hb => Fin.ext (by have := ha.1; have := hb.1; omega)) _).trans ?_
  have e : (∃ k ∈ List.finRange 16, (r0 + k.val = (j 0).val ∧ (ids (lane k)).toNat = (j 1).val))
      ↔ ∃ x : S16.Idx, r0 + (x 0).val = (j 0).val ∧ (ids x).toNat = (j 1).val := by
    constructor
    · rintro ⟨k, -, hk⟩; exact ⟨lane k, hk⟩
    · rintro ⟨x, hx⟩
      refine ⟨x 0, List.mem_finRange _, ?_⟩
      have ex : lane (x 0) = x := by
        funext a; match a with | 0 => rfl
      exact ⟨hx.1, by rw [ex]; exact hx.2⟩
  simp only [e]

/-- The contents after `n` trips of a pass in which trip `m` acts on the cells `hits m`. -/
def sweep (hits : ℕ → S32x1024.Idx → Prop) (add : Bool) (c : F .f32) (n : ℕ) (f : Vec F S32x1024 .f32) : Vec F S32x1024 .f32 :=
  fun j => cell (fun m => hits m j) (bump add c) n (f j)

/-- One trip's two stores — rows `0…15` from one list, rows `16…31` from the other — carry the pass one trip on. -/
theorem sweep_trip (hits : ℕ → S32x1024.Idx → Prop) (add : Bool) (c : F .f32) (n : ℕ) (f : Vec F S32x1024 .f32)
    (rowsA rowsB idsA idsB : IVec S16 32) (v : Vec F S16 .f32) (mask : IVec S16 1)
    (hA : ∀ a x, ((![rowsA, idsA] : Fin 2 → IVec S16 32) a x).toNat < S32x1024.size a)
    (hB : ∀ a x, ((![rowsB, idsB] : Fin 2 → IVec S16 32) a x).toNat < S32x1024.size a)
    (hrA : ∀ x : S16.Idx, (rowsA x).toNat = 0 + (x 0).val) (hrB : ∀ x : S16.Idx, (rowsB x).toNat = 16 + (x 0).val)
    (hv : ∀ x, v x = c) (hm : ∀ x, mask x = 1)
    (hhA : ∀ (j : S32x1024.Idx) (x : S16.Idx), (x 0).val = (j 0).val → (hits n j ↔ (idsA x).toNat = (j 1).val))
    (hhB : ∀ (j : S32x1024.Idx) (x : S16.Idx), 16 + (x 0).val = (j 0).val → (hits n j ↔ (idsB x).toNat = (j 1).val)) :
    storeIdx (F := F) (s := S32x1024) (e := .f32)
        (storeIdx (F := F) (s := S32x1024) (e := .f32) (sweep hits add c n f) ![rowsA, idsA] v mask add hA) ![rowsB, idsB] v mask add hB
      = sweep hits add c (n + 1) f := by
  funext j
  rw [storeIdx_rows _ rowsB idsB v mask add hB c 16 hrB hv hm, storeIdx_rows _ rowsA idsA v mask add hA c 0 hrA hv hm]
  show _ = if hits n j then bump add c (sweep hits add c n f j) else sweep hits add c n f j
  have hj : (j 0).val < 32 := (j 0).isLt
  by_cases hlt : (j 0).val < 16
  · have hno : ¬ ∃ x : S16.Idx, 16 + (x 0).val = (j 0).val ∧ (idsB x).toNat = (j 1).val := fun ⟨x, hx, _⟩ => by omega
    rw [if_neg hno]
    let x : S16.Idx := lane ⟨(j 0).val, hlt⟩
    have e : (∃ x : S16.Idx, 0 + (x 0).val = (j 0).val ∧ (idsA x).toNat = (j 1).val) ↔ hits n j :=
      ⟨fun ⟨x, hx, hx'⟩ => (hhA j x (by omega)).mpr hx', fun hh => ⟨x, Nat.zero_add _, (hhA j x rfl).mp hh⟩⟩
    simp only [e]
  · have hno : ¬ ∃ x : S16.Idx, 0 + (x 0).val = (j 0).val ∧ (idsA x).toNat = (j 1).val := fun ⟨x, hx, _⟩ => by
      have h16 : (x 0).val < 16 := (x 0).isLt
      omega
    rw [if_neg hno]
    let x : S16.Idx := lane ⟨(j 0).val - 16, by clear * - hj; omega⟩
    have hx : 16 + (x 0).val = (j 0).val := by show 16 + ((j 0).val - 16) = _; omega
    have e : (∃ x : S16.Idx, 16 + (x 0).val = (j 0).val ∧ (idsB x).toNat = (j 1).val) ↔ hits n j :=
      ⟨fun ⟨x, hx, hx'⟩ => (hhB j x hx).mpr hx', fun hh => ⟨x, hx, (hhB j x hx).mp hh⟩⟩
    simp only [e]

/-- Counting both lists into a zero buffer and then storing zero over both lists' cells leaves the buffer zero. -/
theorem sweep_clear (hm hg : ℕ → S32x1024.Idx → Prop) (c c' z : F .f32) (n : ℕ) :
    sweep hg false z n (sweep hm false z n (sweep hg true c' n (sweep hm true c n fun _ => z))) = fun _ => z :=
  funext fun _ => cell_clear _ _ _ _ z n

end Store

end Cert.Proof.Sweep

end
-- ==== Proof.Setup.lean ====
/-
  The lookup kernel as its launch sees it: two SparseCores of sixteen tiles. Tile `(c, s)` has number `2 s + c` and treats
  the 128 batch rows from `128 (2 s + c)` on. It reads the three lists of row numbers, the two lists of topics and the two
  embedding tables — of each it holds a thirty-second share of the whole array — and writes its 128 rows of the three
  gathered arrays and, in four pieces of thirty-two rows, of the count array. What it leaves there is stated here as a
  function of the arrays it reads.
-/
module

public import proofs.«01_k».proof.Defs
public import proofs.«01_k».proof.Proof.Sweep
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The program's labels: the kernels' and the pipeline's. -/
abbrev ΛP : Labels := Pipeline.Sig Λ₀ (Fin 1) fun p => (pcfgs (F := F) p).Adm
/-- The SparseCore calls' configuration. -/
abbrev K [FloatOps F] : SparseCore.Cfg τ sig (ΛP (F := F)) 1 := sc (F := F)
/-- The call uses sixteen tiles a core. -/
theorem nSub_zero [FloatOps F] : (K (F := F)).nSub 0 = 16 := rfl
/-- The call uses two cores. -/
theorem nCore_zero [FloatOps F] : (K (F := F)).nCore 0 = 2 := rfl
/-- The program's bodies. -/
abbrev D [FloatOps F] : Defs nD τ sig (Elt F) (ΛP (F := F)) := Pipeline.defs pcfgs defs₀
/-- No loop needs a variant. -/
abbrev 𝒱₀ : Variants := Variants.none
/-- The same, over the labels of the whole program. -/
abbrev 𝒱 : Variants := 𝒱₀.lift
/-- The one variant there is. -/
abbrev v₀ : 𝒱.V := Sum.inl none

/-- The side conditions on the semaphores of the handshakes, and on the buffers tasks share. -/
theorem facts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the launch handshakes', the TensorCore pipeline's and the transfers' counters -/

/-- The handshakes' ghost state. -/
abbrev UH : Type := URounds (GSem nD τ sig) ℕ
/-- The pipeline's ghost state. -/
abbrev UP : Type := URounds (GSem nD τ sig) Unit
/-- All three together. -/
abbrev UU : Type := UH × (UP × Counters)

local notation "𝕄" => MT nD τ sig (HIx 1) (Elt F) ℕ UU ℕ

/-- The handshakes' cells: the left factor. -/
abbrev EH : Emb UH (MT nD τ sig (HIx 1) (Elt F) ℕ UU ℕ) := embL
/-- The pipeline's cells: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## What a tile reads and what it leaves -/

/-- The arrays the tiles read: three lists of row numbers, two lists of fifty topics for each batch row, two tables. -/
structure Ins (F : FTy → Type) where
  b0 : IVec S4096 32
  b1 : IVec S4096 32
  b2 : IVec S4096 32
  mt : IVec S50x4096 32
  gt : IVec S50x4096 32
  me : FVec F S100000x128 .f32
  ge : FVec F S100000x128 .f32

/-- Every row number names a row of the tables and every topic a column of the counts. -/
structure Ins.OK (A : Ins F) : Prop where
  b0 : ∀ x, (A.b0 x).toNat < 100000
  b1 : ∀ x, (A.b1 x).toNat < 100000
  b2 : ∀ x, (A.b2 x).toNat < 100000
  mt : ∀ x, (A.mt x).toNat < 1024
  gt : ∀ x, (A.gt x).toNat < 1024

/-- The one-dimensional index with coordinate `k`. -/
def ix1 (k : Fin 4096) : S4096.Idx := fun a => match a with | 0 => k
/-- The index of topic `h` of batch row `k`. -/
def ixT (h : Fin 50) (k : Fin 4096) : S50x4096.Idx := fun a => match a with | 0 => h | 1 => k
/-- The index of entry `l` of table row `r`. -/
def ixE (r : Fin 100000) (l : Fin 128) : S100000x128.Idx := fun a => match a with | 0 => r | 1 => l

/-- The rows of `tbl` named by the list `b` (a number past the last row names the first). -/
def gathered (b : IVec S4096 32) (tbl : FVec F S100000x128 .f32) : FVec F S4096x128 .f32 := fun x =>
  tbl (ixE (if h : (b (ix1 (x 0))).toNat < 100000 then ⟨(b (ix1 (x 0))).toNat, h⟩ else 0) (x 1))

/-- Topic `h` of batch row `k` is `t`. -/
def isTopic (tp : IVec S50x4096 32) (k : Fin 4096) (t : ℕ) (h : ℕ) : Prop := ∃ hh : h < 50, (tp (ixT ⟨h, hh⟩ k)).toNat = t

section
variable [FloatOps F]

/-- Zero. -/
def zeroF : F .f32 := Scalar.ofBits .f32 0x00000000#32
/-- What a topic of the first kind adds to a count. -/
def oneF : F .f32 := Scalar.ofBits .f32 0x3F800000#32
/-- What a topic of the second kind adds. -/
def bigF : F .f32 := Scalar.ofBits .f32 0x43800000#32

/-- The count array: at batch row `x 0` and topic `x 1`, one for each time the topic is in the first list and 256 for
    each time it is in the second, added up in this order from zero. -/
def counts (mt gt : IVec S50x4096 32) : FVec F S4096x1024 .f32 := fun x =>
  cell (isTopic gt (x 0) (x 1).val) (bump true bigF) 50 (cell (isTopic mt (x 0) (x 1).val) (bump true oneF) 50 zeroF)

/-- The four arrays the call writes. -/
structure Outs (F : FTy → Type) where
  org : FVec F S4096x128 .f32
  gg : FVec F S4096x128 .f32
  mem : FVec F S4096x128 .f32
  cc : FVec F S4096x1024 .f32

/-- What the call leaves in them. -/
def Ins.outs (A : Ins F) : Outs F where
  org := gathered A.b0 A.me
  gg := gathered A.b1 A.ge
  mem := gathered A.b2 A.me
  cc := counts A.mt A.gt
end

/-! ## The launch memory and the buffers -/

/-- The first list of words. -/
abbrev b0Loc (d : Dev nD) : Loc nD τ sig := (SparseCore.T d).loc main_v1
/-- The second list of words. -/
abbrev b1Loc (d : Dev nD) : Loc nD τ sig := (SparseCore.T d).loc main_v3
/-- The third list of words. -/
abbrev b2Loc (d : Dev nD) : Loc nD τ sig := (SparseCore.T d).loc main_v5
/-- The topics of the first kind. -/
abbrev mtLoc (d : Dev nD) : Loc nD τ sig := (SparseCore.T d).loc main_v6
/-- The topics of the second kind. -/
abbrev gtLoc (d : Dev nD) : Loc nD τ sig := (SparseCore.T d).loc main_v7
/-- The table in argument 3. -/
abbrev meLoc (d : Dev nD) : Loc nD τ sig := (SparseCore.T d).loc main_arg3
/-- The table in argument 4. -/
abbrev geLoc (d : Dev nD) : Loc nD τ sig := (SparseCore.T d).loc main_arg4
/-- The first gathered array. -/
abbrev orgLoc (d : Dev nD) : Loc nD τ sig := (SparseCore.T d).loc main_v9_0
/-- The second gathered array. -/
abbrev ggLoc (d : Dev nD) : Loc nD τ sig := (SparseCore.T d).loc main_v9_1
/-- The third gathered array. -/
abbrev memLoc (d : Dev nD) : Loc nD τ sig := (SparseCore.T d).loc main_v9_2
/-- The count array. -/
abbrev ccLoc (d : Dev nD) : Loc nD τ sig := (SparseCore.T d).loc main_v9_3

/-- The batch rows of tile number `w`. -/
def rowSet (w : Fin 32) : Finset S4096x128.Idx := Finset.univ.filter fun x => (x 0).val / 128 = w.val
/-- The `k`-th thirty-two batch rows of tile number `w`. -/
def chunkSet (w : Fin 32) (k : Fin 4) : Finset S4096x1024.Idx := Finset.univ.filter fun x => (x 0).val / 32 = 4 * w.val + k.val

/-- Tile `w`'s share of an array every tile reads. -/
abbrev tileShare (w : Fin 32) : PosShare TreeShare := Transfers.dealOf fullShare Finset.univ w

/-- Tile `w`'s shares of the seven arrays the tiles read. -/
def readPts (A : Ins F) (d : Dev nD) (q : PosShare TreeShare) : sProp 𝕄 :=
  iprop((b0Loc d ↦{q} A.b0) ∗ (b1Loc d ↦{q} A.b1) ∗ (b2Loc d ↦{q} A.b2) ∗ (mtLoc d ↦{q} A.mt) ∗ (gtLoc d ↦{q} A.gt)
    ∗ (meLoc d ↦{q} A.me) ∗ (geLoc d ↦{q} A.ge))

/-- Tile `w`'s rows of the four arrays the tiles write. -/
def writePts (B : Outs F) (d : Dev nD) (w : Fin 32) : sProp 𝕄 :=
  iprop((orgLoc d ↦[rowSet w]{fullShare} B.org) ∗ (ggLoc d ↦[rowSet w]{fullShare} B.gg) ∗ (memLoc d ↦[rowSet w]{fullShare} B.mem)
    ∗ (ccLoc d ↦[chunkSet w 0]{fullShare} B.cc) ∗ (ccLoc d ↦[chunkSet w 1]{fullShare} B.cc)
    ∗ (ccLoc d ↦[chunkSet w 2]{fullShare} B.cc) ∗ (ccLoc d ↦[chunkSet w 3]{fullShare} B.cc))

/-- All a tile holds of the call's arrays. -/
def tilePts (A : Ins F) (B : Outs F) (d : Dev nD) (w : Fin 32) : sProp 𝕄 := iprop(readPts A d (tileShare w) ∗ writePts B d w)

instance readPts_storable (A : Ins F) (d : Dev nD) (q : PosShare TreeShare) :
    BI.Storable (upEmb : UEmb _ 𝕄) (readPts A d q) := by unfold readPts; infer_instance
instance writePts_storable (B : Outs F) (d : Dev nD) (w : Fin 32) :
    BI.Storable (upEmb : UEmb _ 𝕄) (writePts B d w) := by unfold writePts; infer_instance
instance tilePts_storable (A : Ins F) (B : Outs F) (d : Dev nD) (w : Fin 32) :
    BI.Storable (upEmb : UEmb _ 𝕄) (tilePts A B d w) := by unfold tilePts; infer_instance

/-- The number of the tile on subcore `s` of SparseCore `c`. -/
def tileNo (c : Fin 2) (s : Fin 16) : Fin 32 := ⟨2 * s.val + c.val, by omega⟩

/-- SparseCore `c`'s part: its sixteen tiles'. -/
def corePts (A : Ins F) (B : Outs F) (d : Dev nD) (c : Fin 2) : sProp 𝕄 := bigSep Finset.univ fun s : Fin 16 => tilePts A B d (tileNo c s)

instance corePts_storable (A : Ins F) (B : Outs F) (d : Dev nD) (c : Fin 2) :
    BI.Storable (upEmb : UEmb _ 𝕄) (corePts A B d c) := by unfold corePts; infer_instance

variable [FloatOps F]

/-- The call hands each SparseCore its tiles' parts, each tile its own, and takes them back with the outputs written. -/
def P (A : Dev nD → Ins F) (B : Dev nD → Outs F) : (K (F := F)).Pay (nD := nD) (Val := Elt F) (Name := ℕ) (U := UU) where
  st := fun q d c => match q with | 0 => corePts (A d) (B d) d (Fin.cast nCore_zero c)
  dn := fun q d c => match q with | 0 => corePts (A d) (A d).outs d (Fin.cast nCore_zero c)
  go := fun q d c i => match q with | 0 => tilePts (A d) (B d) d (tileNo (Fin.cast nCore_zero c) (Fin.cast nSub_zero i))
  td := fun q d c i => match q with | 0 => tilePts (A d) (A d).outs d (tileNo (Fin.cast nCore_zero c) (Fin.cast nSub_zero i))
  x := fun _ _ => iprop(emp)

instance P_storable (A : Dev nD → Ins F) (B : Dev nD → Outs F) : (P A B).IsStorable where
  st q d c := match q with | 0 => corePts_storable (A d) (B d) d (Fin.cast nCore_zero c)
  dn q d c := match q with | 0 => corePts_storable (A d) (A d).outs d (Fin.cast nCore_zero c)
  go q d c i := match q with | 0 => tilePts_storable (A d) (B d) d (tileNo (Fin.cast nCore_zero c) (Fin.cast nSub_zero i))
  td q d c i := match q with | 0 => tilePts_storable (A d) (A d).outs d (tileNo (Fin.cast nCore_zero c) (Fin.cast nSub_zero i))

end Cert.Proof.Lookup

end
-- ==== Proof.Loops.lean ====
/-
  The tile's counted loops. A counting loop's trip reads thirty-two topics — one of each batch row of the piece — and
  stores into the count buffer at them; its fifty trips are one pass (`Sweep.sweep`) over the buffer. A clearing loop at
  the start stores zero over one row of the buffer per trip.
-/
module

public import proofs.«01_k».proof.Proof.Setup
public import Idealize.ShloMosaic.Lib.ValueLayout

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-- The thread `thr` holds the buffer of `M` outright, and it reads `v`. -/
def Holds {s : Shape} {e : EltTy} (thr : Thread nD τ) (M : Memref sig thr.2.kind .vmem s e) (v : s.Idx → Elt F e) : sProp 𝕄 :=
  iprop(∃ f : Buf (Elt F) (M.view.loc thr), ⌜M.view.read (Elt F) f = v⌝ ∗ (M.view.loc thr ↦[M.view.set]{fullShare} f))

/-- The view of a whole memref through its whole rectangle has the memref's elements. -/
theorem access_whole_set {κ : Kind} {s : Shape} {e : EltTy} (M : Memref sig κ .vmem s e) :
    (M.access (Rect.whole s)).set = M.view.set := by
  show (M.view.slice (Rect.whole s)).set = _
  rw [View.set_slice]
  ext i; constructor
  · intro h
    obtain ⟨x, hx, rfl⟩ := Finset.mem_map.mp h
    exact View.emb_mem_set _ _
  · intro h
    obtain ⟨x, -, rfl⟩ := Finset.mem_map.mp h
    exact Finset.mem_map.mpr ⟨x, by
      rw [← Rect.map_emb_univ]
      exact Finset.mem_map.mpr ⟨x, Finset.mem_univ x, Rect.emb_whole_apply s x⟩, rfl⟩

/-- Reading a buffer through its whole rectangle is reading the buffer. -/
theorem access_whole_read {κ : Kind} {s : Shape} {e : EltTy} (M : Memref sig κ .vmem s e) (f : M.view.ty.Contents (Elt F)) :
    (M.access (Rect.whole s)).read (Elt F) f = M.view.read (Elt F) f := by
  funext x
  show (M.view.slice (Rect.whole s)).read (Elt F) f x = _
  rw [View.read_apply, View.read_apply]
  show cast _ (f (M.view.emb ((Rect.whole s).emb x))) = _
  rw [Rect.emb_whole_apply]

variable [FloatOps F]

/-! ## One half of a counting trip -/

section Half
variable {c : Fin τ.nSC} {s : Fin τ.nSub}

/-- The topics of sixteen batch rows, read as a row of sixteen, are the list's at those columns. -/
def topics (idv : IVec S50x128 32) (r : Rect S50x128) (h : r.shape.ShapeCasts S16) : IVec S16 32 :=
  shapeCast S16 (fun x => idv (r.emb x)) h

/-- Reading sixteen topics and storing at them: the list stays, the buffer is stored into. -/
theorem wp_half (d : Dev nD) (ids : Memref sig .scVector .vmem S50x128 .i32) (cnt : Memref sig .scVector .vmem S32x1024 .f32)
    (off : Fin 2 → ℕ) (inb : ∀ a, off a + S1x16.size a ≤ S50x128.size a) (rows : IVec S16 32)
    (chk : IVec S16 32 → IVec S16 32 → Prop) (dec : ∀ v r, Decidable (chk v r))
    (hinb : ∀ v r, chk v r → ∀ a x, ((![r, v] : Fin 2 → IVec S16 32) a x).toNat < S32x1024.size a)
    (v : FVec F S16 .f32) (mask : IVec S16 1) (add : Bool)
    (hst : (cnt.access (Rect.whole S32x1024)).Stores Finset.univ)
    (hl : ids.view.LoadsAt (Rect.unit (s := S50x128) off S1x16.size inb).toLoadRect)
    (idv : IVec S50x128 32) (g : FVec F S32x1024 .f32)
    (hok : chk (topics idv (Rect.unit (s := S50x128) off S1x16.size inb) shapeCasts_S1x16_S16) rows)
    {α : Type} {Q : α → sProp 𝕄} (kk : PUnit.{1} → Prog (TpuEff nD τ sig (Elt F) Λ₀ (.scVector c s)) α) :
    iprop(Holds (V d c s) ids idv ∗ Holds (V d c s) cnt g)
      ⊢ iprop(((Holds (V d c s) ids idv ∗ Holds (V d c s) cnt (storeIdx (F := F) (s := S32x1024) (e := .f32) g
            ![rows, topics idv (Rect.unit (s := S50x128) off S1x16.size inb) shapeCasts_S1x16_S16] v mask add (hinb _ _ hok)))
            -∗ wp frame (wpE (defs₀ (F := F)) 𝒱₀ (V d c s) none) Set.univ (kk ⟨⟩) Q)
        -∗ wp frame (wpE (defs₀ (F := F)) 𝒱₀ (V d c s) none) Set.univ
          (do
            let ld : Vec F S1x16 .i32 ← Prog.lift (.load ids (Rect.unit (s := S50x128) off S1x16.size inb).toLoadRect hl)
            have w : Vec F S16 .i32 := shapeCast S16 ld shapeCasts_S1x16_S16
            have hw : chk w rows := (← Prog.lift (TpuEff.assume (chk w rows) (dec w rows))).down
            SparseCore.vectorStoreIdx cnt ![rows, w] v mask add (hinb w rows hw) hst
            kk ⟨⟩) Q) := by
  unfold Holds
  iintro ⟨⟨%fi, %hfi, Hi⟩, ⟨%fc, %hfc, Hc⟩⟩ Hk
  subst hfi hfc
  iapply (wp_load_rect 𝒱₀ (V d c s) none Set.univ (m := ids) (r := Rect.unit (s := S50x128) off S1x16.size inb) (q := fullShare) (f := fi)
    (S := ids.view.set) (View.set_slice_subset _ _)) $$ Hi
  iintro Hi
  iapply (wp_assume 𝒱₀ (V d c s) none Set.univ hok)
  ihave Hc' := (Entails.of_eq (show (cnt.view.loc (V d c s) ↦[cnt.view.set]{fullShare} fc : sProp 𝕄)
    = ((cnt.access (Rect.whole S32x1024)).loc (V d c s) ↦[(cnt.access (Rect.whole S32x1024)).set]{fullShare} fc) by rw [access_whole_set])) $$ Hc
  iapply (SparseCore.wp_vectorStoreIdx 𝒱₀ (V d c s) none Set.univ (base := cnt)) $$ Hc'
  iintro Hc
  iapply Hk
  isplitl [Hi]
  · iexists fi; isplitr
    · ipureintro; rfl
    · iexact Hi
  · iexists _; isplitr
    swap
    · iapply (Entails.of_eq (show ((cnt.access (Rect.whole S32x1024)).loc (V d c s) ↦[(cnt.access (Rect.whole S32x1024)).set]{fullShare} _ : sProp 𝕄)
        = (cnt.view.loc (V d c s) ↦[cnt.view.set]{fullShare} _) by rw [access_whole_set]))
      iexact Hc
    · ipureintro
      rw [← access_whole_read, View.read_write_univ, access_whole_read]; rfl

end Half

/-! ## A counting pass -/

/-- Row `j` of the count buffer in piece `k` is batch row `32 k + j` of the tile's. -/
def pieceRow (k : Fin 4) (j : Fin 32) : Fin 128 := ⟨32 * k.val + j.val, by omega⟩
/-- The index of topic `h` of the tile's batch row `r`. -/
def ixP (h : Fin 50) (r : Fin 128) : S50x128.Idx := fun a => match a with | 0 => h | 1 => r

/-- Trip `t` of a pass over piece `k` acts on the cells whose column is the row's topic `t`. -/
def hits (idv : IVec S50x128 32) (k : Fin 4) (t : ℕ) (j : S32x1024.Idx) : Prop :=
  ∃ h : t < 50, (idv (ixP ⟨t, h⟩ (pieceRow k (j 0)))).toNat = (j 1).val

/-- The program of one counting trip: sixteen rows, then the other sixteen. -/
def trip {c : Fin τ.nSC} {s : Fin τ.nSub} (ids : Memref sig .scVector .vmem S50x128 .i32) (cnt : Memref sig .scVector .vmem S32x1024 .f32)
    (offA offB : Fin 2 → ℕ) (inbA : ∀ a, offA a + S1x16.size a ≤ S50x128.size a) (inbB : ∀ a, offB a + S1x16.size a ≤ S50x128.size a)
    (rowsA rowsB : IVec S16 32) (chkA chkB : IVec S16 32 → IVec S16 32 → Prop)
    (decA : ∀ v r, Decidable (chkA v r)) (decB : ∀ v r, Decidable (chkB v r))
    (hA : ∀ v r, chkA v r → ∀ a x, ((![r, v] : Fin 2 → IVec S16 32) a x).toNat < S32x1024.size a)
    (hB : ∀ v r, chkB v r → ∀ a x, ((![r, v] : Fin 2 → IVec S16 32) a x).toNat < S32x1024.size a)
    (v : FVec F S16 .f32) (mask : IVec S16 1) (add : Bool) (hst : (cnt.access (Rect.whole S32x1024)).Stores Finset.univ)
    (hlA : ids.view.LoadsAt (Rect.unit (s := S50x128) offA S1x16.size inbA).toLoadRect)
    (hlB : ids.view.LoadsAt (Rect.unit (s := S50x128) offB S1x16.size inbB).toLoadRect) :
    Prog (TpuEff nD τ sig (Elt F) Λ₀ (.scVector c s)) (BitVec 32) := do
  let ld : Vec F S1x16 .i32 ← Prog.lift (.load ids (Rect.unit (s := S50x128) offA S1x16.size inbA).toLoadRect hlA)
  have w : Vec F S16 .i32 := shapeCast S16 ld shapeCasts_S1x16_S16
  have hw : chkA w rowsA := (← Prog.lift (TpuEff.assume (chkA w rowsA) (decA w rowsA))).down
  SparseCore.vectorStoreIdx cnt ![rowsA, w] v mask add (hA w rowsA hw) hst
  let ld' : Vec F S1x16 .i32 ← Prog.lift (.load ids (Rect.unit (s := S50x128) offB S1x16.size inbB).toLoadRect hlB)
  have w' : Vec F S16 .i32 := shapeCast S16 ld' shapeCasts_S1x16_S16
  have hw' : chkB w' rowsB := (← Prog.lift (TpuEff.assume (chkB w' rowsB) (decB w' rowsB))).down
  SparseCore.vectorStoreIdx cnt ![rowsB, w'] v mask add (hB w' rowsB hw') hst
  pure 0#32

/-- What sixteen topics read at offset `(t, o)` are. -/
theorem topics_apply (idv : IVec S50x128 32) (off : Fin 2 → ℕ) (inb : ∀ a, off a + S1x16.size a ≤ S50x128.size a) (t o : ℕ)
    (hoff : off = ![t, o]) (ht : t < 50) (x : S16.Idx) (r : Fin 128) (hr : r.val = o + (x 0).val) :
    topics idv (Rect.unit (s := S50x128) off S1x16.size inb) shapeCasts_S1x16_S16 x = idv (ixP ⟨t, ht⟩ r) := by
  subst hoff
  unfold topics
  refine (shapeCast_apply _ _ x ((fun a => match a with | 0 => (0 : Fin 1) | 1 => (x 0 : Fin 16)) : S1x16.Idx) ?_).trans ?_
  · rw [Shape.rowMajor_val_two, Shape.rowMajor_val_one]
    show 0 * 16 + (x 0).val = (x 0).val
    omega
  congr 1
  funext a
  refine Fin.ext ?_
  match a with
  | 0 => show t + 1 * 0 = t; omega
  | 1 => show o + 1 * (x 0).val = r.val; omega

/-- One counting trip carries the pass on by one. -/
theorem wp_trip {c : Fin τ.nSC} {s : Fin τ.nSub} (d : Dev nD)
    (ids : Memref sig .scVector .vmem S50x128 .i32) (cnt : Memref sig .scVector .vmem S32x1024 .f32)
    (offA offB : Fin 2 → ℕ) (inbA : ∀ a, offA a + S1x16.size a ≤ S50x128.size a) (inbB : ∀ a, offB a + S1x16.size a ≤ S50x128.size a)
    (rowsA rowsB : IVec S16 32) (chkA chkB : IVec S16 32 → IVec S16 32 → Prop)
    (decA : ∀ v r, Decidable (chkA v r)) (decB : ∀ v r, Decidable (chkB v r))
    (hA : ∀ v r, chkA v r → ∀ a x, ((![r, v] : Fin 2 → IVec S16 32) a x).toNat < S32x1024.size a)
    (hB : ∀ v r, chkB v r → ∀ a x, ((![r, v] : Fin 2 → IVec S16 32) a x).toNat < S32x1024.size a)
    (v : FVec F S16 .f32) (mask : IVec S16 1) (add : Bool) (hst : (cnt.access (Rect.whole S32x1024)).Stores Finset.univ)
    (hlA : ids.view.LoadsAt (Rect.unit (s := S50x128) offA S1x16.size inbA).toLoadRect)
    (hlB : ids.view.LoadsAt (Rect.unit (s := S50x128) offB S1x16.size inbB).toLoadRect)
    (cA : ∀ v r, (∀ a x, ((![r, v] : Fin 2 → IVec S16 32) a x).toNat < S32x1024.size a) → chkA v r)
    (cB : ∀ v r, (∀ a x, ((![r, v] : Fin 2 → IVec S16 32) a x).toNat < S32x1024.size a) → chkB v r)
    (idv : IVec S50x128 32) (hidv : ∀ x, (idv x).toNat < 1024) (k : Fin 4) (t : ℕ) (ht : t < 50)
    (hoA : offA = ![t, 32 * k.val]) (hoB : offB = ![t, 32 * k.val + 16])
    (hrA : ∀ x : S16.Idx, (rowsA x).toNat = 0 + (x 0).val) (hrB : ∀ x : S16.Idx, (rowsB x).toNat = 16 + (x 0).val)
    (y : F .f32) (hv : ∀ x, v x = y) (hm : ∀ x, mask x = 1) (f : FVec F S32x1024 .f32) :
    iprop(Holds (V d c s) ids idv ∗ Holds (V d c s) cnt (sweep (hits idv k) add y t f))
      ⊢ wp frame (wpE (defs₀ (F := F)) 𝒱₀ (V d c s) none) Set.univ
          (trip ids cnt offA offB inbA inbB rowsA rowsB chkA chkB decA decB hA hB v mask add hst hlA hlB)
          fun _ => iprop(Holds (V d c s) ids idv ∗ Holds (V d c s) cnt (sweep (hits idv k) add y (t + 1) f)) := by
  have hk : k.val < 4 := k.isLt
  have lt16 : ∀ x : S16.Idx, (x 0).val < 16 := fun x => (x 0).isLt
  have eA : ∀ (x : S16.Idx) (r : Fin 128), r.val = 32 * k.val + (x 0).val →
      topics idv (Rect.unit (s := S50x128) offA S1x16.size inbA) shapeCasts_S1x16_S16 x = idv (ixP ⟨t, ht⟩ r) :=
    fun x r hr => topics_apply idv offA inbA t _ hoA ht x r hr
  have eB : ∀ (x : S16.Idx) (r : Fin 128), r.val = 32 * k.val + 16 + (x 0).val →
      topics idv (Rect.unit (s := S50x128) offB S1x16.size inbB) shapeCasts_S1x16_S16 x = idv (ixP ⟨t, ht⟩ r) :=
    fun x r hr => topics_apply idv offB inbB t _ hoB ht x r hr
  have okA : ∀ a x, ((![rowsA, topics idv (Rect.unit (s := S50x128) offA S1x16.size inbA) shapeCasts_S1x16_S16] : Fin 2 → IVec S16 32) a x).toNat
      < S32x1024.size a := by
    intro a x
    have := lt16 x
    match a with
    | 0 => show (rowsA x).toNat < 32; rw [hrA]; omega
    | 1 => show (topics idv _ _ x).toNat < 1024; rw [eA x ⟨32 * k.val + (x 0).val, by omega⟩ rfl]; exact hidv _
  have okB : ∀ a x, ((![rowsB, topics idv (Rect.unit (s := S50x128) offB S1x16.size inbB) shapeCasts_S1x16_S16] : Fin 2 → IVec S16 32) a x).toNat
      < S32x1024.size a := by
    intro a x
    have := lt16 x
    match a with
    | 0 => show (rowsB x).toNat < 32; rw [hrB]; omega
    | 1 => show (topics idv _ _ x).toNat < 1024; rw [eB x ⟨32 * k.val + 16 + (x 0).val, by omega⟩ rfl]; exact hidv _
  have hnext := sweep_trip (F := F) (hits idv k) add y t f rowsA rowsB
    (topics idv (Rect.unit (s := S50x128) offA S1x16.size inbA) shapeCasts_S1x16_S16)
    (topics idv (Rect.unit (s := S50x128) offB S1x16.size inbB) shapeCasts_S1x16_S16) v mask okA okB hrA hrB hv hm
    (fun j x hx => by
      rw [eA x (pieceRow k (j 0)) (by show 32 * k.val + (j 0).val = _; rw [hx])]
      exact ⟨fun ⟨_, h⟩ => h, fun h => ⟨ht, h⟩⟩)
    (fun j x hx => by
      rw [eB x (pieceRow k (j 0)) (by show 32 * k.val + (j 0).val = _; rw [← hx]; omega)]
      exact ⟨fun ⟨_, h⟩ => h, fun h => ⟨ht, h⟩⟩)
  iintro H
  iapply (wp_half d ids cnt offA inbA rowsA chkA decA hA v mask add hst hlA idv _ (cA _ _ okA)
    (fun _ : PUnit.{1} => do
      let ld' : Vec F S1x16 .i32 ← Prog.lift (.load ids (Rect.unit (s := S50x128) offB S1x16.size inbB).toLoadRect hlB)
      have w' : Vec F S16 .i32 := shapeCast S16 ld' shapeCasts_S1x16_S16
      have hw' : chkB w' rowsB := (← Prog.lift (TpuEff.assume (chkB w' rowsB) (decB w' rowsB))).down
      SparseCore.vectorStoreIdx cnt ![rowsB, w'] v mask add (hB w' rowsB hw') hst
      pure 0#32)) $$ H
  iintro H
  iapply (wp_half d ids cnt offB inbB rowsB chkB decB hB v mask add hst hlB idv _ (cB _ _ okB) (fun _ : PUnit.{1} => pure 0#32)) $$ H
  iintro H
  rw [hnext]
  iapply (show iprop(Holds (V d c s) ids idv ∗ Holds (V d c s) cnt (sweep (hits idv k) add y (t + 1) f))
    ⊢ wp frame (wpE (defs₀ (F := F)) 𝒱₀ (V d c s) none) Set.univ (.ret 0#32 : Prog (TpuEff nD τ sig (Elt F) Λ₀ (.scVector c s)) (BitVec 32))
      fun _ => iprop(Holds (V d c s) ids idv ∗ Holds (V d c s) cnt (sweep (hits idv k) add y (t + 1) f)) from fupd_intro)
  iexact H

/-- A counting loop: fifty trips over the piece's topics. -/
theorem wp_counting {c : Fin τ.nSC} {s : Fin τ.nSub} (d : Dev nD)
    (ids : Memref sig .scVector .vmem S50x128 .i32) (cnt : Memref sig .scVector .vmem S32x1024 .f32)
    (l : Scf.Loop 32) (hl : l.OK) (h50 : l.trips = 50)
    (body : Fin l.trips → BitVec 32 → Prog (TpuEff nD τ sig (Elt F) Λ₀ (.scVector c s)) (BitVec 32))
    (offA offB : Fin l.trips → Fin 2 → ℕ) (inbA : ∀ t, ∀ a, offA t a + S1x16.size a ≤ S50x128.size a)
    (inbB : ∀ t, ∀ a, offB t a + S1x16.size a ≤ S50x128.size a)
    (rowsA rowsB : IVec S16 32) (chkA chkB : IVec S16 32 → IVec S16 32 → Prop)
    (decA : ∀ v r, Decidable (chkA v r)) (decB : ∀ v r, Decidable (chkB v r))
    (hA : ∀ v r, chkA v r → ∀ a x, ((![r, v] : Fin 2 → IVec S16 32) a x).toNat < S32x1024.size a)
    (hB : ∀ v r, chkB v r → ∀ a x, ((![r, v] : Fin 2 → IVec S16 32) a x).toNat < S32x1024.size a)
    (v : FVec F S16 .f32) (mask : IVec S16 1) (add : Bool) (hst : (cnt.access (Rect.whole S32x1024)).Stores Finset.univ)
    (hlA : ∀ t, ids.view.LoadsAt (Rect.unit (s := S50x128) (offA t) S1x16.size (inbA t)).toLoadRect)
    (hlB : ∀ t, ids.view.LoadsAt (Rect.unit (s := S50x128) (offB t) S1x16.size (inbB t)).toLoadRect)
    (hbody : ∀ t a, body t a = trip ids cnt (offA t) (offB t) (inbA t) (inbB t) rowsA rowsB chkA chkB decA decB hA hB v mask add hst (hlA t) (hlB t))
    (cA : ∀ v r, (∀ a x, ((![r, v] : Fin 2 → IVec S16 32) a x).toNat < S32x1024.size a) → chkA v r)
    (cB : ∀ v r, (∀ a x, ((![r, v] : Fin 2 → IVec S16 32) a x).toNat < S32x1024.size a) → chkB v r)
    (idv : IVec S50x128 32) (hidv : ∀ x, (idv x).toNat < 1024) (k : Fin 4)
    (hoA : ∀ t, offA t = ![t.val, 32 * k.val]) (hoB : ∀ t, offB t = ![t.val, 32 * k.val + 16])
    (hrA : ∀ x : S16.Idx, (rowsA x).toNat = 0 + (x 0).val) (hrB : ∀ x : S16.Idx, (rowsB x).toNat = 16 + (x 0).val)
    (y : F .f32) (hv : ∀ x, v x = y) (hm : ∀ x, mask x = 1) (f : FVec F S32x1024 .f32)
    {α : Type} {Q : α → sProp 𝕄} {kk : BitVec 32 → Prog (TpuEff nD τ sig (Elt F) Λ₀ (.scVector c s)) α} :
    iprop(Holds (V d c s) ids idv ∗ Holds (V d c s) cnt f)
      ⊢ iprop((∀ a, (Holds (V d c s) ids idv ∗ Holds (V d c s) cnt (sweep (hits idv k) add y 50 f))
            -∗ wp frame (wpE (defs₀ (F := F)) 𝒱₀ (V d c s) none) Set.univ (kk a) Q)
        -∗ wp frame (wpE (defs₀ (F := F)) 𝒱₀ (V d c s) none) Set.univ (Scf.Loop.for l hl 0#32 body >>= kk) Q) := by
  have h := Scf.wp_for_bind frame (wpE (defs₀ (F := F)) 𝒱₀ (V d c s) none) Set.univ l.lb l.ub l.st hl 0#32 body
    (fun t _ => iprop(Holds (V d c s) ids idv ∗ Holds (V d c s) cnt (sweep (hits idv k) add y t f)))
    (fun t a => by
      rw [hbody]
      exact wp_trip d ids cnt (offA t) (offB t) (inbA t) (inbB t) rowsA rowsB chkA chkB decA decB hA hB v mask add hst (hlA t) (hlB t)
        cA cB idv hidv k t.val (h50 ▸ t.isLt) (hoA t) (hoB t) hrA hrB y hv hm f) (kk := kk) (Q := Q)
  rw [show Scf.trips l.lb l.ub l.st = 50 from h50] at h
  exact h

/-! ## A zeroing loop -/

/-- Sixteen-lane stores of `w` one after another, at the offsets listed, each after a load of the same lanes that nothing uses. -/
def stores {c : Fin τ.nSC} {s : Fin τ.nSub} (cnt : Memref sig .scVector .vmem S32x1024 .f32) (w : FVec F S1x16 .f32)
    (hl : ∀ (o : Fin 2 → ℕ) (inb : ∀ a, o a + S1x16.size a ≤ S32x1024.size a), cnt.view.LoadsAt (Rect.unit (s := S32x1024) o S1x16.size inb).toLoadRect)
    (hs : ∀ (o : Fin 2 → ℕ) (inb : ∀ a, o a + S1x16.size a ≤ S32x1024.size a), (cnt.access (Rect.unit (s := S32x1024) o S1x16.size inb)).Stores Finset.univ)
    (last : Prog (TpuEff nD τ sig (Elt F) Λ₀ (.scVector c s)) (BitVec 32)) :
    (L : List (Fin 2 → ℕ)) → (∀ o ∈ L, ∀ a, o a + S1x16.size a ≤ S32x1024.size a) → Prog (TpuEff nD τ sig (Elt F) Λ₀ (.scVector c s)) (BitVec 32)
  | [], _ => last
  | o :: L, h =>
    .op (.load cnt (Rect.unit (s := S32x1024) o S1x16.size (h o List.mem_cons_self)).toLoadRect (hl _ _)) fun _ =>
      .op (.store cnt (Rect.unit (s := S32x1024) o S1x16.size (h o List.mem_cons_self)) w Finset.univ (hs _ _) (.inl rfl)) fun _ =>
        stores cnt w hl hs last L fun o ho => h o (List.mem_cons_of_mem _ ho)

/-- The lanes a store at offset `o` covers. -/
def covers (o : Fin 2 → ℕ) (j : S32x1024.Idx) : Prop := (j 0).val = o 0 ∧ o 1 ≤ (j 1).val ∧ (j 1).val < o 1 + 16

open Classical in
/-- A buffer after stores of `z` at the offsets listed. -/
def filled (z : F .f32) (L : List (Fin 2 → ℕ)) (g : FVec F S32x1024 .f32) : FVec F S32x1024 .f32 :=
  fun j => if ∃ o ∈ L, covers o j then z else g j

open Classical in
/-- One such store. -/
theorem store_read (cnt : Memref sig .scVector .vmem S32x1024 .f32) (o : Fin 2 → ℕ) (inb : ∀ a, o a + S1x16.size a ≤ S32x1024.size a)
    (w : FVec F S1x16 .f32) (z : F .f32) (hw : ∀ x, w x = z) (f : cnt.view.ty.Contents (Elt F)) :
    cnt.view.read (Elt F) ((cnt.access (Rect.unit (s := S32x1024) o S1x16.size inb)).write (Elt F) f w Finset.univ)
      = filled z [o] (cnt.view.read (Elt F) f) := by
  funext j
  unfold filled
  by_cases hj : j ∈ (Rect.unit (s := S32x1024) o S1x16.size inb).set
  · have hc : covers o j := by
      rw [Rect.mem_set_unit] at hj
      have h0 := hj 0; have h1 := hj 1
      have e0 : S1x16.size 0 = 1 := rfl
      have e1 : S1x16.size 1 = 16 := rfl
      rw [e0] at h0; rw [e1] at h1
      exact ⟨by omega, by omega, by omega⟩
    rw [if_pos ⟨o, List.mem_cons_self, hc⟩]
    rw [← Rect.map_emb_univ] at hj
    obtain ⟨x, -, rfl⟩ := Finset.mem_map.mp hj
    exact (View.read_slice_write_emb (v := cnt.view) _ f w (Finset.mem_univ x)).trans (hw x)
  · have hc : ¬ covers o j := fun hc => hj (by
      rw [Rect.mem_set_unit]
      intro a
      match a with
      | 0 => exact ⟨hc.1.ge, by have := hc.1; show _ < o 0 + 1; omega⟩
      | 1 => exact ⟨hc.2.1, hc.2.2⟩)
    rw [if_neg (by rintro ⟨o', ho', h⟩; rw [List.mem_singleton.mp ho'] at h; exact hc h)]
    exact View.read_slice_write_of_not_mem (v := cnt.view) _ f w _ (by rw [Rect.map_emb_univ]; exact hj)

/-- The stores, one after another. -/
theorem wp_stores {c : Fin τ.nSC} {s : Fin τ.nSub} (d : Dev nD) (cnt : Memref sig .scVector .vmem S32x1024 .f32) (w : FVec F S1x16 .f32)
    (hl : ∀ (o : Fin 2 → ℕ) (inb : ∀ a, o a + S1x16.size a ≤ S32x1024.size a), cnt.view.LoadsAt (Rect.unit (s := S32x1024) o S1x16.size inb).toLoadRect)
    (hs : ∀ (o : Fin 2 → ℕ) (inb : ∀ a, o a + S1x16.size a ≤ S32x1024.size a), (cnt.access (Rect.unit (s := S32x1024) o S1x16.size inb)).Stores Finset.univ)
    (z : F .f32) (hw : ∀ x, w x = z) (last : Prog (TpuEff nD τ sig (Elt F) Λ₀ (.scVector c s)) (BitVec 32)) (Q : BitVec 32 → sProp 𝕄) :
    ∀ (L : List (Fin 2 → ℕ)) (h : ∀ o ∈ L, ∀ a, o a + S1x16.size a ≤ S32x1024.size a) (g : FVec F S32x1024 .f32),
      Holds (V d c s) cnt g ⊢ iprop((Holds (V d c s) cnt (filled z L g)
          -∗ wp frame (wpE (defs₀ (F := F)) 𝒱₀ (V d c s) none) Set.univ last Q)
        -∗ wp frame (wpE (defs₀ (F := F)) 𝒱₀ (V d c s) none) Set.univ (stores cnt w hl hs last L h) Q)
  | [], _, g => by
    have e : filled z [] g = g := by funext j; simp [filled]
    rw [e]
    iintro H Hk
    iapply Hk; iexact H
  | o :: L, h, g => by
    have e : filled z (o :: L) g = filled z L (filled z [o] g) := by
      funext j
      unfold filled
      by_cases h1 : ∃ o' ∈ L, covers o' j
      · obtain ⟨o', ho', hc⟩ := h1
        rw [if_pos ⟨o', List.mem_cons_of_mem _ ho', hc⟩, if_pos ⟨o', ho', hc⟩]
      · by_cases h2 : covers o j
        · rw [if_pos ⟨o, List.mem_cons_self, h2⟩, if_neg h1, if_pos ⟨o, List.mem_cons_self, h2⟩]
        · rw [if_neg (by rintro ⟨o', ho', hc⟩
                         rcases List.mem_cons.mp ho' with rfl | ho'
                         · exact h2 hc
                         · exact h1 ⟨o', ho', hc⟩), if_neg h1,
            if_neg (by rintro ⟨o', ho', hc⟩; rw [List.mem_singleton.mp ho'] at hc; exact h2 hc)]
    rw [e]
    unfold stores
    iintro H Hk
    unfold Holds
    icases H with ⟨%f, %hf, H⟩
    subst hf
    iapply (wp_load_rect 𝒱₀ (V d c s) none Set.univ (m := cnt) (r := Rect.unit (s := S32x1024) o S1x16.size (h o List.mem_cons_self)) (q := fullShare) (f := f)
      (S := cnt.view.set) (View.set_slice_subset _ _)) $$ H
    iintro H
    iapply (wp_store 𝒱₀ (V d c s) none Set.univ (m := cnt) (r := Rect.unit (s := S32x1024) o S1x16.size (h o List.mem_cons_self)) (w := w) (Mk := Finset.univ) (f := f)
      (S := cnt.view.set) (View.set_slice_subset _ _)) $$ H
    iintro H
    iapply (wp_stores d cnt w hl hs z hw last Q L (fun o ho => h o (List.mem_cons_of_mem _ ho)) (filled z [o] (cnt.view.read (Elt F) f))) $$ [H]
    · unfold Holds
      iexists _; isplitr
      swap; · iexact H
      ipureintro
      exact store_read cnt o _ w z hw f
    unfold Holds
    iexact Hk

open Classical in
/-- A buffer whose first `t` rows are zero. -/
def zeroed (z : F .f32) (t : ℕ) (g : FVec F S32x1024 .f32) : FVec F S32x1024 .f32 := fun j => if (j 0).val < t then z else g j

/-- A zeroing loop: thirty-two trips, each over the sixty-four pieces of a row. -/
theorem wp_zeroing {c : Fin τ.nSC} {s : Fin τ.nSub} (d : Dev nD) (cnt : Memref sig .scVector .vmem S32x1024 .f32) (w : FVec F S1x16 .f32)
    (hl : ∀ (o : Fin 2 → ℕ) (inb : ∀ a, o a + S1x16.size a ≤ S32x1024.size a), cnt.view.LoadsAt (Rect.unit (s := S32x1024) o S1x16.size inb).toLoadRect)
    (hs : ∀ (o : Fin 2 → ℕ) (inb : ∀ a, o a + S1x16.size a ≤ S32x1024.size a), (cnt.access (Rect.unit (s := S32x1024) o S1x16.size inb)).Stores Finset.univ)
    (z : F .f32) (hw : ∀ x, w x = z) (l : Scf.Loop 32) (hok : l.OK) (h32 : l.trips = 32)
    (body : Fin l.trips → BitVec 32 → Prog (TpuEff nD τ sig (Elt F) Λ₀ (.scVector c s)) (BitVec 32))
    (L : Fin l.trips → List (Fin 2 → ℕ)) (hL : ∀ t, ∀ o ∈ L t, ∀ a, o a + S1x16.size a ≤ S32x1024.size a)
    (hbody : ∀ t a, body t a = stores cnt w hl hs (.ret 0#32) (L t) (hL t))
    (hrow : ∀ t, L t = (List.range 64).map fun j => ![t.val, 16 * j]) (g : FVec F S32x1024 .f32)
    {α : Type} {Q : α → sProp 𝕄} {kk : BitVec 32 → Prog (TpuEff nD τ sig (Elt F) Λ₀ (.scVector c s)) α} :
    Holds (V d c s) cnt g
      ⊢ iprop((∀ a, Holds (V d c s) cnt (fun _ => z) -∗ wp frame (wpE (defs₀ (F := F)) 𝒱₀ (V d c s) none) Set.univ (kk a) Q)
        -∗ wp frame (wpE (defs₀ (F := F)) 𝒱₀ (V d c s) none) Set.univ (Scf.Loop.for l hok 0#32 body >>= kk) Q) := by
  have hstep : ∀ t : Fin l.trips, filled z (L t) (zeroed z t.val g) = zeroed z (t.val + 1) g := by
    intro t
    funext j
    unfold filled zeroed
    rw [hrow]
    by_cases hj : (j 0).val = t.val
    · rw [if_pos, if_pos (by omega)]
      have h1 : (j 1).val < 1024 := (j 1).isLt
      refine ⟨![t.val, 16 * ((j 1).val / 16)], List.mem_map.mpr ⟨(j 1).val / 16, List.mem_range.mpr (by omega), rfl⟩, hj, ?_, ?_⟩
      · show 16 * ((j 1).val / 16) ≤ _; omega
      · show _ < 16 * ((j 1).val / 16) + 16; omega
    · rw [if_neg]
      · have e : ((j 0).val < t.val + 1) ↔ (j 0).val < t.val := by omega
        simp only [e]
      · rintro ⟨o, ho, hc⟩
        obtain ⟨i, -, rfl⟩ := List.mem_map.mp ho
        exact hj hc.1
  have h := Scf.wp_for_bind frame (wpE (defs₀ (F := F)) 𝒱₀ (V d c s) none) Set.univ l.lb l.ub l.st hok 0#32 body
    (fun t _ => Holds (V d c s) cnt (zeroed z t g))
    (fun t a => by
      rw [hbody]
      iintro H
      iapply (wp_stores d cnt w hl hs z hw (.ret 0#32) (fun _ => Holds (V d c s) cnt (zeroed z (t.val + 1) g)) (L t) (hL t) (zeroed z t.val g)) $$ H
      rw [hstep]
      iintro H
      iapply (show Holds (V d c s) cnt (zeroed z (t.val + 1) g)
        ⊢ wp frame (wpE (defs₀ (F := F)) 𝒱₀ (V d c s) none) Set.univ (.ret 0#32 : Prog (TpuEff nD τ sig (Elt F) Λ₀ (.scVector c s)) (BitVec 32))
          fun _ => Holds (V d c s) cnt (zeroed z (t.val + 1) g) from fupd_intro)
      iexact H) (kk := kk) (Q := Q)
  rw [show Scf.trips l.lb l.ub l.st = 32 from h32,
    show zeroed z 0 g = g from funext fun j => if_neg (Nat.not_lt_zero _),
    show zeroed z 32 g = (fun _ => z) from funext fun j => if_pos (j 0).isLt] at h
  exact h

end Cert.Proof.Lookup

end
-- ==== Proof.Tile.lean ====
/-
  One tile's task, from the arrays it is handed to the arrays it leaves.
-/
module

public import proofs.«01_k».proof.Proof.Loops

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "b0V" => (Memref.whole Cert.KernelIdeal.main_v1_scv : Memref Cert.KernelIdeal.sig Kind.scVector Space.hbm Cert.KernelIdeal.S4096 EltTy.i32)
local notation "b1V" => (Memref.whole Cert.KernelIdeal.main_v3_scv : Memref Cert.KernelIdeal.sig Kind.scVector Space.hbm Cert.KernelIdeal.S4096 EltTy.i32)
local notation "b2V" => (Memref.whole Cert.KernelIdeal.main_v5_scv : Memref Cert.KernelIdeal.sig Kind.scVector Space.hbm Cert.KernelIdeal.S4096 EltTy.i32)
local notation "mtV" => (Memref.whole Cert.KernelIdeal.main_v6_scv : Memref Cert.KernelIdeal.sig Kind.scVector Space.hbm Cert.KernelIdeal.S50x4096 EltTy.i32)
local notation "gtV" => (Memref.whole Cert.KernelIdeal.main_v7_scv : Memref Cert.KernelIdeal.sig Kind.scVector Space.hbm Cert.KernelIdeal.S50x4096 EltTy.i32)
local notation "meV" => (Memref.whole Cert.KernelIdeal.main_arg3_scv : Memref Cert.KernelIdeal.sig Kind.scVector Space.hbm Cert.KernelIdeal.S100000x128 EltTy.f32)
local notation "geV" => (Memref.whole Cert.KernelIdeal.main_arg4_scv : Memref Cert.KernelIdeal.sig Kind.scVector Space.hbm Cert.KernelIdeal.S100000x128 EltTy.f32)
local notation "orgV" => (Memref.whole Cert.KernelIdeal.main_v9_0_scv : Memref Cert.KernelIdeal.sig Kind.scVector Space.hbm Cert.KernelIdeal.S4096x128 EltTy.f32)
local notation "ggV" => (Memref.whole Cert.KernelIdeal.main_v9_1_scv : Memref Cert.KernelIdeal.sig Kind.scVector Space.hbm Cert.KernelIdeal.S4096x128 EltTy.f32)
local notation "memV" => (Memref.whole Cert.KernelIdeal.main_v9_2_scv : Memref Cert.KernelIdeal.sig Kind.scVector Space.hbm Cert.KernelIdeal.S4096x128 EltTy.f32)
local notation "ccV" => (Memref.whole Cert.KernelIdeal.main_v9_3_scv : Memref Cert.KernelIdeal.sig Kind.scVector Space.hbm Cert.KernelIdeal.S4096x1024 EltTy.f32)
local notation "i0S" => (Memref.whole Cert.KernelIdeal.cc0_scratch0 : Memref Cert.KernelIdeal.sig Kind.scVector Space.vmem Cert.KernelIdeal.S128 EltTy.i32)
local notation "i1S" => (Memref.whole Cert.KernelIdeal.cc0_scratch1 : Memref Cert.KernelIdeal.sig Kind.scVector Space.vmem Cert.KernelIdeal.S128 EltTy.i32)
local notation "r0S" => (Memref.whole Cert.KernelIdeal.cc0_scratch2 : Memref Cert.KernelIdeal.sig Kind.scVector Space.vmem Cert.KernelIdeal.S128x128 EltTy.f32)
local notation "r1S" => (Memref.whole Cert.KernelIdeal.cc0_scratch3 : Memref Cert.KernelIdeal.sig Kind.scVector Space.vmem Cert.KernelIdeal.S128x128 EltTy.f32)
local notation "mtS" => (Memref.whole Cert.KernelIdeal.cc0_scratch4 : Memref Cert.KernelIdeal.sig Kind.scVector Space.vmem Cert.KernelIdeal.S50x128 EltTy.i32)
local notation "gtS" => (Memref.whole Cert.KernelIdeal.cc0_scratch5 : Memref Cert.KernelIdeal.sig Kind.scVector Space.vmem Cert.KernelIdeal.S50x128 EltTy.i32)
local notation "c0S" => (Memref.whole Cert.KernelIdeal.cc0_scratch6 : Memref Cert.KernelIdeal.sig Kind.scVector Space.vmem Cert.KernelIdeal.S32x1024 EltTy.f32)
local notation "c1S" => (Memref.whole Cert.KernelIdeal.cc0_scratch7 : Memref Cert.KernelIdeal.sig Kind.scVector Space.vmem Cert.KernelIdeal.S32x1024 EltTy.f32)

/-! ## The tile, its pieces and its scratch -/

section Tile

variable (d : Dev nD) (L : grid0.Coords)

/-- The tile's core. -/
abbrev cV (L : grid0.Coords) : Fin τ.nSC := (L 0).castLE hcore0
/-- The tile's number in its core. -/
abbrev jV (L : grid0.Coords) : Fin τ.nSub := (L 1).castLE hsub0
/-- The tile's thread. -/
abbrev thr (d : Dev nD) (L : grid0.Coords) : Thread nD τ := V d (cV L) (jV L)
/-- The grid has two cores. -/
theorem bound_zero : grid0.bound 0 = 2 := rfl
/-- Each core has sixteen tiles. -/
theorem bound_one : grid0.bound 1 = 16 := rfl
/-- The tile's number. -/
abbrev wid (L : grid0.Coords) : Fin 32 := tileNo (Fin.cast bound_zero (L 0)) (Fin.cast bound_one (L 1))
/-- A tile's number is twice its place in the core, plus the core's. -/
theorem wid_val : (wid L).val = 2 * (L 1).val + (L 0).val := rfl

/-- The tile's part of each array, as the task addresses it. -/
abbrev listK (M : Memref sig .scVector .hbm S4096 .i32) (L : grid0.Coords) : Memref sig .scVector .hbm S128 .i32 :=
  M.slice (Rect.unit (s := S4096) (k0_off1 L) S128.size (k0_off1_inb L)) (fun _ => rfl)
/-- The tile's columns of a topic array. -/
abbrev topK (M : Memref sig .scVector .hbm S50x4096 .i32) (L : grid0.Coords) : Memref sig .scVector .hbm S50x128 .i32 :=
  M.slice (Rect.unit (s := S50x4096) (k0_off131 L) S50x128.size (k0_off131_inb L)) (fun _ => rfl)
/-- A table, whole. -/
abbrev tblK (M : Memref sig .scVector .hbm S100000x128 .f32) : Memref sig .scVector .hbm S100000x128 .f32 :=
  M.slice (Rect.unit (s := S100000x128) ![0, 0] S100000x128.size inb_S100000x128_S100000x128_0_0) (fun _ => rfl)
/-- The tile's rows of a gathered array. -/
abbrev rowsK (M : Memref sig .scVector .hbm S4096x128 .f32) (L : grid0.Coords) : Memref sig .scVector .hbm S128x128 .f32 :=
  M.slice (Rect.unit (s := S4096x128) (k0_off2 L) S128x128.size (k0_off2_inb L)) (fun _ => rfl)
/-- A chunk of the tile's rows of the count array. -/
abbrev chunkK (M : Memref sig .scVector .hbm S4096x1024 .f32) (L : grid0.Coords) (k : Fin 4) : Memref sig .scVector .hbm S32x1024 .f32 :=
  M.slice (Rect.unit (s := S4096x1024) (k0_off136 L (BitVec.ofNat 32 (32 * k.val))) S32x1024.size (k0_off136_inb L k)) (fun _ => rfl)

/-- The rows of a gathered array the task addresses are the tile's. -/
theorem rowsK_set : (Rect.unit (s := S4096x128) (k0_off2 L) S128x128.size (k0_off2_inb L)).set = rowSet (wid L) := by
  ext x
  rw [Rect.mem_set_unit, rowSet, Finset.mem_filter, k0_off2_eq]
  have hx : (x 0).val < 4096 := (x 0).isLt
  have hy : (x 1).val < 128 := (x 1).isLt
  have hw := wid_val L
  constructor
  · intro h
    have h0 := h 0
    simp only [Matrix.cons_val_zero] at h0
    exact ⟨Finset.mem_univ _, by rw [hw]; omega⟩
  · rintro ⟨-, h⟩ a
    rw [hw] at h
    match a with
    | 0 => show 256 * (L 1).val + 128 * (L 0).val ≤ (x 0).val ∧ (x 0).val < 256 * (L 1).val + 128 * (L 0).val + 128; omega
    | 1 => show 0 ≤ (x 1).val ∧ (x 1).val < 0 + 128; omega

/-- The rows of the count array the task addresses as its `k`-th piece. -/
theorem chunkK_set (k : Fin 4) :
    (Rect.unit (s := S4096x1024) (k0_off136 L (BitVec.ofNat 32 (32 * k.val))) S32x1024.size (k0_off136_inb L k)).set = chunkSet (wid L) k := by
  ext x
  rw [Rect.mem_set_unit, chunkSet, Finset.mem_filter, k0_off136_eq]
  have hx : (x 0).val < 4096 := (x 0).isLt
  have hy : (x 1).val < 1024 := (x 1).isLt
  have hw := wid_val L
  have hk : k.val < 4 := k.isLt
  constructor
  · intro h
    have h0 := h 0
    simp only [Matrix.cons_val_zero] at h0
    exact ⟨Finset.mem_univ _, by rw [hw]; omega⟩
  · rintro ⟨-, h⟩ a
    rw [hw] at h
    match a with
    | 0 => show 256 * (L 1).val + 128 * (L 0).val + 32 * k.val ≤ (x 0).val ∧ (x 0).val < 256 * (L 1).val + 128 * (L 0).val + 32 * k.val + 32; omega
    | 1 => show 0 ≤ (x 1).val ∧ (x 1).val < 0 + 1024; omega

/-! ### What a tile owns -/

/-- A big separating conjunction with the members of a list taken out one by one. -/
theorem bigSep_list {I : Type} [DecidableEq I] (Φ : I → sProp 𝕄) : ∀ (l : List I) (S : Finset I), l.Nodup → (∀ a ∈ l, a ∈ S) →
    bigSep S Φ = l.foldr (fun a R => iprop(Φ a ∗ R)) (bigSep (S \ l.toFinset) Φ)
  | [], S, _, _ => by simp
  | a :: l, S, hn, hm => by
    have hn' := List.nodup_cons.mp hn
    rw [SparseCore.bigSep_erase' (hm a List.mem_cons_self),
      bigSep_list Φ l (S.erase a) hn'.2 fun b hb => Finset.mem_erase.mpr ⟨fun e => hn'.1 (e ▸ hb), hm b (List.mem_cons_of_mem _ hb)⟩]
    rw [List.foldr_cons, show S.erase a \ l.toFinset = S \ (a :: l).toFinset by
      ext x; simp only [Finset.mem_sdiff, Finset.mem_erase, List.toFinset_cons, Finset.mem_insert, List.mem_toFinset]; tauto]

/-- The semaphores the task uses: six copies' of its scratch, five of its inner scopes. -/
def semList : List (SemLoc sig) :=
  [.dma cc0_scratch8.sem, .dma cc0_scratch9.sem, .dma cc0_scratch10.sem, .dma cc0_scratch11.sem, .dma cc0_scratch12.sem, .dma cc0_scratch13.sem,
    .dma cc0_scoped0.sem, .dma cc0_scoped1.sem, .dma cc0_scoped2.sem, .dma cc0_scoped3.sem, .dma cc0_scoped4.sem]
/-- The scratch buffers. -/
def bufList : List (Ref sig .scVector) :=
  [cc0_scratch0, cc0_scratch1, cc0_scratch2, cc0_scratch3, cc0_scratch4, cc0_scratch5, cc0_scratch6, cc0_scratch7]

/-- The scratch buffers are distinct. -/
theorem bufList_nodup : bufList.Nodup := by decide

/-- A transfer semaphore's cell on the tile. -/
abbrev semCell (d : Dev nD) (L : grid0.Coords) (s : DmaSems sig S_) : GSem nD τ sig := (thr d L, .dma s.sem)

/-- The tile's semaphores at zero: those the task uses, and the rest. -/
theorem ownSems0_V :
    (ownSems0 (thr d L) : sProp 𝕄)
      = iprop(semVal (semCell d L cc0_scratch8) 0 ∗ semVal (semCell d L cc0_scratch9) 0 ∗ semVal (semCell d L cc0_scratch10) 0
          ∗ semVal (semCell d L cc0_scratch11) 0 ∗ semVal (semCell d L cc0_scratch12) 0 ∗ semVal (semCell d L cc0_scratch13) 0
          ∗ semVal (semCell d L cc0_scoped0) 0 ∗ semVal (semCell d L cc0_scoped1) 0 ∗ semVal (semCell d L cc0_scoped2) 0
          ∗ semVal (semCell d L cc0_scoped3) 0 ∗ semVal (semCell d L cc0_scoped4) 0
          ∗ bigSep (ownCells (thr d L) \ (semList.map fun s => (thr d L, s)).toFinset) fun g => semVal g 0) := by
  unfold SparseCore.Cfg.ownSems0
  rw [bigSep_list _ (semList.map fun s => (thr d L, s)) (ownCells (thr d L)) ?_ ?_]
  · generalize bigSep (ownCells (thr d L) \ (semList.map fun s => (thr d L, s)).toFinset) (fun g => (semVal g 0 : sProp 𝕄)) = R
    simp only [semList, List.map_cons, List.map_nil, List.foldr_cons, List.foldr_nil]
  · exact List.Nodup.map (fun a b h => (Prod.mk.inj h).2) (by decide)
  · intro g hg
    obtain ⟨s, hs, rfl⟩ := List.mem_map.mp hg
    exact mem_ownCells.mpr ⟨rfl, (show ∀ s ∈ semList, s.isScoped .scVector = true by decide) s hs⟩

/-- The tile's buffers: the task's scratch, at some contents, and the rest. -/
theorem ownBufs_V :
    (ownBufs (thr d L) : sProp 𝕄)
      = iprop((∃ f, (thr d L).loc cc0_scratch0 ↦{fullShare} f) ∗ (∃ f, (thr d L).loc cc0_scratch1 ↦{fullShare} f)
          ∗ (∃ f, (thr d L).loc cc0_scratch2 ↦{fullShare} f) ∗ (∃ f, (thr d L).loc cc0_scratch3 ↦{fullShare} f)
          ∗ (∃ f, (thr d L).loc cc0_scratch4 ↦{fullShare} f) ∗ (∃ f, (thr d L).loc cc0_scratch5 ↦{fullShare} f)
          ∗ (∃ f, (thr d L).loc cc0_scratch6 ↦{fullShare} f) ∗ (∃ f, (thr d L).loc cc0_scratch7 ↦{fullShare} f)
          ∗ bigSep (ownRefs (τ := τ) (.scVector (cV L) (jV L)) \ (bufList.map fun b => (Proc.scVector (cV L) (jV L)).devRef b).toFinset)
              fun b => iprop(∃ f, ((d, b) : Loc nD τ sig) ↦{fullShare} f)) := by
  unfold SparseCore.Cfg.ownBufs
  rw [bigSep_list _ (bufList.map fun b => (Proc.scVector (cV L) (jV L)).devRef b) (ownRefs (τ := τ) (.scVector (cV L) (jV L))) ?_ ?_]
  · generalize bigSep (ownRefs (τ := τ) (.scVector (cV L) (jV L)) \ (bufList.map fun b => (Proc.scVector (cV L) (jV L)).devRef b).toFinset)
      (fun b => (iprop(∃ f, ((d, b) : Loc nD τ sig) ↦{fullShare} f) : sProp 𝕄)) = R
    simp only [bufList, List.map_cons, List.map_nil, List.foldr_cons, List.foldr_nil]
  · exact List.Nodup.map (Proc.devRef_injective _) bufList_nodup
  · intro g hg
    obtain ⟨b, hb, rfl⟩ := List.mem_map.mp hg
    refine SparseCore.Cfg.mem_ownRefs_of_owner (p := Proc.scVector (cV L) (jV L)) ?_
    simp only [bufList, List.mem_cons, List.not_mem_nil, _root_.or_false] at hb
    rcases hb with rfl | rfl | rfl | rfl | rfl | rfl | rfl | rfl <;> rfl

variable [FloatOps F]

end Tile

end Cert.Proof.Lookup

end
-- ==== Proof.Fetch.lean ====
/-
  What a gather fetches, what a copy delivers, and the words, the lists and the places that the task's loops work with.
-/
module

public import proofs.«01_k».proof.Proof.Tile

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "b0V" => (Memref.whole Cert.KernelIdeal.main_v1_scv : Memref Cert.KernelIdeal.sig Kind.scVector Space.hbm Cert.KernelIdeal.S4096 EltTy.i32)
local notation "b1V" => (Memref.whole Cert.KernelIdeal.main_v3_scv : Memref Cert.KernelIdeal.sig Kind.scVector Space.hbm Cert.KernelIdeal.S4096 EltTy.i32)
local notation "b2V" => (Memref.whole Cert.KernelIdeal.main_v5_scv : Memref Cert.KernelIdeal.sig Kind.scVector Space.hbm Cert.KernelIdeal.S4096 EltTy.i32)
local notation "mtV" => (Memref.whole Cert.KernelIdeal.main_v6_scv : Memref Cert.KernelIdeal.sig Kind.scVector Space.hbm Cert.KernelIdeal.S50x4096 EltTy.i32)
local notation "gtV" => (Memref.whole Cert.KernelIdeal.main_v7_scv : Memref Cert.KernelIdeal.sig Kind.scVector Space.hbm Cert.KernelIdeal.S50x4096 EltTy.i32)
local notation "meV" => (Memref.whole Cert.KernelIdeal.main_arg3_scv : Memref Cert.KernelIdeal.sig Kind.scVector Space.hbm Cert.KernelIdeal.S100000x128 EltTy.f32)
local notation "geV" => (Memref.whole Cert.KernelIdeal.main_arg4_scv : Memref Cert.KernelIdeal.sig Kind.scVector Space.hbm Cert.KernelIdeal.S100000x128 EltTy.f32)
local notation "orgV" => (Memref.whole Cert.KernelIdeal.main_v9_0_scv : Memref Cert.KernelIdeal.sig Kind.scVector Space.hbm Cert.KernelIdeal.S4096x128 EltTy.f32)
local notation "ggV" => (Memref.whole Cert.KernelIdeal.main_v9_1_scv : Memref Cert.KernelIdeal.sig Kind.scVector Space.hbm Cert.KernelIdeal.S4096x128 EltTy.f32)
local notation "memV" => (Memref.whole Cert.KernelIdeal.main_v9_2_scv : Memref Cert.KernelIdeal.sig Kind.scVector Space.hbm Cert.KernelIdeal.S4096x128 EltTy.f32)
local notation "ccV" => (Memref.whole Cert.KernelIdeal.main_v9_3_scv : Memref Cert.KernelIdeal.sig Kind.scVector Space.hbm Cert.KernelIdeal.S4096x1024 EltTy.f32)
local notation "i0S" => (Memref.whole Cert.KernelIdeal.cc0_scratch0 : Memref Cert.KernelIdeal.sig Kind.scVector Space.vmem Cert.KernelIdeal.S128 EltTy.i32)
local notation "i1S" => (Memref.whole Cert.KernelIdeal.cc0_scratch1 : Memref Cert.KernelIdeal.sig Kind.scVector Space.vmem Cert.KernelIdeal.S128 EltTy.i32)
local notation "r0S" => (Memref.whole Cert.KernelIdeal.cc0_scratch2 : Memref Cert.KernelIdeal.sig Kind.scVector Space.vmem Cert.KernelIdeal.S128x128 EltTy.f32)
local notation "r1S" => (Memref.whole Cert.KernelIdeal.cc0_scratch3 : Memref Cert.KernelIdeal.sig Kind.scVector Space.vmem Cert.KernelIdeal.S128x128 EltTy.f32)
local notation "mtS" => (Memref.whole Cert.KernelIdeal.cc0_scratch4 : Memref Cert.KernelIdeal.sig Kind.scVector Space.vmem Cert.KernelIdeal.S50x128 EltTy.i32)
local notation "gtS" => (Memref.whole Cert.KernelIdeal.cc0_scratch5 : Memref Cert.KernelIdeal.sig Kind.scVector Space.vmem Cert.KernelIdeal.S50x128 EltTy.i32)
local notation "c0S" => (Memref.whole Cert.KernelIdeal.cc0_scratch6 : Memref Cert.KernelIdeal.sig Kind.scVector Space.vmem Cert.KernelIdeal.S32x1024 EltTy.f32)
local notation "c1S" => (Memref.whole Cert.KernelIdeal.cc0_scratch7 : Memref Cert.KernelIdeal.sig Kind.scVector Space.vmem Cert.KernelIdeal.S32x1024 EltTy.f32)

section Task

variable (d : Dev nD) (L : grid0.Coords)
variable [FloatOps F]

omit [FloatOps F] in
/-- The words of a fetched list are in range of the table. -/
theorem list_inb (I : Memref sig .scVector .vmem S128 .i32) (M : Memref sig .scVector .hbm S4096 .i32) (b : Buf (Elt F) (M.view.loc (thr d L)))
    (fs : Buf (Elt F) (I.view.loc (thr d L))) (pay : S128.Idx → Elt F .i32) (hpay : pay = (listK M L).view.read (Elt F) b)
    (hb : ∀ x, (M.view.read (Elt F) b x).toNat < 100000) :
    ∀ x, (I.view.read (Elt F) (I.view.write (Elt F) fs pay Finset.univ) x).toNat < S100000x128.size gathers_S100000x128_S128x128.axis := by
  subst hpay; intro x
  rw [View.read_write_univ]
  exact hb _

omit [FloatOps F] in
/-- A row buffer's rows together carry the buffer's whole credit. -/
theorem credit_r0 : ∀ h : S100000x128.Gathers 0 S128x128, ∑ j, ((r0S).slice (S128x128.rowRect h.axis' j) (S128x128.stride_rowRect h.axis' j)).view.dmaCredit
    = (r0S).view.dmaCredit := by decide
omit [FloatOps F] in
/-- The same for the second row buffer. -/
theorem credit_r1 : ∀ h : S100000x128.Gathers 0 S128x128, ∑ j, ((r1S).slice (S128x128.rowRect h.axis' j) (S128x128.stride_rowRect h.axis' j)).view.dmaCredit
    = (r1S).view.dmaCredit := by decide

/-- What a gather fetches: at each entry of the tile's rows, the entry of the table row that the tile's list names. -/
theorem fetched (I : Memref sig .scVector .vmem S128 .i32) (M : Memref sig .scVector .hbm S4096 .i32) (T : Memref sig .scVector .hbm S100000x128 .f32)
    (b : Buf (Elt F) (M.view.loc (thr d L))) (t : Buf (Elt F) (T.view.loc (thr d L)))
    (b' : IVec S4096 32) (hb : M.view.read (Elt F) b = b') (t' : FVec F S100000x128 .f32) (ht : T.view.read (Elt F) t = t')
    (fs : Buf (Elt F) (I.view.loc (thr d L))) (hn : S128.numel = S128x128.size gathers_S100000x128_S128x128.axis')
    (hin : ∀ x, (I.view.read (Elt F) (I.view.write (Elt F) fs ((listK M L).view.read (Elt F) b) Finset.univ) x).toNat
      < S100000x128.size gathers_S100000x128_S128x128.axis) (y : S128x128.Idx) :
    SparseCore.gatherPayload gathers_S100000x128_S128x128 ((tblK T).view.read (Elt F) t)
        (SparseCore.rows (I.view.read (Elt F) (I.view.write (Elt F) fs ((listK M L).view.read (Elt F) b) Finset.univ)) hn hin) y
      = gathered b' t' ((Rect.unit (s := S4096x128) (k0_off2 L) S128x128.size (k0_off2_inb L)).emb y) := by
  subst hb ht
  unfold SparseCore.gatherPayload gathered
  have hy0 : (y 0).val < 128 := (y 0).isLt
  have h2 := k0_off2_eq L
  have h1 := k0_off1_eq L
  set z := (Rect.unit (s := S4096x128) (k0_off2 L) S128x128.size (k0_off2_inb L)).emb y with hz
  have hz0 : (z 0).val = 256 * (L 1).val + 128 * (L 0).val + (y 0).val := by
    show k0_off2 L 0 + 1 * (y 0).val = _
    rw [h2, one_mul]; rfl
  have hz1 : (z 1).val = (y 1).val := by
    show k0_off2 L 1 + 1 * (y 1).val = _
    rw [h2, one_mul]; exact Nat.zero_add _
  -- the list's entry for row `y 0`
  have hk : ∀ x : S128.Idx, (x 0).val = (y 0).val →
      I.view.read (Elt F) (I.view.write (Elt F) fs ((listK M L).view.read (Elt F) b) Finset.univ) x
        = M.view.read (Elt F) b (ix1 (z 0)) := by
    intro x hx
    rw [View.read_write_univ]
    show M.view.read (Elt F) b ((Rect.unit (s := S4096) (k0_off1 L) S128.size (k0_off1_inb L)).emb x) = _
    refine congrArg (M.view.read (Elt F) b) (funext fun a => ?_)
    match a with
    | 0 =>
      refine Fin.ext ?_
      show k0_off1 L 0 + 1 * (x 0).val = (z 0).val
      rw [h1, hz0, hx, one_mul]; rfl
  have hx0 : ((S128.rowMajor.symm (Fin.cast hn.symm (y 0))) 0).val = (y 0).val := by
    have := Shape.rowMajor_val_one (S128.rowMajor.symm (Fin.cast hn.symm (y 0)))
    rw [Equiv.apply_symm_apply] at this
    exact this.symm
  have hr := hk _ hx0
  have hlt : (M.view.read (Elt F) b (ix1 (z 0))).toNat < 100000 := by rw [← hr]; exact hin _
  rw [dif_pos hlt]
  show T.view.read (Elt F) t ((Rect.unit (s := S100000x128) ![0, 0] S100000x128.size inb_S100000x128_S100000x128_0_0).emb _) = _
  refine congrArg (T.view.read (Elt F) t) (funext fun a => ?_)
  match a with
  | 0 =>
    refine Fin.ext ?_
    show (![0, 0] : Fin 2 → ℕ) 0 + 1 * (gathers_S100000x128_S128x128.idx _ y gathers_S100000x128_S128x128.axis).val = _
    rw [Shape.Gathers.idx_axis]
    show 0 + 1 * (I.view.read (Elt F) _ (S128.rowMajor.symm (Fin.cast hn.symm (y 0)))).toNat = (M.view.read (Elt F) b (ix1 (z 0))).toNat
    rw [hr]; omega
  | 1 =>
    refine Fin.ext ?_
    show (![0, 0] : Fin 2 → ℕ) 1 + 1 * (gathers_S100000x128_S128x128.idx _ y 1).val = (z 1).val
    rw [Shape.Gathers.idx_of_ne gathers_S100000x128_S128x128 _ y (1 : Fin S100000x128.rank) (show (1 : ℕ) ≠ 0 by decide), hz1]
    show 0 + 1 * (y 1).val = (y 1).val
    omega

omit [FloatOps F] in
/-- A part of an array written whole with the values of `G` there holds `G`. -/
theorem delivered {s : Shape} (Q : Memref sig .scVector .hbm s .f32) (f G : Buf (Elt F) (Q.view.loc (thr d L))) (pay : s.Idx → Elt F .f32)
    (h : pay = Q.view.read (Elt F) G) :
    (Q.view.loc (thr d L) ↦[Q.view.set]{fullShare} Q.view.writes (Elt F) f [⟨Rect.whole s, pay⟩] : sProp 𝕄)
      = (Q.view.loc (thr d L) ↦[Q.view.set]{fullShare} G) := by
  subst h
  have e := View.write_univ_eq_writes_whole Q.view f [] (Q.view.read (Elt F) G)
  rw [View.writes_nil] at e
  rw [← e]
  refine pointsTo_congr fun i hi => ?_
  obtain ⟨x, -, rfl⟩ := Finset.mem_map.mp hi
  rw [View.write_emb_of_mem _ _ (Finset.mem_univ _)]
  simp [View.read_apply]

omit [FloatOps F] in
/-- The same, the copied values compared afterwards. -/
theorem delivered_of {s : Shape} (Q : Memref sig .scVector .hbm s .f32) (G : Buf (Elt F) (Q.view.loc (thr d L))) (f : Buf (Elt F) (Q.view.loc (thr d L)))
    (pay : s.Idx → Elt F .f32) :
    iprop((Q.view.loc (thr d L) ↦[Q.view.set]{fullShare} Q.view.writes (Elt F) f [⟨Rect.whole s, pay⟩]) ∗ ⌜pay = Q.view.read (Elt F) G⌝)
      ⊢ (Q.view.loc (thr d L) ↦[Q.view.set]{fullShare} G : sProp 𝕄) := by
  iintro ⟨H, %h⟩
  iapply (Entails.of_eq (delivered d L Q f G pay h))
  iexact H

/-! ### The words the loops work with -/

/-- The lane numbers. -/
abbrev laneNo : IVec S16 32 := iota .scVector S16 32 [0] iota_S16_d0_w32_scVector

/-- Sixteen row numbers from `o` on. -/
theorem lanes_from (o : ℕ) (ho : o ≤ 16) (x : S16.Idx) :
    (addi laneNo (broadcast S16 (BitVec.ofNat 32 o)) x).toNat = o + (x 0).val := by
  have h : (x 0).val < 16 := (x 0).isLt
  have hl : ∀ x : S16.Idx, laneNo x = BitVec.ofNat 32 (x 0).val := by decide +kernel
  show (laneNo x + BitVec.ofNat 32 o).toNat = o + (x 0).val
  rw [hl, BitVec.toNat_add, BitVec.toNat_ofNat, BitVec.toNat_ofNat]
  omega
/-- The first sixteen rows the count sweep names: lane `x` names row `x`. -/
theorem rows_lo (x : S16.Idx) : (k0_pay5 laneNo x).toNat = 0 + (x 0).val := lanes_from 0 (by omega) x
/-- The second sixteen: lane `x` names row `16 + x`. -/
theorem rows_hi (x : S16.Idx) : (k0_pay6 laneNo x).toNat = 16 + (x 0).val := lanes_from 16 (by omega) x
/-- Every lane is below sixteen. -/
theorem mask_one : ∀ x : S16.Idx, k0_pay4 x = 1 := by
  intro x
  show cmpi .slt laneNo (broadcast S16 16#32) x = 1
  decide +revert +kernel

/-- The places of one row that the zeroing loop of the first and of the second count buffer stores to. -/
def zerosA (t : Fin k0_t1_loop.trips) : List (Fin 2 → ℕ) := [k0_off3 t, k0_off4 t, k0_off5 t, k0_off6 t, k0_off7 t, k0_off8 t, k0_off9 t, k0_off10 t, k0_off11 t, k0_off12 t, k0_off13 t, k0_off14 t, k0_off15 t, k0_off16 t, k0_off17 t, k0_off18 t, k0_off19 t, k0_off20 t, k0_off21 t, k0_off22 t, k0_off23 t, k0_off24 t, k0_off25 t, k0_off26 t, k0_off27 t, k0_off28 t, k0_off29 t, k0_off30 t, k0_off31 t, k0_off32 t, k0_off33 t, k0_off34 t, k0_off35 t, k0_off36 t, k0_off37 t, k0_off38 t, k0_off39 t, k0_off40 t, k0_off41 t, k0_off42 t, k0_off43 t, k0_off44 t, k0_off45 t, k0_off46 t, k0_off47 t, k0_off48 t, k0_off49 t, k0_off50 t, k0_off51 t, k0_off52 t, k0_off53 t, k0_off54 t, k0_off55 t, k0_off56 t, k0_off57 t, k0_off58 t, k0_off59 t, k0_off60 t, k0_off61 t, k0_off62 t, k0_off63 t, k0_off64 t, k0_off65 t, k0_off66 t]
/-- The same places for the second count buffer. -/
def zerosB (t : Fin k0_t2_loop.trips) : List (Fin 2 → ℕ) := [k0_off67 t, k0_off68 t, k0_off69 t, k0_off70 t, k0_off71 t, k0_off72 t, k0_off73 t, k0_off74 t, k0_off75 t, k0_off76 t, k0_off77 t, k0_off78 t, k0_off79 t, k0_off80 t, k0_off81 t, k0_off82 t, k0_off83 t, k0_off84 t, k0_off85 t, k0_off86 t, k0_off87 t, k0_off88 t, k0_off89 t, k0_off90 t, k0_off91 t, k0_off92 t, k0_off93 t, k0_off94 t, k0_off95 t, k0_off96 t, k0_off97 t, k0_off98 t, k0_off99 t, k0_off100 t, k0_off101 t, k0_off102 t, k0_off103 t, k0_off104 t, k0_off105 t, k0_off106 t, k0_off107 t, k0_off108 t, k0_off109 t, k0_off110 t, k0_off111 t, k0_off112 t, k0_off113 t, k0_off114 t, k0_off115 t, k0_off116 t, k0_off117 t, k0_off118 t, k0_off119 t, k0_off120 t, k0_off121 t, k0_off122 t, k0_off123 t, k0_off124 t, k0_off125 t, k0_off126 t, k0_off127 t, k0_off128 t, k0_off129 t, k0_off130 t]
/-- A round of the first zeroing loop stores sixteen places at a time, across its whole row. -/
theorem zerosA_row : ∀ t, zerosA t = (List.range 64).map fun j => ![t.val, 16 * j] := by decide +kernel
/-- So does a round of the second. -/
theorem zerosB_row : ∀ t, zerosB t = (List.range 64).map fun j => ![t.val, 16 * j] := by decide +kernel
/-- The first loop stores within the buffer. -/
theorem zerosA_inb : ∀ t, ∀ o ∈ zerosA t, ∀ a, o a + S1x16.size a ≤ S32x1024.size a := by decide +kernel
/-- So does the second. -/
theorem zerosB_inb : ∀ t, ∀ o ∈ zerosB t, ∀ a, o a + S1x16.size a ≤ S32x1024.size a := by decide +kernel

/-! ### Contents held and contents hidden -/

omit [FloatOps F] in
/-- A buffer held whole holds what it reads. -/
theorem holds_of {s : Shape} {e : EltTy} (M : Memref sig .scVector .vmem s e) (hM : M.view.set = Finset.univ) (f : Buf (Elt F) (M.view.loc (thr d L))) :
    (M.view.loc (thr d L) ↦{fullShare} f : sProp 𝕄) ⊢ Holds (thr d L) M (M.view.read (Elt F) f) := by
  unfold Holds
  iintro H
  iexists f
  isplitr
  · ipureintro; rfl
  rw [hM]; iexact H

omit [FloatOps F] in
/-- A buffer that holds `v` is held whole at contents reading `v`. -/
theorem of_holds {s : Shape} {e : EltTy} (M : Memref sig .scVector .vmem s e) (hM : M.view.set = Finset.univ) (v : s.Idx → Elt F e) :
    Holds (thr d L) M v ⊢ (iprop(∃ f, ⌜M.view.read (Elt F) f = v⌝ ∗ M.view.loc (thr d L) ↦{fullShare} f) : sProp 𝕄) := by
  unfold Holds
  iintro ⟨%f, %hf, H⟩
  iexists f
  isplitr
  · ipureintro; exact hf
  rw [hM]; iexact H

omit [FloatOps F] in
/-- A buffer held whole is held with some contents. -/
theorem hide (ℓ : Loc nD τ sig) (S : Finset ℓ.ty.Idx) (hS : S = Finset.univ) (f : Buf (Elt F) ℓ) :
    (ℓ ↦[S]{fullShare} f : sProp 𝕄) ⊢ iprop(∃ g, ℓ ↦{fullShare} g) := by
  subst hS
  iintro H; iexists f; iexact H

omit [FloatOps F] in
/-- The waits recorded so far, all at no ticket or of before. -/
theorem owes_hide (O : CellTallies nD τ sig (HIx 1)) (W W' : Waits sig (HIx 1)) (h : ∀ p ∈ W', p ∈ W ∨ p.2 = none) :
    (owes (thr d L) O W' : sProp 𝕄) ⊢ iprop(∃ W', ⌜∀ p ∈ W', p ∈ W ∨ p.2 = none⌝ ∗ owes (thr d L) O W') := by
  iintro H; iexists W'; isplitr
  · ipureintro; exact h
  iexact H

/-- A buffer a copy has filled holds what was copied. -/
theorem holds_written {s : Shape} {e : EltTy} (M : Memref sig .scVector .vmem s e) (hM : M.view.set = Finset.univ) (v : s.Idx → Elt F e)
    (f : Buf (Elt F) (M.view.loc (thr d L))) (pay : s.Idx → Elt F e) :
    iprop((M.view.loc (thr d L) ↦{fullShare} M.view.write (Elt F) f pay Finset.univ) ∗ ⌜pay = v⌝) ⊢ (Holds (thr d L) M v : sProp 𝕄) := by
  iintro ⟨H, %h⟩
  subst h
  ihave H := (holds_of d L M hM _) $$ H
  rw [View.read_write_univ]
  iexact H

/-! ### Counting a piece -/

/-- The tile's fifty topics of each of its batch rows, as read from a list of topics. -/
abbrev topicsOf (tp : IVec S50x4096 32) (L : grid0.Coords) : IVec S50x128 32 := fun x =>
  tp ((Rect.unit (s := S50x4096) (k0_off131 L) S50x128.size (k0_off131_inb L)).emb x)

/-- The `k`-th piece of the counts. -/
abbrev piece (mt gt : IVec S50x4096 32) (L : grid0.Coords) (k : Fin 4) : FVec F S32x1024 .f32 :=
  sweep (hits (topicsOf gt L) k) true bigF 50 (sweep (hits (topicsOf mt L) k) true oneF 50 fun _ => zeroF)

/-- The part of the count array at the offset the task computes. -/
abbrev pieceK (M : Memref sig .scVector .hbm S4096x1024 .f32) (L : grid0.Coords) (w : BitVec 32)
    (h : ∀ a, k0_off136 L w a + S32x1024.size a ≤ S4096x1024.size a) : Memref sig .scVector .hbm S32x1024 .f32 :=
  M.slice (Rect.unit (s := S4096x1024) (k0_off136 L w) S32x1024.size h) (fun _ => rfl)

omit [FloatOps F] in
/-- Step `t` names a place of the tile's chunk `k` exactly when the topic array does, at the place's row and topic in the whole count array. -/
theorem hits_isTopic (tp : IVec S50x4096 32) (k : Fin 4) (j : S32x1024.Idx) (z : S4096x1024.Idx)
    (hz0 : (z 0).val = 256 * (L 1).val + 128 * (L 0).val + 32 * k.val + (j 0).val) (hz1 : (z 1).val = (j 1).val) (t : ℕ) :
    hits (topicsOf tp L) k t j ↔ isTopic tp (z 0) (z 1).val t := by
  unfold hits isTopic topicsOf
  rw [hz1]
  refine exists_congr fun h => ?_
  rw [show (Rect.unit (s := S50x4096) (k0_off131 L) S50x128.size (k0_off131_inb L)).emb (ixP ⟨t, h⟩ (pieceRow k (j 0))) = ixT ⟨t, h⟩ (z 0) from
    funext fun a => by
      have e := k0_off131_eq L
      match a with
      | 0 =>
        refine Fin.ext ?_
        show k0_off131 L 0 + 1 * t = t
        rw [e]; show 0 + 1 * t = t; omega
      | 1 =>
        refine Fin.ext ?_
        show k0_off131 L 1 + 1 * (32 * k.val + (j 0).val) = (z 0).val
        rw [e, hz0]; show 256 * (L 1).val + 128 * (L 0).val + 1 * (32 * k.val + (j 0).val) = _; omega]

/-- A piece of the counts is that part of the count array. -/
theorem piece_eq (mt gt : IVec S50x4096 32) (k : Fin 4) :
    (piece mt gt L k : FVec F S32x1024 .f32) = fun j => counts mt gt
      ((Rect.unit (s := S4096x1024) (k0_off136 L (BitVec.ofNat 32 (32 * k.val))) S32x1024.size (k0_off136_inb L k)).emb j) := by
  funext j
  have e := k0_off136_eq L k
  set z := (Rect.unit (s := S4096x1024) (k0_off136 L (BitVec.ofNat 32 (32 * k.val))) S32x1024.size (k0_off136_inb L k)).emb j with hz
  have hz0 : (z 0).val = 256 * (L 1).val + 128 * (L 0).val + 32 * k.val + (j 0).val := by
    show k0_off136 L (BitVec.ofNat 32 (32 * k.val)) 0 + 1 * (j 0).val = _
    rw [e, one_mul]; rfl
  have hz1 : (z 1).val = (j 1).val := by
    show k0_off136 L (BitVec.ofNat 32 (32 * k.val)) 1 + 1 * (j 1).val = _
    rw [e, one_mul]; exact Nat.zero_add _
  have hi : ∀ tp : IVec S50x4096 32, (fun t => hits (topicsOf tp L) k t j) = isTopic tp (z 0) (z 1).val :=
    fun tp => funext fun t => propext (hits_isTopic L tp k j z hz0 hz1 t)
  unfold piece counts sweep
  rw [hi mt, hi gt]

/-- A counting loop of the task: the rows are the lane numbers, the topics the tile's. -/
theorem wp_count (ids : Memref sig .scVector .vmem S50x128 .i32) (cnt : Memref sig .scVector .vmem S32x1024 .f32)
    (l : Scf.Loop 32) (hl : l.OK) (h50 : l.trips = 50)
    (body : Fin l.trips → BitVec 32 → Prog (TpuEff nD τ sig (Elt F) Λ₀ (.scVector (cV L) (jV L))) (BitVec 32))
    (offA offB : Fin l.trips → Fin 2 → ℕ) (inbA : ∀ t, ∀ a, offA t a + S1x16.size a ≤ S50x128.size a)
    (inbB : ∀ t, ∀ a, offB t a + S1x16.size a ≤ S50x128.size a) (v : FVec F S16 .f32) (add : Bool)
    (hbody : ∀ t a, body t a = trip ids cnt (offA t) (offB t) (inbA t) (inbB t) (k0_pay5 laneNo) (k0_pay6 laneNo) k0_chk1 k0_chk2
      k0_chk1.dec k0_chk2.dec k0_idx1_inb k0_idx2_inb v k0_pay4 add (View.stores_vmem_bits_univ h_S32x1024 rfl) (View.loadsAt_vmem h_S1x16) (View.loadsAt_vmem h_S1x16))
    (tp : IVec S50x4096 32) (htp : ∀ x, (tp x).toNat < 1024) (k : Fin 4)
    (hoA : ∀ t, offA t = ![t.val, 32 * k.val]) (hoB : ∀ t, offB t = ![t.val, 32 * k.val + 16])
    (y : F .f32) (hv : ∀ x, v x = y) (f : FVec F S32x1024 .f32)
    {α : Type} {Q : α → sProp 𝕄} {kk : BitVec 32 → Prog (TpuEff nD τ sig (Elt F) Λ₀ (.scVector (cV L) (jV L))) α} :
    iprop(Holds (thr d L) ids (topicsOf tp L) ∗ Holds (thr d L) cnt f)
      ⊢ iprop((∀ a, (Holds (thr d L) ids (topicsOf tp L) ∗ Holds (thr d L) cnt (sweep (hits (topicsOf tp L) k) add y 50 f))
            -∗ wp frame (wpE (defs₀ (F := F)) 𝒱₀ (thr d L) none) Set.univ (kk a) Q)
        -∗ wp frame (wpE (defs₀ (F := F)) 𝒱₀ (thr d L) none) Set.univ (Scf.Loop.for l hl 0#32 body >>= kk) Q) :=
  wp_counting d ids cnt l hl h50 body offA offB inbA inbB _ _ _ _ _ _ _ _ v k0_pay4 add _ _ _ hbody (fun _ _ h => h) (fun _ _ h => h)
    (topicsOf tp L) (fun x => htp _) k hoA hoB rows_lo rows_hi y hv mask_one f

end Task

end Cert.Proof.Lookup

end
-- ==== Proof.Task.lean ====
/-
  One tile's task, from the arrays it is handed to the arrays it leaves: three rounds of fetching row numbers and gathering
  table rows, and four pieces of counts, two in flight at a time.
-/
module

public import proofs.«01_k».proof.Proof.Fetch

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

local notation "b0V" => (Memref.whole Cert.KernelIdeal.main_v1_scv : Memref Cert.KernelIdeal.sig Kind.scVector Space.hbm Cert.KernelIdeal.S4096 EltTy.i32)
local notation "b1V" => (Memref.whole Cert.KernelIdeal.main_v3_scv : Memref Cert.KernelIdeal.sig Kind.scVector Space.hbm Cert.KernelIdeal.S4096 EltTy.i32)
local notation "b2V" => (Memref.whole Cert.KernelIdeal.main_v5_scv : Memref Cert.KernelIdeal.sig Kind.scVector Space.hbm Cert.KernelIdeal.S4096 EltTy.i32)
local notation "mtV" => (Memref.whole Cert.KernelIdeal.main_v6_scv : Memref Cert.KernelIdeal.sig Kind.scVector Space.hbm Cert.KernelIdeal.S50x4096 EltTy.i32)
local notation "gtV" => (Memref.whole Cert.KernelIdeal.main_v7_scv : Memref Cert.KernelIdeal.sig Kind.scVector Space.hbm Cert.KernelIdeal.S50x4096 EltTy.i32)
local notation "meV" => (Memref.whole Cert.KernelIdeal.main_arg3_scv : Memref Cert.KernelIdeal.sig Kind.scVector Space.hbm Cert.KernelIdeal.S100000x128 EltTy.f32)
local notation "geV" => (Memref.whole Cert.KernelIdeal.main_arg4_scv : Memref Cert.KernelIdeal.sig Kind.scVector Space.hbm Cert.KernelIdeal.S100000x128 EltTy.f32)
local notation "orgV" => (Memref.whole Cert.KernelIdeal.main_v9_0_scv : Memref Cert.KernelIdeal.sig Kind.scVector Space.hbm Cert.KernelIdeal.S4096x128 EltTy.f32)
local notation "ggV" => (Memref.whole Cert.KernelIdeal.main_v9_1_scv : Memref Cert.KernelIdeal.sig Kind.scVector Space.hbm Cert.KernelIdeal.S4096x128 EltTy.f32)
local notation "memV" => (Memref.whole Cert.KernelIdeal.main_v9_2_scv : Memref Cert.KernelIdeal.sig Kind.scVector Space.hbm Cert.KernelIdeal.S4096x128 EltTy.f32)
local notation "ccV" => (Memref.whole Cert.KernelIdeal.main_v9_3_scv : Memref Cert.KernelIdeal.sig Kind.scVector Space.hbm Cert.KernelIdeal.S4096x1024 EltTy.f32)
local notation "i0S" => (Memref.whole Cert.KernelIdeal.cc0_scratch0 : Memref Cert.KernelIdeal.sig Kind.scVector Space.vmem Cert.KernelIdeal.S128 EltTy.i32)
local notation "i1S" => (Memref.whole Cert.KernelIdeal.cc0_scratch1 : Memref Cert.KernelIdeal.sig Kind.scVector Space.vmem Cert.KernelIdeal.S128 EltTy.i32)
local notation "r0S" => (Memref.whole Cert.KernelIdeal.cc0_scratch2 : Memref Cert.KernelIdeal.sig Kind.scVector Space.vmem Cert.KernelIdeal.S128x128 EltTy.f32)
local notation "r1S" => (Memref.whole Cert.KernelIdeal.cc0_scratch3 : Memref Cert.KernelIdeal.sig Kind.scVector Space.vmem Cert.KernelIdeal.S128x128 EltTy.f32)
local notation "mtS" => (Memref.whole Cert.KernelIdeal.cc0_scratch4 : Memref Cert.KernelIdeal.sig Kind.scVector Space.vmem Cert.KernelIdeal.S50x128 EltTy.i32)
local notation "gtS" => (Memref.whole Cert.KernelIdeal.cc0_scratch5 : Memref Cert.KernelIdeal.sig Kind.scVector Space.vmem Cert.KernelIdeal.S50x128 EltTy.i32)
local notation "c0S" => (Memref.whole Cert.KernelIdeal.cc0_scratch6 : Memref Cert.KernelIdeal.sig Kind.scVector Space.vmem Cert.KernelIdeal.S32x1024 EltTy.f32)
local notation "c1S" => (Memref.whole Cert.KernelIdeal.cc0_scratch7 : Memref Cert.KernelIdeal.sig Kind.scVector Space.vmem Cert.KernelIdeal.S32x1024 EltTy.f32)

section Task

variable (d : Dev nD) (L : grid0.Coords)
variable [FloatOps F]

omit [FloatOps F] in
/-- A piece of the counts, addressed as the task addresses it. -/
theorem piece_pts (k : Fin 4) (f : FVec F S4096x1024 .f32) :
    (ccLoc d ↦[chunkSet (wid L) k]{fullShare} f)
      ⊢ ((pieceK ccV L (BitVec.ofNat 32 (32 * k.val)) (k0_off136_inb L k)).view.loc (thr d L)
          ↦[(pieceK ccV L (BitVec.ofNat 32 (32 * k.val)) (k0_off136_inb L k)).view.set]{fullShare} f : sProp 𝕄) := by
  rw [View.set_slice_whole, chunkK_set]

omit [FloatOps F] in
/-- The same, back. -/
theorem pts_piece (k : Fin 4) (f : FVec F S4096x1024 .f32) :
    ((pieceK ccV L (BitVec.ofNat 32 (32 * k.val)) (k0_off136_inb L k)).view.loc (thr d L)
        ↦[(pieceK ccV L (BitVec.ofNat 32 (32 * k.val)) (k0_off136_inb L k)).view.set]{fullShare} f : sProp 𝕄)
      ⊢ (ccLoc d ↦[chunkSet (wid L) k]{fullShare} f) := by
  rw [View.set_slice_whole, chunkK_set]

set_option maxHeartbeats 4000000 in
/-- The task on tile `L` of device `d`. -/
theorem tile_body (hF : (K (F := F)).Facts) (A : Ins F) (B : Outs F) (hA : A.OK) (O : CellTallies nD τ sig (HIx 1)) (W : Waits sig (HIx 1))
    (hO : ∀ g, O g none = 0) :
    iprop(levAts (K (F := F)).L (K (F := F)).lev ∗ emp ∗ tilePts A B d (wid L)
        ∗ scopedBufs (thr d L) ∗ scopedSems0 (thr d L) ∗ owes (thr d L) O W)
      ⊢ wp frame (wpE (defs₀ (F := F)) 𝒱₀ (thr d L) none) Set.univ
          (cc0__sc_body L b0V (Memref.isWhole_whole _) b1V (Memref.isWhole_whole _) b2V (Memref.isWhole_whole _) mtV (Memref.isWhole_whole _)
            gtV (Memref.isWhole_whole _) meV (Memref.isWhole_whole _) geV (Memref.isWhole_whole _) orgV (Memref.isWhole_whole _)
            ggV (Memref.isWhole_whole _) memV (Memref.isWhole_whole _) ccV (Memref.isWhole_whole _) i0S (Memref.isWhole_whole _)
            i1S (Memref.isWhole_whole _) r0S (Memref.isWhole_whole _) r1S (Memref.isWhole_whole _) mtS (Memref.isWhole_whole _)
            gtS (Memref.isWhole_whole _) c0S (Memref.isWhole_whole _) c1S (Memref.isWhole_whole _)
            cc0_scratch8 cc0_scratch9 cc0_scratch10 cc0_scratch11 cc0_scratch12 cc0_scratch13
            cc0_scoped0 cc0_scoped1 cc0_scoped2 cc0_scoped3 cc0_scoped4)
          fun _ => iprop(tilePts A A.outs d (wid L) ∗ scopedBufs (thr d L) ∗ scopedSems0 (thr d L)
            ∗ ∃ W', ⌜∀ p ∈ W', p ∈ W ∨ p.2 = none⌝ ∗ owes (thr d L) O W') := by
  simp only [cc0__sc_body_eq_skeleton]; unfold cc0__sc_body_skel
  simp only [k0_part11_eq_skeleton, k0_part12_eq_skeleton, k0_part13_eq_skeleton, k0_part14_eq_skeleton]
  unfold k0_part11_skel
  rw [(K (F := F)).scopedBufs_V hF d (cV L) (jV L), SparseCore.Cfg.scopedSems0_V (Val := Elt F) d (cV L) (jV L), ownSems0_V, ownBufs_V]
  unfold tilePts readPts writePts
  iintro ⟨#Hlv, -, ⟨⟨Hb0, Hb1, Hb2, Hmt, Hgt, Hme, Hge⟩, ⟨Horg, Hgg, Hmem, Hc0, Hc1, Hc2, Hc3⟩⟩,
    ⟨⟨%f0, S0⟩, ⟨%f1, S1⟩, ⟨%f2, S2⟩, ⟨%f3, S3⟩, ⟨%f4, S4⟩, ⟨%f5, S5⟩, ⟨%f6, S6⟩, ⟨%f7, S7⟩, Hbufs⟩,
    ⟨M0, M1, M2, M3, M4, M5, N0, N1, N2, N3, N4, Hsems⟩, HO⟩
  ihave Hmw := (show levAts (K (F := F)).L (K (F := F)).lev ⊢ Transfers.MayWaits (thr d L) (default : HIx 1) O from
    (K (F := F)).mayWaits_none (thr := thr d L) hO) $$ Hlv
  -- the tile's parts of the lists
  ihave Hb0s := (pointsTo_split_subset (q := tileShare (wid L)) (f := A.b0) (S := Finset.univ) (Finset.subset_univ (listK b0V L).view.set)).1 $$ Hb0
  icases Hb0s with ⟨Hb0, Hb0r⟩
  ihave Hb1s := (pointsTo_split_subset (q := tileShare (wid L)) (f := A.b1) (S := Finset.univ) (Finset.subset_univ (listK b1V L).view.set)).1 $$ Hb1
  icases Hb1s with ⟨Hb1, Hb1r⟩
  ihave Hb2s := (pointsTo_split_subset (q := tileShare (wid L)) (f := A.b2) (S := Finset.univ) (Finset.subset_univ (listK b2V L).view.set)).1 $$ Hb2
  icases Hb2s with ⟨Hb2, Hb2r⟩
  ihave Hmts := (pointsTo_split_subset (q := tileShare (wid L)) (f := A.mt) (S := Finset.univ) (Finset.subset_univ (topK mtV L).view.set)).1 $$ Hmt
  icases Hmts with ⟨Hmt, Hmtr⟩
  ihave Hgts := (pointsTo_split_subset (q := tileShare (wid L)) (f := A.gt) (S := Finset.univ) (Finset.subset_univ (topK gtV L).view.set)).1 $$ Hgt
  icases Hgts with ⟨Hgt, Hgtr⟩
  ihave Hmes := (pointsTo_split_subset (q := tileShare (wid L)) (f := A.me) (S := Finset.univ) (Finset.subset_univ (tblK meV).view.set)).1 $$ Hme
  icases Hmes with ⟨Hme, Hmer⟩
  ihave Hges := (pointsTo_split_subset (q := tileShare (wid L)) (f := A.ge) (S := Finset.univ) (Finset.subset_univ (tblK geV).view.set)).1 $$ Hge
  icases Hges with ⟨Hge, Hger⟩
  ihave Hb0 := (Entails.of_eq (show (b0Loc d ↦[(listK b0V L).view.set]{tileShare (wid L)} A.b0 : sProp 𝕄)
    = ((listK b0V L).view.loc (thr d L) ↦[(listK b0V L).view.set]{tileShare (wid L)} A.b0) from rfl)) $$ Hb0
  ihave Hb1 := (Entails.of_eq (show (b1Loc d ↦[(listK b1V L).view.set]{tileShare (wid L)} A.b1 : sProp 𝕄)
    = ((listK b1V L).view.loc (thr d L) ↦[(listK b1V L).view.set]{tileShare (wid L)} A.b1) from rfl)) $$ Hb1
  ihave S0 := (Entails.of_eq (show ((thr d L).loc cc0_scratch0 ↦{fullShare} f0 : sProp 𝕄) = ((i0S).view.loc (thr d L) ↦{fullShare} f0) from rfl)) $$ S0
  ihave S1 := (Entails.of_eq (show ((thr d L).loc cc0_scratch1 ↦{fullShare} f1 : sProp 𝕄) = ((i1S).view.loc (thr d L) ↦{fullShare} f1) from rfl)) $$ S1
  ihave Hme := (Entails.of_eq (show (meLoc d ↦[(tblK meV).view.set]{tileShare (wid L)} A.me : sProp 𝕄)
    = ((tblK meV).view.loc (thr d L) ↦[(tblK meV).view.set]{tileShare (wid L)} A.me) from rfl)) $$ Hme
  ihave Hge := (Entails.of_eq (show (geLoc d ↦[(tblK geV).view.set]{tileShare (wid L)} A.ge : sProp 𝕄)
    = ((tblK geV).view.loc (thr d L) ↦[(tblK geV).view.set]{tileShare (wid L)} A.ge) from rfl)) $$ Hge
  ihave S2 := (Entails.of_eq (show ((thr d L).loc cc0_scratch2 ↦{fullShare} f2 : sProp 𝕄)
    = ((r0S).view.loc (thr d L) ↦[(r0S).view.set]{fullShare} f2) by rw [View.set_whole])) $$ S2
  have h0 : ∀ x, ((b0V).view.read (Elt F) A.b0 x).toNat < 100000 := fun x => by rw [View.read_whole]; exact hA.b0 x
  have h1 : ∀ x, ((b1V).view.read (Elt F) A.b1 x).toNat < 100000 := fun x => by rw [View.read_whole]; exact hA.b1 x
  have h2 : ∀ x, ((b2V).view.read (Elt F) A.b2 x).toNat < 100000 := fun x => by rw [View.read_whole]; exact hA.b2 x
  ihave Hb2 := (Entails.of_eq (show (b2Loc d ↦[(listK b2V L).view.set]{tileShare (wid L)} A.b2 : sProp 𝕄)
    = ((listK b2V L).view.loc (thr d L) ↦[(listK b2V L).view.set]{tileShare (wid L)} A.b2) from rfl)) $$ Hb2
  ihave S3 := (Entails.of_eq (show ((thr d L).loc cc0_scratch3 ↦{fullShare} f3 : sProp 𝕄)
    = ((r1S).view.loc (thr d L) ↦[(r1S).view.set]{fullShare} f3) by rw [View.set_whole])) $$ S3
  ihave Horg := (Entails.of_eq (show (orgLoc d ↦[rowSet (wid L)]{fullShare} B.org : sProp 𝕄)
    = ((rowsK orgV L).view.loc (thr d L) ↦[(rowsK orgV L).view.set]{fullShare} B.org) by rw [View.set_slice_whole, rowsK_set])) $$ Horg
  ihave Hgg := (Entails.of_eq (show (ggLoc d ↦[rowSet (wid L)]{fullShare} B.gg : sProp 𝕄)
    = ((rowsK ggV L).view.loc (thr d L) ↦[(rowsK ggV L).view.set]{fullShare} B.gg) by rw [View.set_slice_whole, rowsK_set])) $$ Hgg
  ihave Hmem := (Entails.of_eq (show (memLoc d ↦[rowSet (wid L)]{fullShare} B.mem : sProp 𝕄)
    = ((rowsK memV L).view.loc (thr d L) ↦[(rowsK memV L).view.set]{fullShare} B.mem) by rw [View.set_slice_whole, rowsK_set])) $$ Hmem
  sl_exec
  -- the first gather
  ihave S0 := (Entails.of_eq (show ((i0S).view.loc (thr d L) ↦{fullShare} _ : sProp 𝕄)
    = ((i0S).view.loc (thr d L) ↦[(i0S).view.set]{fullShare} _) by rw [View.set_whole])) $$ S0
  iapply (SparseCore.wp_indirectGatherLocal countersEmb 𝒱₀ (thr d L) none (hg := gathers_S100000x128_S128x128) (default : HIx 1)
      (r0S).view.dmaCredit (credit_r0 _) (by decide) (list_inb d L i0S b0V A.b0 _ _ rfl h0)) $$ [Hme S2 S0 M0]
  · isplitl [Hme]; · iexact Hme
    isplitl [S2]; · iexact S2
    isplitl [S0]; · iexact S0
    iexact M0
  iintro Hfl
  sl_exec
  -- the second gather
  ihave S1 := (Entails.of_eq (show ((i1S).view.loc (thr d L) ↦{fullShare} _ : sProp 𝕄)
    = ((i1S).view.loc (thr d L) ↦[(i1S).view.set]{fullShare} _) by rw [View.set_whole])) $$ S1
  iapply (SparseCore.wp_indirectGatherLocal countersEmb 𝒱₀ (thr d L) none (hg := gathers_S100000x128_S128x128) (default : HIx 1)
      (r1S).view.dmaCredit (credit_r1 _) (by decide) (list_inb d L i1S b1V A.b1 _ _ rfl h1)) $$ [Hge S3 S1 M1]
  · isplitl [Hge]; · iexact Hge
    isplitl [S3]; · iexact S3
    isplitl [S1]; · iexact S1
    iexact M1
  iintro Hfl'
  sl_exec
  -- the first gather's wait
  iapply (Transfers.wp_waitLocalO countersEmb 𝒱₀ (thr d L) none (default : HIx 1) (rfl : (r0S).view.dmaCredit = _)) $$ [Hfl HO]
  · isplitl [Hfl]; · iexact Hfl
    isplitl [HO]; · iexact HO
    iapply (Transfers.MayWaits.elim (SemLoc.dma cc0_scratch8.sem)) $$ Hmw
  iintro ⟨⟨S2, Hme, S0⟩, M0, HO⟩
  ihave S0 := (Entails.of_eq (show ((i0S).view.loc (thr d L) ↦[(i0S).view.set]{fullShare} _ : sProp 𝕄)
    = ((i0S).view.loc (thr d L) ↦{fullShare} _) by rw [View.set_whole])) $$ S0
  ihave S2 := (Entails.of_eq (show ((r0S).view.loc (thr d L) ↦[(r0S).view.set]{fullShare} _ : sProp 𝕄)
    = ((r0S).view.loc (thr d L) ↦{fullShare} _) by rw [View.set_whole])) $$ S2
  sl_exec
  -- the third gather
  ihave S0 := (Entails.of_eq (show ((i0S).view.loc (thr d L) ↦{fullShare} _ : sProp 𝕄)
    = ((i0S).view.loc (thr d L) ↦[(i0S).view.set]{fullShare} _) by rw [View.set_whole])) $$ S0
  ihave S2 := (Entails.of_eq (show ((r0S).view.loc (thr d L) ↦{fullShare} _ : sProp 𝕄)
    = ((r0S).view.loc (thr d L) ↦[(r0S).view.set]{fullShare} _) by rw [View.set_whole])) $$ S2
  iapply (SparseCore.wp_indirectGatherLocal countersEmb 𝒱₀ (thr d L) none (hg := gathers_S100000x128_S128x128) (default : HIx 1)
      (r0S).view.dmaCredit (credit_r0 _) (by decide) (list_inb d L i0S b2V A.b2 _ _ rfl h2)) $$ [Hme S2 S0 M0]
  · isplitl [Hme]; · iexact Hme
    isplitl [S2]; · iexact S2
    isplitl [S0]; · iexact S0
    iexact M0
  iintro Hfl
  sl_exec
  -- the second gather's wait
  iapply (Transfers.wp_waitLocalO countersEmb 𝒱₀ (thr d L) none (default : HIx 1) (rfl : (r1S).view.dmaCredit = _)) $$ [Hfl' HO]
  · isplitl [Hfl']; · iexact Hfl'
    isplitl [HO]; · iexact HO
    iapply (Transfers.MayWaits.elim (SemLoc.dma cc0_scratch9.sem)) $$ Hmw
  iintro ⟨⟨S3, Hge, S1⟩, M1, HO⟩
  ihave S1 := (Entails.of_eq (show ((i1S).view.loc (thr d L) ↦[(i1S).view.set]{fullShare} _ : sProp 𝕄)
    = ((i1S).view.loc (thr d L) ↦{fullShare} _) by rw [View.set_whole])) $$ S1
  ihave S3 := (Entails.of_eq (show ((r1S).view.loc (thr d L) ↦[(r1S).view.set]{fullShare} _ : sProp 𝕄)
    = ((r1S).view.loc (thr d L) ↦{fullShare} _) by rw [View.set_whole])) $$ S3
  sl_exec
  -- the third gather's wait
  iapply (Transfers.wp_waitLocalO countersEmb 𝒱₀ (thr d L) none (default : HIx 1) (rfl : (r0S).view.dmaCredit = _)) $$ [Hfl HO]
  · isplitl [Hfl]; · iexact Hfl
    isplitl [HO]; · iexact HO
    iapply (Transfers.MayWaits.elim (SemLoc.dma cc0_scratch8.sem)) $$ Hmw
  iintro ⟨⟨S2, Hme, S0⟩, M0, HO⟩
  ihave S2 := (Entails.of_eq (show ((r0S).view.loc (thr d L) ↦[(r0S).view.set]{fullShare} _ : sProp 𝕄)
    = ((r0S).view.loc (thr d L) ↦{fullShare} _) by rw [View.set_whole])) $$ S2
  sl_exec
  -- the three gathered arrays, and what the rest need not know hidden
  ihave Horg := (delivered_of d L (rowsK orgV L) A.outs.org _ _) $$ [Horg]
  · isplitl [Horg]; · iexact Horg
    ipureintro
    exact (View.read_write_univ (v := (r0S).view) f2 _).trans (funext fun y => fetched d L i0S b0V meV A.b0 A.me A.b0 rfl A.me rfl f0 _ _ y)
  ihave Hgg := (delivered_of d L (rowsK ggV L) A.outs.gg _ _) $$ [Hgg]
  · isplitl [Hgg]; · iexact Hgg
    ipureintro
    exact (View.read_write_univ (v := (r1S).view) f3 _).trans (funext fun y => fetched d L i1S b1V geV A.b1 A.ge A.b1 rfl A.ge rfl f1 _ _ y)
  ihave Hmem := (delivered_of d L (rowsK memV L) A.outs.mem _ _) $$ [Hmem]
  · isplitl [Hmem]; · iexact Hmem
    ipureintro
    exact (View.read_write_univ (v := (r0S).view) _ _).trans (funext fun y => fetched d L i0S b2V meV A.b2 A.me A.b2 rfl A.me rfl _ _ _ y)
  ihave S0 := (hide _ _ (View.set_whole _) _) $$ S0
  icases S0 with ⟨%g0, S0⟩
  ihave S1 := (hide _ _ rfl _) $$ S1
  icases S1 with ⟨%g1, S1⟩
  ihave S2 := (hide _ _ rfl _) $$ S2
  icases S2 with ⟨%g2, S2⟩
  ihave S3 := (hide _ _ rfl _) $$ S3
  icases S3 with ⟨%g3, S3⟩
  ihave HO := (owes_hide d L O W _ (by
    intro p hp
    simp only [Finset.mem_insert] at hp
    rcases hp with rfl | rfl | rfl | rfl | rfl | rfl | rfl | rfl | rfl | hp
    all_goals first | exact .inr rfl | exact .inl hp)) $$ HO
  icases HO with ⟨%W1, %hW1, HO⟩
  -- the count buffers zeroed
  ihave S6 := (holds_of d L c0S (View.set_whole _) f6) $$ S6
  ihave S7 := (holds_of d L c1S (View.set_whole _) f7) $$ S7
  iapply (wp_zeroing d c0S (shapeCast S1x16 (k0_pay1 (F := F)) shapeCasts_S16_S1x16) (fun _ _ => View.loadsAt_vmem h_S1x16)
    (fun _ _ => View.stores_vmem_bits_univ h_S1x16 rfl) zeroF (fun _ => rfl) k0_t1_loop k0_t1_ok rfl _ zerosA zerosA_inb (fun _ _ => rfl) zerosA_row _) $$ S6
  iintro %_ S6
  iapply (wp_zeroing d c1S (shapeCast S1x16 (k0_pay1 (F := F)) shapeCasts_S16_S1x16) (fun _ _ => View.loadsAt_vmem h_S1x16)
    (fun _ _ => View.stores_vmem_bits_univ h_S1x16 rfl) zeroF (fun _ => rfl) k0_t2_loop k0_t2_ok rfl _ zerosB zerosB_inb (fun _ _ => rfl) zerosB_row _) $$ S7
  iintro %_ S7
  -- the tile's topics, and the four pieces of the counts
  ihave Hmt := (Entails.of_eq (show _ = ((topK mtV L).view.loc (thr d L) ↦[(topK mtV L).view.set]{tileShare (wid L)} A.mt : sProp 𝕄) from rfl)) $$ Hmt
  ihave Hgt := (Entails.of_eq (show _ = ((topK gtV L).view.loc (thr d L) ↦[(topK gtV L).view.set]{tileShare (wid L)} A.gt : sProp 𝕄) from rfl)) $$ Hgt
  ihave S4 := (Entails.of_eq (show _ = ((mtS).view.loc (thr d L) ↦{fullShare} f4 : sProp 𝕄) from rfl)) $$ S4
  ihave S5 := (Entails.of_eq (show _ = ((gtS).view.loc (thr d L) ↦{fullShare} f5 : sProp 𝕄) from rfl)) $$ S5
  ihave Hc0 := (piece_pts d L 0 B.cc) $$ Hc0
  ihave Hc0 := (Entails.of_eq (show _ = ((pieceK ccV L 0#32 (k0_off136_inb L 0)).view.loc (thr d L) ↦[(pieceK ccV L 0#32 (k0_off136_inb L 0)).view.set]{fullShare} B.cc : sProp 𝕄) from rfl)) $$ Hc0
  ihave Hc1 := (piece_pts d L 1 B.cc) $$ Hc1
  ihave Hc1 := (Entails.of_eq (show _ = ((pieceK ccV L 32#32 (k0_off136_inb L 1)).view.loc (thr d L) ↦[(pieceK ccV L 32#32 (k0_off136_inb L 1)).view.set]{fullShare} B.cc : sProp 𝕄) from rfl)) $$ Hc1
  ihave Hc2 := (piece_pts d L 2 B.cc) $$ Hc2
  ihave Hc2 := (Entails.of_eq (show _ = ((pieceK ccV L 64#32 (k0_off136_inb L 2)).view.loc (thr d L) ↦[(pieceK ccV L 64#32 (k0_off136_inb L 2)).view.set]{fullShare} B.cc : sProp 𝕄) from rfl)) $$ Hc2
  ihave Hc3 := (piece_pts d L 3 B.cc) $$ Hc3
  ihave Hc3 := (Entails.of_eq (show _ = ((pieceK ccV L 96#32 (k0_off136_inb L 3)).view.loc (thr d L) ↦[(pieceK ccV L 96#32 (k0_off136_inb L 3)).view.set]{fullShare} B.cc : sProp 𝕄) from rfl)) $$ Hc3
  sl_exec
  ihave S4 := (holds_written d L mtS (View.set_whole _) (topicsOf A.mt L) f4 _) $$ [S4]
  · isplitl
    · iexact S4
    · ipureintro; rfl
  ihave S5 := (holds_written d L gtS (View.set_whole _) (topicsOf A.gt L) f5 _) $$ [S5]
  · isplitl
    · iexact S5
    · ipureintro; rfl
  -- the first piece
  iapply (wp_count d L mtS c0S k0_t3_loop k0_t3_ok rfl _ k0_off132 k0_off133 k0_off132_inb k0_off133_inb (k0_pay2 (F := F)) true (fun _ _ => rfl)
    A.mt hA.mt 0 k0_off132_eq k0_off133_eq oneF (fun _ => rfl) _) $$ [S4 S6]
  · isplitl [S4]
    · iexact S4
    · iexact S6
  iintro %_ ⟨S4, S6⟩
  iapply (wp_count d L gtS c0S k0_t4_loop k0_t4_ok rfl _ k0_off134 k0_off135 k0_off134_inb k0_off135_inb (k0_pay3 (F := F)) true (fun _ _ => rfl)
    A.gt hA.gt 0 k0_off134_eq k0_off135_eq bigF (fun _ => rfl) _) $$ [S5 S6]
  · isplitl [S5]
    · iexact S5
    · iexact S6
  iintro %_ ⟨S5, S6⟩
  ihave S6 := (of_holds d L c0S (View.set_whole _) (piece A.mt A.gt L 0)) $$ S6
  icases S6 with ⟨%u0, %hu0, S6⟩
  sl_exec
  -- the second
  iapply (wp_count d L mtS c1S k0_t5_loop k0_t5_ok rfl _ k0_off137 k0_off138 k0_off137_inb k0_off138_inb (k0_pay2 (F := F)) true (fun _ _ => rfl)
    A.mt hA.mt 1 k0_off137_eq k0_off138_eq oneF (fun _ => rfl) _) $$ [S4 S7]
  · isplitl [S4]
    · iexact S4
    · iexact S7
  iintro %_ ⟨S4, S7⟩
  iapply (wp_count d L gtS c1S k0_t6_loop k0_t6_ok rfl _ k0_off139 k0_off140 k0_off139_inb k0_off140_inb (k0_pay3 (F := F)) true (fun _ _ => rfl)
    A.gt hA.gt 1 k0_off139_eq k0_off140_eq bigF (fun _ => rfl) _) $$ [S5 S7]
  · isplitl [S5]
    · iexact S5
    · iexact S7
  iintro %_ ⟨S5, S7⟩
  ihave S7 := (of_holds d L c1S (View.set_whole _) (piece A.mt A.gt L 1)) $$ S7
  icases S7 with ⟨%u1, %hu1, S7⟩
  sl_exec
  -- the third, the first being away
  ihave S6 := (holds_of d L c0S (View.set_whole _) u0) $$ S6
  rw [hu0]
  iapply (wp_count d L mtS c0S k0_t7_loop k0_t7_ok rfl _ k0_off141 k0_off142 k0_off141_inb k0_off142_inb (k0_pay1 (F := F)) false (fun _ _ => rfl)
    A.mt hA.mt 0 k0_off141_eq k0_off142_eq zeroF (fun _ => rfl) _) $$ [S4 S6]
  · isplitl [S4]
    · iexact S4
    · iexact S6
  iintro %_ ⟨S4, S6⟩
  sl_exec
  iapply (wp_count d L gtS c0S k0_t8_loop k0_t8_ok rfl _ k0_off143 k0_off144 k0_off143_inb k0_off144_inb (k0_pay1 (F := F)) false (fun _ _ => rfl)
    A.gt hA.gt 0 k0_off143_eq k0_off144_eq zeroF (fun _ => rfl) _) $$ [S5 S6]
  · isplitl [S5]
    · iexact S5
    · iexact S6
  iintro %_ ⟨S5, S6⟩
  ihave S6 := (Entails.of_eq (congrArg (Holds (thr d L) c0S) (sweep_clear (hits (topicsOf A.mt L) 0) (hits (topicsOf A.gt L) 0) oneF bigF zeroF 50))) $$ S6
  iapply (wp_count d L mtS c0S k0_t9_loop k0_t9_ok rfl _ k0_off145 k0_off146 k0_off145_inb k0_off146_inb (k0_pay2 (F := F)) true (fun _ _ => rfl)
    A.mt hA.mt 2 k0_off145_eq k0_off146_eq oneF (fun _ => rfl) _) $$ [S4 S6]
  · isplitl [S4]
    · iexact S4
    · iexact S6
  iintro %_ ⟨S4, S6⟩
  iapply (wp_count d L gtS c0S k0_t10_loop k0_t10_ok rfl _ k0_off147 k0_off148 k0_off147_inb k0_off148_inb (k0_pay3 (F := F)) true (fun _ _ => rfl)
    A.gt hA.gt 2 k0_off147_eq k0_off148_eq bigF (fun _ => rfl) _) $$ [S5 S6]
  · isplitl [S5]
    · iexact S5
    · iexact S6
  iintro %_ ⟨S5, S6⟩
  ihave S6 := (of_holds d L c0S (View.set_whole _) (piece A.mt A.gt L 2)) $$ S6
  icases S6 with ⟨%u2, %hu2, S6⟩
  sl_exec
  -- the fourth, the second being away
  ihave S7 := (holds_of d L c1S (View.set_whole _) u1) $$ S7
  rw [hu1]
  iapply (wp_count d L mtS c1S k0_t11_loop k0_t11_ok rfl _ k0_off149 k0_off150 k0_off149_inb k0_off150_inb (k0_pay1 (F := F)) false (fun _ _ => rfl)
    A.mt hA.mt 1 k0_off149_eq k0_off150_eq zeroF (fun _ => rfl) _) $$ [S4 S7]
  · isplitl [S4]
    · iexact S4
    · iexact S7
  iintro %_ ⟨S4, S7⟩
  iapply (wp_count d L gtS c1S k0_t12_loop k0_t12_ok rfl _ k0_off151 k0_off152 k0_off151_inb k0_off152_inb (k0_pay1 (F := F)) false (fun _ _ => rfl)
    A.gt hA.gt 1 k0_off151_eq k0_off152_eq zeroF (fun _ => rfl) _) $$ [S5 S7]
  · isplitl [S5]
    · iexact S5
    · iexact S7
  iintro %_ ⟨S5, S7⟩
  ihave S7 := (Entails.of_eq (congrArg (Holds (thr d L) c1S) (sweep_clear (hits (topicsOf A.mt L) 1) (hits (topicsOf A.gt L) 1) oneF bigF zeroF 50))) $$ S7
  iapply (wp_count d L mtS c1S k0_t13_loop k0_t13_ok rfl _ k0_off153 k0_off154 k0_off153_inb k0_off154_inb (k0_pay2 (F := F)) true (fun _ _ => rfl)
    A.mt hA.mt 3 k0_off153_eq k0_off154_eq oneF (fun _ => rfl) _) $$ [S4 S7]
  · isplitl [S4]
    · iexact S4
    · iexact S7
  iintro %_ ⟨S4, S7⟩
  iapply (wp_count d L gtS c1S k0_t14_loop k0_t14_ok rfl _ k0_off155 k0_off156 k0_off155_inb k0_off156_inb (k0_pay3 (F := F)) true (fun _ _ => rfl)
    A.gt hA.gt 3 k0_off155_eq k0_off156_eq bigF (fun _ => rfl) _) $$ [S5 S7]
  · isplitl [S5]
    · iexact S5
    · iexact S7
  iintro %_ ⟨S5, S7⟩
  ihave S7 := (of_holds d L c1S (View.set_whole _) (piece A.mt A.gt L 3)) $$ S7
  icases S7 with ⟨%u3, %hu3, S7⟩
  sl_exec
  -- the four pieces of the counts
  ihave Hc0 := (delivered_of d L (pieceK ccV L 0#32 (k0_off136_inb L 0)) A.outs.cc _ _) $$ [Hc0]
  · isplitl [Hc0]; · iexact Hc0
    ipureintro
    exact hu0.trans (piece_eq L A.mt A.gt 0)
  ihave Hc1 := (delivered_of d L (pieceK ccV L 32#32 (k0_off136_inb L 1)) A.outs.cc _ _) $$ [Hc1]
  · isplitl [Hc1]; · iexact Hc1
    ipureintro
    exact hu1.trans (piece_eq L A.mt A.gt 1)
  ihave Hc2 := (delivered_of d L (pieceK ccV L 64#32 (k0_off136_inb L 2)) A.outs.cc _ _) $$ [Hc2]
  · isplitl [Hc2]; · iexact Hc2
    ipureintro
    exact hu2.trans (piece_eq L A.mt A.gt 2)
  ihave Hc3 := (delivered_of d L (pieceK ccV L 96#32 (k0_off136_inb L 3)) A.outs.cc _ _) $$ [Hc3]
  · isplitl [Hc3]; · iexact Hc3
    ipureintro
    exact hu3.trans (piece_eq L A.mt A.gt 3)
  ihave Hme := (pointsTo_split_subset (ℓ := meLoc d) (q := tileShare (wid L)) (f := A.me) (S := Finset.univ) (Finset.subset_univ (tblK meV).view.set)).2 $$ [Hme Hmer]
  · isplitl [Hme] <;> iassumption
  ihave Hge := (pointsTo_split_subset (ℓ := geLoc d) (q := tileShare (wid L)) (f := A.ge) (S := Finset.univ) (Finset.subset_univ (tblK geV).view.set)).2 $$ [Hge Hger]
  · isplitl [Hge] <;> iassumption
  ihave S4 := (of_holds d L mtS (View.set_whole _) _) $$ S4
  icases S4 with ⟨%g4, -, S4⟩
  ihave S5 := (of_holds d L gtS (View.set_whole _) _) $$ S5
  icases S5 with ⟨%g5, -, S5⟩
  sl_step
  isplitl [Hb0r Hb1r Hb2r Hmtr Hgtr Hme Hge Horg Hgg Hmem Hc0 Hc1 Hc2 Hc3]
  · isplitl [Hb0r Hb1r Hb2r Hmtr Hgtr Hme Hge]
    · isplitl [Hb0r]; · iexact Hb0r
      isplitl [Hb1r]; · iexact Hb1r
      isplitl [Hb2r]; · iexact Hb2r
      isplitl [Hmtr]; · iexact Hmtr
      isplitl [Hgtr]; · iexact Hgtr
      isplitl [Hme]; · iexact Hme
      iexact Hge
    isplitl [Horg]; · iapply (Entails.of_eq (show ((rowsK orgV L).view.loc (thr d L) ↦[(rowsK orgV L).view.set]{fullShare} A.outs.org : sProp 𝕄)
        = (orgLoc d ↦[rowSet (wid L)]{fullShare} A.outs.org) by rw [View.set_slice_whole, rowsK_set])); iexact Horg
    isplitl [Hgg]; · iapply (Entails.of_eq (show ((rowsK ggV L).view.loc (thr d L) ↦[(rowsK ggV L).view.set]{fullShare} A.outs.gg : sProp 𝕄)
        = (ggLoc d ↦[rowSet (wid L)]{fullShare} A.outs.gg) by rw [View.set_slice_whole, rowsK_set])); iexact Hgg
    isplitl [Hmem]; · iapply (Entails.of_eq (show ((rowsK memV L).view.loc (thr d L) ↦[(rowsK memV L).view.set]{fullShare} A.outs.mem : sProp 𝕄)
        = (memLoc d ↦[rowSet (wid L)]{fullShare} A.outs.mem) by rw [View.set_slice_whole, rowsK_set])); iexact Hmem
    isplitl [Hc0]; · iapply (pts_piece d L 0 A.outs.cc); iexact Hc0
    isplitl [Hc1]; · iapply (pts_piece d L 1 A.outs.cc); iexact Hc1
    isplitl [Hc2]; · iapply (pts_piece d L 2 A.outs.cc); iexact Hc2
    iapply (pts_piece d L 3 A.outs.cc); iexact Hc3
  isplitl [S0 S1 S2 S3 S4 S5 S6 S7 Hbufs]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    iexact Hbufs
  isplitl [M0 M1 M2 M3 M4 M5 N0 N1 N2 N3 N4 Hsems]
  · isplitl [M0]; · iexact M0
    isplitl [M1]; · iexact M1
    isplitl [M2]; · iexact M2
    isplitl [M3]; · iexact M3
    isplitl [M4]; · iexact M4
    isplitl [M5]; · iexact M5
    isplitl [N0]; · iexact N0
    isplitl [N1]; · iexact N1
    isplitl [N2]; · iexact N2
    isplitl [N3]; · iexact N3
    isplitl [N4]; · iexact N4
    iexact Hsems
  iexists _; isplitr
  swap; · iexact HO
  ipureintro; intro p hp
  simp only [Finset.mem_insert] at hp
  rcases hp with rfl | rfl | rfl | rfl | rfl | rfl | hp
  all_goals first | exact .inr rfl | exact hW1 p hp

end Task

end Cert.Proof.Lookup

end
-- ==== Proof.Launch.lean ====
/-
  The launch: every tile's obligation from its task, the call's arrays dealt among the thirty-two tiles and gathered from
  them, and the ghost state the run starts from.
-/
module

public import proofs.«01_k».proof.Proof.Task
public import proofs.«01_k».proof.Proof.Gen.KernelIdeal.Launch

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable [FloatOps F]

/-! ## Each tile's obligation -/

/-- A tile's coordinates, from its core and its number in the core. -/
def coordsV (c : Fin (grid0.bound 0)) (s : Fin (grid0.bound 1)) : grid0.Coords :=
  fun | 0 => c | 1 => s | ⟨_ + 2, h⟩ => absurd h (Nat.not_lt.2 (Nat.le_add_left _ _))

/-- What a tile runs is the lookup body at its coordinates, over the whole arrays. -/
theorem defs₀_vector (c : Fin τ.nSC) (s : Fin τ.nSub) :
    defs₀ (F := F) (.scVector c s) 0 ()
      = SparseCore.onTile hcore0 hsub0 (fun c s => cc0__sc_body (coordsV c s)
          (Memref.whole main_v1_scv) (Memref.isWhole_whole _) (Memref.whole main_v3_scv) (Memref.isWhole_whole _)
          (Memref.whole main_v5_scv) (Memref.isWhole_whole _) (Memref.whole main_v6_scv) (Memref.isWhole_whole _)
          (Memref.whole main_v7_scv) (Memref.isWhole_whole _) (Memref.whole main_arg3_scv) (Memref.isWhole_whole _)
          (Memref.whole main_arg4_scv) (Memref.isWhole_whole _) (Memref.whole main_v9_0_scv) (Memref.isWhole_whole _)
          (Memref.whole main_v9_1_scv) (Memref.isWhole_whole _) (Memref.whole main_v9_2_scv) (Memref.isWhole_whole _)
          (Memref.whole main_v9_3_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _) cc0_scratch8 cc0_scratch9 cc0_scratch10 cc0_scratch11
          cc0_scratch12 cc0_scratch13 cc0_scoped0 cc0_scoped1 cc0_scoped2 cc0_scoped3 cc0_scoped4) ⟨⟩ c s := rfl

omit [FloatOps F] in
/-- A task's end, with the waits it may leave in the form the launch asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile runs its task. -/
theorem tileObl (A : Dev nD → Ins F) (B : Dev nD → Outs F) (hA : ∀ d, (A d).OK) :
    (K (F := F)).TileObl (D (F := F)) 𝒱 (P A B) v₀ 0 := by
  intro d c i O W hO _ _
  simp only [show (P A B).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) facts (A d) (B d) (hA d) O W hO).trans (wp_mono frame _ _ fun _ => obl_post)

/-- A SparseCore's part is its tiles', by definition. -/
theorem vecSplit (A : Dev nD → Ins F) (B : Dev nD → Outs F) : (K (F := F)).VecSplit' (P A B) 0 := by
  intro d c
  have tasks (Φ : Fin 16 → sProp 𝕄) :
      (bigSep Finset.univ fun i : Fin ((K (F := F)).nSub 0) => Φ (Fin.cast nSub_zero i)) = bigSep Finset.univ Φ :=
    bigSep_congr fun _ _ => congrArg Φ (Fin.ext rfl)
  show corePts (A d) (B d) d (Fin.cast nCore_zero c) ⊢ |={Set.univ}=> iprop(
      (bigSep Finset.univ fun i : Fin ((K (F := F)).nSub 0) =>
        tilePts (A d) (B d) d (tileNo (Fin.cast nCore_zero c) (Fin.cast nSub_zero i)))
      ∗ ((bigSep Finset.univ fun i : Fin ((K (F := F)).nSub 0) =>
          tilePts (A d) (A d).outs d (tileNo (Fin.cast nCore_zero c) (Fin.cast nSub_zero i)))
          -∗ corePts (A d) (A d).outs d (Fin.cast nCore_zero c)))
  rw [tasks (fun i => tilePts (A d) (B d) d (tileNo (Fin.cast nCore_zero c) i)),
    tasks (fun i => tilePts (A d) (A d).outs d (tileNo (Fin.cast nCore_zero c) i))]
  unfold corePts
  iintro H; imodintro
  isplitl [H]; · iexact H
  iintro H; iexact H

end

/-! ## The arrays dealt among the tiles -/

/-- A tile's core and subcore, and its number. -/
def tileEquiv : Fin 2 × Fin 16 ≃ Fin 32 where
  toFun p := tileNo p.1 p.2
  invFun w := (⟨w.val % 2, by omega⟩, ⟨w.val / 2, by omega⟩)
  left_inv p := by
    obtain ⟨c, s⟩ := p
    simp only [tileNo, Prod.mk.injEq, Fin.ext_iff]
    omega
  right_inv w := by simp only [tileNo, Fin.ext_iff]; omega

/-- Tile by tile is core by core. -/
theorem bigSep_tiles (Φ : Fin 32 → sProp 𝕄) :
    (bigSep Finset.univ fun c : Fin 2 => bigSep Finset.univ fun s : Fin 16 => Φ (tileNo c s)) = bigSep Finset.univ Φ := by
  rw [show (Finset.univ : Finset (Fin 32)) = (Finset.univ : Finset (Fin 2 × Fin 16)).map tileEquiv.toEmbedding from
    (Finset.map_univ_equiv tileEquiv).symm, bigSep_map, ← Finset.univ_product_univ, SparseCore.bigSep_product]
  rfl

/-- A read array is dealt to the thirty-two tiles in equal shares. -/
theorem read_deal {ℓ : Loc nD τ sig} (f : Buf (Elt F) ℓ) :
    (ℓ ↦{fullShare} f : sProp 𝕄) = bigSep Finset.univ fun w : Fin 32 => ℓ ↦{tileShare w} f :=
  Transfers.pointsTo_deal Finset.univ Finset.univ_nonempty fullShare

/-- Two tiles' rows are disjoint. -/
theorem rows_disjoint : ∀ w ∈ (Finset.univ : Finset (Fin 32)), ∀ w' ∈ (Finset.univ : Finset (Fin 32)), w ≠ w' →
    Disjoint (rowSet w) (rowSet w') := by
  intro w _ w' _ h
  rw [Finset.disjoint_left]
  intro x hx hx'
  simp only [rowSet, Finset.mem_filter] at hx hx'
  exact h (Fin.ext (hx.2.symm.trans hx'.2))

/-- The tiles' rows are all the rows. -/
theorem rows_cover : (Finset.univ : Finset (Fin 32)).biUnion rowSet = Finset.univ := by
  ext x
  have hx : (x 0).val < 4096 := (x 0).isLt
  simp only [Finset.mem_biUnion, Finset.mem_univ, true_and, iff_true, rowSet, Finset.mem_filter]
  exact ⟨⟨(x 0).val / 128, by omega⟩, rfl⟩

/-- The pieces of the count array, tile by tile. -/
theorem chunks_disjoint : ∀ p ∈ (Finset.univ : Finset (Fin 32 × Fin 4)), ∀ p' ∈ (Finset.univ : Finset (Fin 32 × Fin 4)), p ≠ p' →
    Disjoint (chunkSet p.1 p.2) (chunkSet p'.1 p'.2) := by
  rintro ⟨w, k⟩ _ ⟨w', k'⟩ _ h
  rw [Finset.disjoint_left]
  intro x hx hx'
  simp only [chunkSet, Finset.mem_filter] at hx hx'
  have hk := k.isLt
  have hk' := k'.isLt
  exact h (Prod.ext (Fin.ext (show w.val = w'.val by omega)) (Fin.ext (show k.val = k'.val by omega)))

/-- All tiles' chunks together are the whole count array. -/
theorem chunks_cover : (Finset.univ : Finset (Fin 32 × Fin 4)).biUnion (fun p => chunkSet p.1 p.2) = Finset.univ := by
  ext x
  have hx : (x 0).val < 4096 := (x 0).isLt
  simp only [Finset.mem_biUnion, Finset.mem_univ, true_and, iff_true, chunkSet, Finset.mem_filter, Prod.exists]
  exact ⟨⟨(x 0).val / 128, by omega⟩, ⟨(x 0).val / 32 % 4, by omega⟩, by show (x 0).val / 32 = 4 * ((x 0).val / 128) + (x 0).val / 32 % 4; omega⟩

/-- The first result is dealt by rows. -/
theorem org_deal (d : Dev nD) (f : Buf (Elt F) (orgLoc d)) :
    (orgLoc d ↦{fullShare} f : sProp 𝕄) = bigSep Finset.univ fun w : Fin 32 => orgLoc d ↦[rowSet w]{fullShare} f := by
  rw [← pointsTo_biUnion Finset.univ (ℓ := orgLoc d) rowSet rows_disjoint, rows_cover]; try rfl
/-- So is the second. -/
theorem gg_deal (d : Dev nD) (f : Buf (Elt F) (ggLoc d)) :
    (ggLoc d ↦{fullShare} f : sProp 𝕄) = bigSep Finset.univ fun w : Fin 32 => ggLoc d ↦[rowSet w]{fullShare} f := by
  rw [← pointsTo_biUnion Finset.univ (ℓ := ggLoc d) rowSet rows_disjoint, rows_cover]; try rfl
/-- So is the third. -/
theorem mem_deal (d : Dev nD) (f : Buf (Elt F) (memLoc d)) :
    (memLoc d ↦{fullShare} f : sProp 𝕄) = bigSep Finset.univ fun w : Fin 32 => memLoc d ↦[rowSet w]{fullShare} f := by
  rw [← pointsTo_biUnion Finset.univ (ℓ := memLoc d) rowSet rows_disjoint, rows_cover]; try rfl
/-- The count array is dealt by the tiles' four chunks each. -/
theorem cc_deal (d : Dev nD) (f : Buf (Elt F) (ccLoc d)) :
    (ccLoc d ↦{fullShare} f : sProp 𝕄) = bigSep Finset.univ fun w : Fin 32 =>
      iprop((ccLoc d ↦[chunkSet w 0]{fullShare} f) ∗ (ccLoc d ↦[chunkSet w 1]{fullShare} f)
        ∗ (ccLoc d ↦[chunkSet w 2]{fullShare} f) ∗ (ccLoc d ↦[chunkSet w 3]{fullShare} f)) := by
  have h : (ccLoc d ↦{fullShare} f : sProp 𝕄)
      = bigSep Finset.univ fun p : Fin 32 × Fin 4 => ccLoc d ↦[chunkSet p.1 p.2]{fullShare} f := by
    rw [← pointsTo_biUnion Finset.univ (ℓ := ccLoc d) (fun p : Fin 32 × Fin 4 => chunkSet p.1 p.2) chunks_disjoint, chunks_cover]; try rfl
  rw [h, ← Finset.univ_product_univ, SparseCore.bigSep_product]
  refine bigSep_congr fun w _ => ?_
  rw [show (Finset.univ : Finset (Fin 4)) = {0, 1, 2, 3} by decide, SparseCore.bigSep_insert' (by decide),
    SparseCore.bigSep_insert' (by decide), SparseCore.bigSep_insert' (by decide), bigSep_singleton]

/-- The eleven arrays of the call, held whole. -/
def callPts (A : Ins F) (B : Outs F) (d : Dev nD) : sProp 𝕄 :=
  iprop(readPts A d fullShare ∗ (orgLoc d ↦{fullShare} B.org) ∗ (ggLoc d ↦{fullShare} B.gg) ∗ (memLoc d ↦{fullShare} B.mem)
    ∗ (ccLoc d ↦{fullShare} B.cc))

/-- The arrays are the two SparseCores' parts. -/
theorem callPts_eq (A : Ins F) (B : Outs F) (d : Dev nD) :
    (callPts A B d : sProp 𝕄) = bigSep Finset.univ fun c : Fin 2 => corePts A B d c := by
  unfold corePts
  rw [bigSep_tiles (fun w => tilePts A B d w)]
  unfold callPts tilePts readPts writePts
  rw [read_deal (ℓ := b0Loc d), read_deal (ℓ := b1Loc d), read_deal (ℓ := b2Loc d), read_deal (ℓ := mtLoc d), read_deal (ℓ := gtLoc d),
    read_deal (ℓ := meLoc d), read_deal (ℓ := geLoc d), org_deal, gg_deal, mem_deal, cc_deal]
  simp only [bigSep_sep']

variable [FloatOps F]

/-- What starting the call hands over: the call's arrays, the results as they were. -/
theorem st_eq (A : Dev nD → Ins F) (B : Dev nD → Outs F) (d : Dev nD) :
    (bigSep Finset.univ fun c : Fin ((K (F := F)).nCore 0) => (P A B).st 0 d c) = callPts (A d) (B d) d :=
  (callPts_eq (A d) (B d) d).symm
/-- What its end hands back: the same arrays, with the call's results. -/
theorem dn_eq (A : Dev nD → Ins F) (B : Dev nD → Outs F) (d : Dev nD) :
    (bigSep Finset.univ fun c : Fin ((K (F := F)).nCore 0) => (P A B).dn 0 d c) = callPts (A d) (A d).outs d :=
  (callPts_eq (A d) (A d).outs d).symm

/-! ## The ghost state the run starts from -/

/-- The ghost state: the launch handshakes' cells and tokens, the pipeline's, and the transfers' counters. -/
def u₀ : UU := (initOf (K (F := F)).hsCells (K (F := F)).hsToks,
  (initOf (Pipeline.cells cfgs cellOf_inj) (Pipeline.launchToks cfgs cellOf_inj), 1))

/-- What the TensorCore keeps for its pipeline: its cells and their tokens. -/
def G (d : Dev nD) : sProp 𝕄 := iprop(Pipeline.cellsGhost cfgs EP 0 d ∗ Pipeline.toksInit cfgs EP 0 d)

/-- The pipeline's part of the ghost state, as the pipeline names it. -/
theorem own_pair (a : UP) : (BI.own (embR (a, (1 : Counters))) : sProp 𝕄) ⊢ BI.own (EP a) := by
  have h : (BI.own (embR (a, (1 : Counters))) : sProp 𝕄) ⊢ iprop(BI.own (EP a)
      ∗ BI.own ((uEmb (nD := nD) (sig := sig) (Ix := HIx 1) (Val := Elt F) (Name := ℕ) (U := UU) (Lvl := ℕ)).toEmb ((1, (1, 1)) : UU))) :=
    BI.own_op_elim ((uEmb (nD := nD) (sig := sig) (Ix := HIx 1) (Val := Elt F) (Name := ℕ) (U := UU) (Lvl := ℕ)).toEmb.op_of_mem
      (Prod.mk_mem_op (URA.mem_one_op _) (Prod.mk_mem_op (URA.mem_op_one a) (URA.mem_one_op _))))
  exact h.trans sep_elim_left

/-- The ghost state divides into the handshakes' part, each device's pipeline part and what each thread is given. -/
theorem hu₀ (A : Dev nD → Ins F) (B : Dev nD → Outs F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P A B).x q thr) := by
  unfold u₀
  iintro Hu
  ihave H := (ownU_pair (initOf (K (F := F)).hsCells (K (F := F)).hsToks)
    ((initOf (Pipeline.cells cfgs cellOf_inj) (Pipeline.launchToks cfgs cellOf_inj), 1) : UP × Counters)) $$ Hu
  icases H with ⟨HH, HP⟩
  ihave HP := (own_pair _) $$ HP
  imod (Pipeline.fund_ghost cfgs EP cellOf_inj) $$ HP with ⟨Hc, Ht⟩
  imodintro
  isplitl [HH]; · iexact HH
  isplitl [Hc Ht]
  · unfold G
    rw [bigSep_sep']
    isplitl [Hc]
    · iapply (Entails.of_eq (bigSep_congr (Ψ := fun d => Pipeline.cellsGhost cfgs EP 0 d) fun d _ => bigSep_univ_of_subsingleton (Φ := fun p => Pipeline.cellsGhost cfgs EP p d) (0 : Fin 1))); iexact Hc
    · iapply (Entails.of_eq (bigSep_congr (Ψ := fun d => Pipeline.toksInit cfgs EP 0 d) fun d _ => bigSep_univ_of_subsingleton (Φ := fun p => Pipeline.toksInit cfgs EP p d) (0 : Fin 1))); iexact Ht
  rw [show (bigSep Finset.univ fun thr : Thread nD τ => bigSep Finset.univ fun q : Fin 1 => (P (F := F) A B).x q thr) = bigSep Finset.univ fun _ => iprop(emp) from
    bigSep_congr fun _ _ => bigSep_univ_of_subsingleton (0 : Fin 1),
    show (bigSep Finset.univ fun _ : Thread nD τ => (iprop(emp) : sProp 𝕄)) = iprop(emp) from bigSep_emp_const _]
  iempintro

end Cert.Proof.Lookup

end
-- ==== Proof.Head.lean ====
/-
  The TensorCore kernel: at each of its eight grid points it reads 512 batch rows of the gathered arrays and of the counts and
  writes the 512 columns of the result that belong to them.
-/
module

public import proofs.«01_k».proof.Proof.Setup
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.Regions
public import Idealize.ShloMosaic.Lib.VecWindow

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-- What the kernel writes at a grid point, from the blocks it reads there. -/
def headOut (org gg mem : Vec F S512x128 .f32) (cc : Vec F S512x1024 .f32) (tt : Vec F S1024x128 .bf16) (w1 : Vec F S640x1024 .bf16)
    (b1 : Vec F S1x1024 .f32) (w2 : Vec F S1024x1024 .bf16) (b2 : Vec F S1x1024 .f32) (w3 : Vec F S1000x1024 .bf16) (b3 : Vec F S1000x1 .f32) :
    Vec F S1000x512 .f32 :=
  k1_pay1 (k1_pay2 tt cc org gg mem w1 b1) (Scalar.ofBits .f32 0x00000000#32) w2 b2 w3 b3

/-- The contents of a buffer the TensorCore names. -/
abbrev Bf (c : Dev nD) {sp : Space} {S : Shape} {e : EltTy} (M : Memref sig .tc sp S e) : Type := Buf (Elt F) (M.view.loc (c.tc : Thread nD τ))
/-- Such a buffer, held whole. -/
abbrev pt (c : Dev nD) {sp : Space} {S : Shape} {e : EltTy} (M : Memref sig .tc sp S e) (f : Bf (F := F) c M) : sProp 𝕄 :=
  M.view.loc (c.tc : Thread nD τ) ↦{fullShare} f

/-- The kernel at one grid point, from its twelve buffers held whole. -/
theorem head_run (c : Dev nD) (i : grid1.Coords)
    (M0 : Memref sig .tc .vmem S512x128 .f32) (h0 : M0.IsWhole) (M1 : Memref sig .tc .vmem S512x128 .f32) (h1 : M1.IsWhole)
    (M2 : Memref sig .tc .vmem S512x128 .f32) (h2 : M2.IsWhole) (M3 : Memref sig .tc .vmem S512x1024 .f32) (h3 : M3.IsWhole)
    (M4 : Memref sig .tc .vmem S1024x128 .bf16) (h4 : M4.IsWhole) (M5 : Memref sig .tc .vmem S640x1024 .bf16) (h5 : M5.IsWhole)
    (M6 : Memref sig .tc .vmem S1x1024 .f32) (h6 : M6.IsWhole) (M7 : Memref sig .tc .vmem S1024x1024 .bf16) (h7 : M7.IsWhole)
    (M8 : Memref sig .tc .vmem S1x1024 .f32) (h8 : M8.IsWhole) (M9 : Memref sig .tc .vmem S1000x1024 .bf16) (h9 : M9.IsWhole)
    (M10 : Memref sig .tc .vmem S1000x1 .f32) (h10 : M10.IsWhole) (M11 : Memref sig .tc .vmem S1000x512 .f32) (h11 : M11.IsWhole)
    (f0 : Bf (F := F) c M0) (f1 : Bf (F := F) c M1) (f2 : Bf (F := F) c M2) (f3 : Bf (F := F) c M3) (f4 : Bf (F := F) c M4)
    (f5 : Bf (F := F) c M5) (f6 : Bf (F := F) c M6) (f7 : Bf (F := F) c M7) (f8 : Bf (F := F) c M8) (f9 : Bf (F := F) c M9)
    (f10 : Bf (F := F) c M10) (f11 : Bf (F := F) c M11) (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8
        ∗ pt c M9 f9 ∗ pt c M10 f10 ∗ pt c M11 f11
        ∗ (iprop(pt c M0 f0 ∗ pt c M1 f1 ∗ pt c M2 f2 ∗ pt c M3 f3 ∗ pt c M4 f4 ∗ pt c M5 f5 ∗ pt c M6 f6 ∗ pt c M7 f7 ∗ pt c M8 f8
            ∗ pt c M9 f9 ∗ pt c M10 f10 ∗ ∃ g, ⌜M11.view.read (Elt F) g = headOut (M0.view.read (Elt F) f0) (M1.view.read (Elt F) f1)
                (M2.view.read (Elt F) f2) (M3.view.read (Elt F) f3) (M4.view.read (Elt F) f4) (M5.view.read (Elt F) f5)
                (M6.view.read (Elt F) f6) (M7.view.read (Elt F) f7) (M8.view.read (Elt F) f8) (M9.view.read (Elt F) f9)
                (M10.view.read (Elt F) f10)⌝ ∗ pt c M11 g) -∗ Q ⟨⟩))
      ⊢ wp frame (wpE (defs₀ (F := F)) 𝒱₀ (c.tc : Thread nD τ) none) E
          (cc1__tc_body i M0 h0 M1 h1 M2 h2 M3 h3 M4 h4 M5 h5 M6 h6 M7 h7 M8 h8 M9 h9 M10 h10 M11 h11) Q := by
  rw [cc1__tc_body_eq_skeleton]; unfold cc1__tc_body_skel; rw [k1_part1_eq_skeleton]; unfold k1_part1_skel
  iintro ⟨H0, H1, H2, H3, H4, H5, H6, H7, H8, H9, H10, H11, Hk⟩
  sl_exec!
  sl_step
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists _; isplitr; swap; (· iexact H11)
  ipureintro
  unfold head_run.sl.H11_1
  refine (View.read_writes_full M11.view _ (off := ![0, 0]) _ _ []).trans ?_
  unfold headOut
  repeat rw [View.readAt_full]
  rfl

end Cert.Proof.Lookup

end
-- ==== Proof.Region.lean ====
/-
  The TensorCore kernel's pipeline as a step of @main: its proof data at the arrays' entry contents, the body's obligation at
  every grid point, and the region entered from and left to the state of the TensorCore's thread.
-/
module

public import proofs.«01_k».proof.Proof.Head
public import Idealize.ShloMosaic.Lib.Pipeline.Frame
public import Idealize.ShloMosaic.Lib.Pipeline.RegionsLoop

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

/-! ## The proof data -/

variable (V : (c : Dev nD) → (b : Ref sig .tc) → Buf (Elt F) ((c.tc : Thread nD τ).loc b))

/-- The block of window `w`'s array at grid point `t`. -/
abbrev blkAt (c : Dev nD) (w : Fin 12) (t : Fin cfg1.N) : ((cfg1.win w).xblock (cfg1.grid.coords t)).Idx → Elt F (cfg1.win w).elt :=
  ((cfg1.win w).blk t).view.read (Elt F) (V c (Pipeline.arrRef spec1 w))

/-- What the kernel writes at grid point `t`. -/
def headAt (c : Dev nD) (t : Fin cfg1.N) : Vec F S1000x512 .f32 :=
  headOut (blkAt V c 0 t) (blkAt V c 1 t) (blkAt V c 2 t) (blkAt V c 3 t) (blkAt V c 4 t) (blkAt V c 5 t) (blkAt V c 6 t) (blkAt V c 7 t)
    (blkAt V c 8 t) (blkAt V c 9 t) (blkAt V c 10 t)

/-- The pairs the TensorCore's waits may have recorded: none above the level of the SparseCore call's end. -/
def recd (c : Dev nD) : Set (SemLoc sig × HIx 1) := {p | (K (F := F)).lev ((c.tc : Thread nD τ), p.1) p.2 ≤ 8}

/-- The proof data: the arrays at `V`; each input's buffer left at its block, the result's at the kernel's value. -/
def dat (c : Dev nD) : Pipeline.Dat τ (Elt F) (HIx 1) ℕ UU ℕ cfg1 c where
  A w := V c (Pipeline.arrRef spec1 w)
  after w t := match w with
    | ⟨0, _⟩ => blkAt V c 0 t
    | ⟨1, _⟩ => blkAt V c 1 t
    | ⟨2, _⟩ => blkAt V c 2 t
    | ⟨3, _⟩ => blkAt V c 3 t
    | ⟨4, _⟩ => blkAt V c 4 t
    | ⟨5, _⟩ => blkAt V c 5 t
    | ⟨6, _⟩ => blkAt V c 6 t
    | ⟨7, _⟩ => blkAt V c 7 t
    | ⟨8, _⟩ => blkAt V c 8 t
    | ⟨9, _⟩ => blkAt V c 9 t
    | ⟨10, _⟩ => blkAt V c 10 t
    | ⟨11, _⟩ => headAt V c t
  Φ _ := Pipeline.scopedRest (Ix := HIx 1) (Name := ℕ) (U := UU) (Lvl := ℕ) (Val := Elt F) spec1 c
  q _ := fullShare
  owed _ := 0
  recorded _ := recd (F := F) c

variable (adm : (p : Fin 1) → (pcfgs (F := F) p).Adm)

/-- The one pipeline's proof data, as the family over the program's pipelines. -/
def pdats : (p : Fin 1) → (c : Dev nD) → Pipeline.Dat τ (Elt F) (HIx 1) ℕ UU ℕ (Pipeline.pin (pcfgs (F := F)) adm p) c
  | ⟨0, _⟩ => fun c => dat V c

/-- A whole memref owned at contents read as `X` is its buffer held whole at some contents it reads as `X`. -/
theorem owns_pt (c : Dev nD) {sp : Space} {S : Shape} {e : EltTy} (M : Memref sig .tc sp S e) (h : M.IsWhole) (X : S.Idx → Elt F e) :
    (owns (c.tc : Thread nD τ) M fullShare X : sProp 𝕄) = iprop(∃ f, ⌜M.view.read (Elt F) f = X⌝ ∗ pt c M f) := by
  unfold owns pt; rw [h.set_eq_univ]

/-- The kernel at one grid point, from its buffers owned at what it reads. -/
theorem head_owns (c : Dev nD) (i : grid1.Coords)
    (M0 : Memref sig .tc .vmem S512x128 .f32) (h0 : M0.IsWhole)
    (M1 : Memref sig .tc .vmem S512x128 .f32) (h1 : M1.IsWhole)
    (M2 : Memref sig .tc .vmem S512x128 .f32) (h2 : M2.IsWhole)
    (M3 : Memref sig .tc .vmem S512x1024 .f32) (h3 : M3.IsWhole)
    (M4 : Memref sig .tc .vmem S1024x128 .bf16) (h4 : M4.IsWhole)
    (M5 : Memref sig .tc .vmem S640x1024 .bf16) (h5 : M5.IsWhole)
    (M6 : Memref sig .tc .vmem S1x1024 .f32) (h6 : M6.IsWhole)
    (M7 : Memref sig .tc .vmem S1024x1024 .bf16) (h7 : M7.IsWhole)
    (M8 : Memref sig .tc .vmem S1x1024 .f32) (h8 : M8.IsWhole)
    (M9 : Memref sig .tc .vmem S1000x1024 .bf16) (h9 : M9.IsWhole)
    (M10 : Memref sig .tc .vmem S1000x1 .f32) (h10 : M10.IsWhole)
    (M11 : Memref sig .tc .vmem S1000x512 .f32) (h11 : M11.IsWhole)
    (X0 : Vec F S512x128 .f32)
    (X1 : Vec F S512x128 .f32)
    (X2 : Vec F S512x128 .f32)
    (X3 : Vec F S512x1024 .f32)
    (X4 : Vec F S1024x128 .bf16)
    (X5 : Vec F S640x1024 .bf16)
    (X6 : Vec F S1x1024 .f32)
    (X7 : Vec F S1024x1024 .bf16)
    (X8 : Vec F S1x1024 .f32)
    (X9 : Vec F S1000x1024 .bf16)
    (X10 : Vec F S1000x1 .f32)
    (X11 : Vec F S1000x512 .f32)
    (E : Set ℕ) (Q : PUnit → sProp 𝕄) :
    iprop(owns (c.tc : Thread nD τ) M0 fullShare X0 ∗ owns (c.tc : Thread nD τ) M1 fullShare X1 ∗ owns (c.tc : Thread nD τ) M2 fullShare X2 ∗ owns (c.tc : Thread nD τ) M3 fullShare X3 ∗ owns (c.tc : Thread nD τ) M4 fullShare X4 ∗ owns (c.tc : Thread nD τ) M5 fullShare X5 ∗ owns (c.tc : Thread nD τ) M6 fullShare X6 ∗ owns (c.tc : Thread nD τ) M7 fullShare X7 ∗ owns (c.tc : Thread nD τ) M8 fullShare X8 ∗ owns (c.tc : Thread nD τ) M9 fullShare X9 ∗ owns (c.tc : Thread nD τ) M10 fullShare X10 ∗ owns (c.tc : Thread nD τ) M11 fullShare X11
        ∗ (iprop(owns (c.tc : Thread nD τ) M0 fullShare X0 ∗ owns (c.tc : Thread nD τ) M1 fullShare X1 ∗ owns (c.tc : Thread nD τ) M2 fullShare X2 ∗ owns (c.tc : Thread nD τ) M3 fullShare X3 ∗ owns (c.tc : Thread nD τ) M4 fullShare X4 ∗ owns (c.tc : Thread nD τ) M5 fullShare X5 ∗ owns (c.tc : Thread nD τ) M6 fullShare X6 ∗ owns (c.tc : Thread nD τ) M7 fullShare X7 ∗ owns (c.tc : Thread nD τ) M8 fullShare X8 ∗ owns (c.tc : Thread nD τ) M9 fullShare X9 ∗ owns (c.tc : Thread nD τ) M10 fullShare X10 ∗ owns (c.tc : Thread nD τ) M11 fullShare (headOut X0 X1 X2 X3 X4 X5 X6 X7 X8 X9 X10)) -∗ Q ⟨⟩))
      ⊢ wp frame (wpE (defs₀ (F := F)) 𝒱₀ (c.tc : Thread nD τ) none) E
          (cc1__tc_body i M0 h0 M1 h1 M2 h2 M3 h3 M4 h4 M5 h5 M6 h6 M7 h7 M8 h8 M9 h9 M10 h10 M11 h11) Q := by
  rw [owns_pt c M0 h0 _, owns_pt c M1 h1 _, owns_pt c M2 h2 _, owns_pt c M3 h3 _, owns_pt c M4 h4 _, owns_pt c M5 h5 _, owns_pt c M6 h6 _, owns_pt c M7 h7 _, owns_pt c M8 h8 _, owns_pt c M9 h9 _, owns_pt c M10 h10 _, owns_pt c M11 h11 _]
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, Hk⟩
  subst e0 e1 e2 e3 e4 e5 e6 e7 e8 e9 e10
  iapply (head_run c i M0 h0 M1 h1 M2 h2 M3 h3 M4 h4 M5 h5 M6 h6 M7 h7 M8 h8 M9 h9 M10 h10 M11 h11 f0 f1 f2 f3 f4 f5 f6 f7 f8 f9 f10 f11 E Q)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, %g, %hg, H11⟩
  iapply Hk
  isplitl [H0]; · iexists f0; isplitr; swap; (· iexact H0); ipureintro; rfl
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  isplitl [H10]; · iexists f10; isplitr; swap; (· iexact H10); ipureintro; rfl
  iapply (Entails.of_eq (owns_pt c M11 h11 _).symm)
  iexists g; isplitr; swap; (· iexact H11); ipureintro; exact hg

/-- Before the body runs at a point, window 0's buffer holds that point's block. -/
theorem before_0 (c : Dev nD) (t : Fin cfg1.N) (d : (cfg1.win 0).block.Idx → Elt F (cfg1.win 0).elt) :
    (dat V c).before 0 t d = blkAt V c 0 t :=
  (dat V c).before_in_eq_fetched 0 rfl (fun _ => rfl) (fun _ _ _ => rfl) (fun _ => rfl) t d
/-- Before the body runs at a point, window 1's buffer holds that point's block. -/
theorem before_1 (c : Dev nD) (t : Fin cfg1.N) (d : (cfg1.win 1).block.Idx → Elt F (cfg1.win 1).elt) :
    (dat V c).before 1 t d = blkAt V c 1 t :=
  (dat V c).before_in_eq_fetched 1 rfl (fun _ => rfl) (fun _ _ _ => rfl) (fun _ => rfl) t d
/-- Before the body runs at a point, window 2's buffer holds that point's block. -/
theorem before_2 (c : Dev nD) (t : Fin cfg1.N) (d : (cfg1.win 2).block.Idx → Elt F (cfg1.win 2).elt) :
    (dat V c).before 2 t d = blkAt V c 2 t :=
  (dat V c).before_in_eq_fetched 2 rfl (fun _ => rfl) (fun _ _ _ => rfl) (fun _ => rfl) t d
/-- Before the body runs at a point, window 3's buffer holds that point's block. -/
theorem before_3 (c : Dev nD) (t : Fin cfg1.N) (d : (cfg1.win 3).block.Idx → Elt F (cfg1.win 3).elt) :
    (dat V c).before 3 t d = blkAt V c 3 t :=
  (dat V c).before_in_eq_fetched 3 rfl (fun _ => rfl) (fun _ _ _ => rfl) (fun _ => rfl) t d
/-- Before the body runs at a point, window 4's buffer holds that point's block. -/
theorem before_4 (c : Dev nD) (t : Fin cfg1.N) (d : (cfg1.win 4).block.Idx → Elt F (cfg1.win 4).elt) :
    (dat V c).before 4 t d = blkAt V c 4 t :=
  (dat V c).before_in_eq_fetched 4 rfl (fun _ => rfl) (fun _ _ _ => rfl) (fun _ => rfl) t d
/-- Before the body runs at a point, window 5's buffer holds that point's block. -/
theorem before_5 (c : Dev nD) (t : Fin cfg1.N) (d : (cfg1.win 5).block.Idx → Elt F (cfg1.win 5).elt) :
    (dat V c).before 5 t d = blkAt V c 5 t :=
  (dat V c).before_in_eq_fetched 5 rfl (fun _ => rfl) (fun _ _ _ => rfl) (fun _ => rfl) t d
/-- Before the body runs at a point, window 6's buffer holds that point's block. -/
theorem before_6 (c : Dev nD) (t : Fin cfg1.N) (d : (cfg1.win 6).block.Idx → Elt F (cfg1.win 6).elt) :
    (dat V c).before 6 t d = blkAt V c 6 t :=
  (dat V c).before_in_eq_fetched 6 rfl (fun _ => rfl) (fun _ _ _ => rfl) (fun _ => rfl) t d
/-- Before the body runs at a point, window 7's buffer holds that point's block. -/
theorem before_7 (c : Dev nD) (t : Fin cfg1.N) (d : (cfg1.win 7).block.Idx → Elt F (cfg1.win 7).elt) :
    (dat V c).before 7 t d = blkAt V c 7 t :=
  (dat V c).before_in_eq_fetched 7 rfl (fun _ => rfl) (fun _ _ _ => rfl) (fun _ => rfl) t d
/-- Before the body runs at a point, window 8's buffer holds that point's block. -/
theorem before_8 (c : Dev nD) (t : Fin cfg1.N) (d : (cfg1.win 8).block.Idx → Elt F (cfg1.win 8).elt) :
    (dat V c).before 8 t d = blkAt V c 8 t :=
  (dat V c).before_in_eq_fetched 8 rfl (fun _ => rfl) (fun _ _ _ => rfl) (fun _ => rfl) t d
/-- Before the body runs at a point, window 9's buffer holds that point's block. -/
theorem before_9 (c : Dev nD) (t : Fin cfg1.N) (d : (cfg1.win 9).block.Idx → Elt F (cfg1.win 9).elt) :
    (dat V c).before 9 t d = blkAt V c 9 t :=
  (dat V c).before_in_eq_fetched 9 rfl (fun _ => rfl) (fun _ _ _ => rfl) (fun _ => rfl) t d
/-- Before the body runs at a point, window 10's buffer holds that point's block. -/
theorem before_10 (c : Dev nD) (t : Fin cfg1.N) (d : (cfg1.win 10).block.Idx → Elt F (cfg1.win 10).elt) :
    (dat V c).before 10 t d = blkAt V c 10 t :=
  (dat V c).before_in_eq_fetched 10 rfl (fun _ => rfl) (fun _ _ _ => rfl) (fun _ => rfl) t d

/-- The kernel's obligation at every grid point: its buffers held at the blocks, left at them and at the kernel's value. -/
theorem body_obligation (c : Dev nD) : Pipeline.BodyObligation (dat V c) (defs₀ (F := F)) 𝒱₀ none Set.univ := fun t => by
  rw [bigSep_W1, bigSep_W1]
  dsimp only
  rw [show (dat V c).Φ t.castSucc = (dat V c).Φ t.succ from rfl, show (dat V c).owesAt none t.castSucc = (dat V c).owesAt none t.succ from rfl]
  simp only [before_0 V, before_1 V, before_2 V, before_3 V, before_4 V, before_5 V, before_6 V, before_7 V, before_8 V, before_9 V, before_10 V]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (head_owns c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11))
    (blkAt V c 0 t) (blkAt V c 1 t) (blkAt V c 2 t) (blkAt V c 3 t) (blkAt V c 4 t) (blkAt V c 5 t) (blkAt V c 6 t) (blkAt V c 7 t) (blkAt V c 8 t) (blkAt V c 9 t) (blkAt V c 10 t) _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iintro ⟨H0, H1, H2, H3, H4, H5, H6, H7, H8, H9, H10, H11⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-! ## The region over the thread's state -/

/-- The result's array after the pipeline. -/
def headed (c : Dev nD) : Buf (Elt F) ((c.tc : Thread nD τ).loc main_v18) := (dat V c).arrAt 11 cfg1.N

/-- What the thread owes around the region: nothing, its waits recorded within `recd`. -/
def idle (c : Dev nD) : sProp 𝕄 := iprop(∃ W : Finset (SemLoc sig × HIx 1), ⌜(↑W : Set (SemLoc sig × HIx 1)) ⊆ recd (F := F) c⌝ ∗ owes (c.tc : Thread nD τ) (0 : CellTallies nD τ sig (HIx 1)) W)

variable (Vp : (c : Dev nD) → (b : Ref sig .tc) → Buf (Elt F) ((c.tc : Thread nD τ).loc b))

set_option backward.isDefEq.respectTransparency.types false in
/-- The region: entered with every unscoped buffer at `V`, left with the result's at the pipeline's value and the others as
    they were. -/
def reg (hVp_out : ∀ c, Vp c main_v18 = headed V c)
    (hVp_ne : ∀ c (b : Ref sig .tc), b ≠ main_v18 → Vp c b = V c b) :
    Pipeline.RegionSeg (pcfgs (F := F)) adm (pdats V adm) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ idle c)
  post c := iprop(unscopedBufs c (Vp c) ∗ idle c)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold idle Pipeline.Dat.owesAt Pipeline.owesWithin
      icases HO with ⟨%W, %hW, HO⟩; iexists W; isplitr; · ipureintro; exact fun p hp => Or.inl (hW hp)
      iexact HO
    isplitr; · iempintro
    iexact Hrest
  hin c := by
    rw [show (pdats V adm 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V adm 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v9_0 (by decide)).symm
        · exact ((pdats V adm 0 c).arrAt_in 1 rfl _).trans (hVp_ne c main_v9_1 (by decide)).symm
        · exact ((pdats V adm 0 c).arrAt_in 2 rfl _).trans (hVp_ne c main_v9_2 (by decide)).symm
        · exact ((pdats V adm 0 c).arrAt_in 3 rfl _).trans (hVp_ne c main_v9_3 (by decide)).symm
        · exact ((pdats V adm 0 c).arrAt_in 4 rfl _).trans (hVp_ne c main_v10 (by decide)).symm
        · exact ((pdats V adm 0 c).arrAt_in 5 rfl _).trans (hVp_ne c main_v11 (by decide)).symm
        · exact ((pdats V adm 0 c).arrAt_in 6 rfl _).trans (hVp_ne c main_v12 (by decide)).symm
        · exact ((pdats V adm 0 c).arrAt_in 7 rfl _).trans (hVp_ne c main_v13 (by decide)).symm
        · exact ((pdats V adm 0 c).arrAt_in 8 rfl _).trans (hVp_ne c main_v14 (by decide)).symm
        · exact ((pdats V adm 0 c).arrAt_in 9 rfl _).trans (hVp_ne c main_v16 (by decide)).symm
        · exact ((pdats V adm 0 c).arrAt_in 10 rfl _).trans (hVp_ne c main_v17 (by decide)).symm
        · exact (hVp_out c).symm)
      (fun b hb => hVp_ne c b fun h => hb (h ▸ Finset.mem_image.mpr ⟨11, Finset.mem_univ _, rfl⟩))
    iintro ⟨Ha, HO, -, Hrest⟩
    imodintro
    isplitl [Ha Hrest]
    · iapply hjoin; isplitl [Ha] <;> iassumption
    unfold idle Pipeline.Dat.owesAt Pipeline.owesWithin
    icases HO with ⟨%W, %hW, HO⟩; iexists W; isplitr
    · ipureintro; intro p hp
      rcases hW hp with h | ⟨w, s, rfl⟩
      · exact h
      · exact Nat.zero_le _
    iexact HO

end Cert.Proof.Lookup

end
-- ==== Proof.Main.lean ====
/-
  @main on the TensorCore: the operations before the SparseCore call, the call, the operations between it and the TensorCore
  kernel, the kernel's pipeline, and the last transpose; then the whole program's run.
-/
module

public import proofs.«01_k».proof.Proof.Launch
public import proofs.«01_k».proof.Proof.Region
public import Idealize.ShloMosaic.Lib.SparseCore.Quiescent

@[expose] public section

noncomputable section

namespace Cert.Proof.Lookup

open Cert.KernelIdeal Cert.KernelIdeal.Gen
open Cert.Proof.Sweep

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held after seq)

variable {F : FTy → Type}

local notation "𝕄" => MT nD τ sig (HIx 1) (Elt F) ℕ UU ℕ

variable [FloatOps F]

/-! ## @main as straight lines around the two calls -/

/-- The operations before the SparseCore call. -/
def opsA : List (HloOp τ sig (Elt F)) :=
  [StableHlo.unary main_arg0 main_v0 ((extractStridedSlice S4096x1 ![0, 0] · slices_S4096x3_S4096x1_0_0) : (⟨S4096x3, .i32⟩ : BufTy).Contents (Elt F) → (⟨S4096x1, .i32⟩ : BufTy).Contents (Elt F)),
    StableHlo.reshape main_v0 main_v1 (rfl : (.i32 : EltTy) = .i32) shapeCasts_S4096x1_S4096,
    StableHlo.unary main_arg0 main_v2 ((extractStridedSlice S4096x1 ![0, 1] · slices_S4096x3_S4096x1_0_1) : (⟨S4096x3, .i32⟩ : BufTy).Contents (Elt F) → (⟨S4096x1, .i32⟩ : BufTy).Contents (Elt F)),
    StableHlo.reshape main_v2 main_v3 (rfl : (.i32 : EltTy) = .i32) shapeCasts_S4096x1_S4096,
    StableHlo.unary main_arg0 main_v4 ((extractStridedSlice S4096x1 ![0, 2] · slices_S4096x3_S4096x1_0_2) : (⟨S4096x3, .i32⟩ : BufTy).Contents (Elt F) → (⟨S4096x1, .i32⟩ : BufTy).Contents (Elt F)),
    StableHlo.reshape main_v4 main_v5 (rfl : (.i32 : EltTy) = .i32) shapeCasts_S4096x1_S4096,
    StableHlo.unary main_arg1 main_v6 ((transpose S50x4096 [1, 0] · transposes_S4096x50_S50x4096_1_0) : (⟨S4096x50, .i32⟩ : BufTy).Contents (Elt F) → (⟨S50x4096, .i32⟩ : BufTy).Contents (Elt F)),
    StableHlo.unary main_arg2 main_v7 ((transpose S50x4096 [1, 0] · transposes_S4096x50_S50x4096_1_0) : (⟨S4096x50, .i32⟩ : BufTy).Contents (Elt F) → (⟨S50x4096, .i32⟩ : BufTy).Contents (Elt F)),
    StableHlo.nullary main_c (constantI S_ 32 0#32),
    StableHlo.TRef.unary (.of main_c : StableHlo.TRef sig ⟨S_, .i32⟩) main_call0.v0 (sitofp .f32),
    StableHlo.TRef.binary (.of main_arg5 : StableHlo.TRef sig ⟨S1000x128, .f32⟩) main_call0.v0 main_call0.v1 (fun x v => pad S1024x128 ![0, 0] ![24, 0] ![0, 0] x v pads_S1000x128_S1024x128_0240_000 h_S_)]

/-- The operations between the SparseCore call and the TensorCore kernel. -/
def opsB : List (HloOp τ sig (Elt F)) :=
  [StableHlo.unary main_v8 main_v10 ((truncf .bf16 · bitsLt_bf16_f32) : (⟨S1024x128, .f32⟩ : BufTy).Contents (Elt F) → (⟨S1024x128, .bf16⟩ : BufTy).Contents (Elt F)),
    StableHlo.unary main_arg6 main_v11 ((truncf .bf16 · bitsLt_bf16_f32) : (⟨S640x1024, .f32⟩ : BufTy).Contents (Elt F) → (⟨S640x1024, .bf16⟩ : BufTy).Contents (Elt F)),
    StableHlo.reshape main_arg7 main_v12 (rfl : (.f32 : EltTy) = .f32) shapeCasts_S1024_S1x1024,
    StableHlo.unary main_arg8 main_v13 ((truncf .bf16 · bitsLt_bf16_f32) : (⟨S1024x1024, .f32⟩ : BufTy).Contents (Elt F) → (⟨S1024x1024, .bf16⟩ : BufTy).Contents (Elt F)),
    StableHlo.reshape main_arg9 main_v14 (rfl : (.f32 : EltTy) = .f32) shapeCasts_S1024_S1x1024,
    StableHlo.unary main_arg10 main_v15 ((transpose S1000x1024 [1, 0] · transposes_S1024x1000_S1000x1024_1_0) : (⟨S1024x1000, .f32⟩ : BufTy).Contents (Elt F) → (⟨S1000x1024, .f32⟩ : BufTy).Contents (Elt F)),
    StableHlo.unary main_v15 main_v16 ((truncf .bf16 · bitsLt_bf16_f32) : (⟨S1000x1024, .f32⟩ : BufTy).Contents (Elt F) → (⟨S1000x1024, .bf16⟩ : BufTy).Contents (Elt F)),
    StableHlo.reshape main_arg11 main_v17 (rfl : (.f32 : EltTy) = .f32) shapeCasts_S1000_S1000x1]

/-- The operations after the TensorCore kernel. -/
def opsC : List (HloOp τ sig (Elt F)) :=
  [StableHlo.unary main_v18 main_v19 ((transpose S4096x1000 [1, 0] · transposes_S1000x4096_S4096x1000_1_0) : (⟨S1000x4096, .f32⟩ : BufTy).Contents (Elt F) → (⟨S4096x1000, .f32⟩ : BufTy).Contents (Elt F))]

/-- The program is its three stretches of operations with the two kernels between them. -/
theorem main_eq (d : Dev nD) : main (F := F) d = (seq opsA >>= fun _ => (K (F := F)).run d 0 >>= fun _ => seq opsB >>= fun _ =>
    Prog.lift (.customCall (SparseCore.inner (Pipeline.entry 0)) ()) >>= fun _ => seq opsC >>= fun _ => .ret ⟨⟩) := rfl

/-- The unscoped arrays. -/
abbrev uc : Finset (DevRef τ sig) := Pipeline.ucRefs τ sig

/-- An operation on TensorCore references touches unscoped ones only. -/
theorem sub_uc (op : HloOp τ sig (Elt F)) (h : op.bufs ⊆ StableHlo.tcRefs τ sig) : op.bufs ⊆ uc := fun b hb =>
  Finset.mem_filter.mpr ⟨h hb, fun h' => Bool.false_ne_true ((op.no_scoped b hb).symm.trans h')⟩

/-- The first stretch touches unscoped arrays only. -/
theorem opsA_sub : ∀ op ∈ opsA (F := F), op.bufs ⊆ uc := fun op h => sub_uc op (by
  revert op; unfold opsA
  simp only [List.forall_mem_cons, StableHlo.TRef.unary, StableHlo.TRef.binary, StableHlo.unary_bufs_sub, StableHlo.binary_bufs_sub,
    StableHlo.nullary_bufs_sub, StableHlo.reshape_bufs_sub, true_and]
  exact fun _ h => nomatch h)
/-- So does the second stretch. -/
theorem opsB_sub : ∀ op ∈ opsB (F := F), op.bufs ⊆ uc := fun op h => sub_uc op (by
  revert op; unfold opsB
  simp only [List.forall_mem_cons, StableHlo.unary_bufs_sub, StableHlo.reshape_bufs_sub, true_and]
  exact fun _ h => nomatch h)
/-- So does the third stretch. -/
theorem opsC_sub : ∀ op ∈ opsC (F := F), op.bufs ⊆ uc := fun op h => sub_uc op (by
  revert op; unfold opsC
  simp only [List.forall_mem_cons, StableHlo.unary_bufs_sub, true_and]
  exact fun _ h => nomatch h)
/-- The first stretch allocates nothing. -/
theorem opsA_fresh : ∀ op ∈ opsA (F := F), op.fresh = ∅ := by
  unfold opsA; intro _ h; (repeat (cases h with | head => rfl | tail _ h => ?_)); exact nomatch h
/-- Nor does the second. -/
theorem opsB_fresh : ∀ op ∈ opsB (F := F), op.fresh = ∅ := by
  unfold opsB; intro _ h; (repeat (cases h with | head => rfl | tail _ h => ?_)); exact nomatch h
/-- Nor does the third. -/
theorem opsC_fresh : ∀ op ∈ opsC (F := F), op.fresh = ∅ := by
  unfold opsC; intro _ h; (repeat (cases h with | head => rfl | tail _ h => ?_)); exact nomatch h

/-! ## The SparseCore call's arrays within the thread's buffers -/

/-- A TensorCore array's reference on the device. -/
abbrev dv (b : Ref sig .tc) : DevRef τ sig := Proc.devRef .tc b

/-- The arrays the call reads and writes. -/
def callRefs : Finset (DevRef τ sig) :=
  {dv main_v1, dv main_v3, dv main_v5, dv main_v6, dv main_v7, dv main_arg3, dv main_arg4, dv main_v9_0, dv main_v9_1, dv main_v9_2, dv main_v9_3}
/-- The call's arrays are unscoped. -/
theorem callRefs_sub : callRefs ⊆ uc := by decide

/-- What the call reads, of a valuation. -/
def insOf (V : Valuation τ sig (Elt F)) : Ins F :=
  ⟨V (dv main_v1), V (dv main_v3), V (dv main_v5), V (dv main_v6), V (dv main_v7), V (dv main_arg3), V (dv main_arg4)⟩
/-- What the call writes, of a valuation. -/
def outsOf (V : Valuation τ sig (Elt F)) : Outs F :=
  ⟨V (dv main_v9_0), V (dv main_v9_1), V (dv main_v9_2), V (dv main_v9_3)⟩

/-- The valuation with the call's results put in. -/
def putOuts (V : Valuation τ sig (Elt F)) (O : Outs F) : Valuation τ sig (Elt F) :=
  Function.update (Function.update (Function.update (Function.update V (dv main_v9_0) O.org) (dv main_v9_1) O.gg) (dv main_v9_2) O.mem)
    (dv main_v9_3) O.cc

/-- Putting the results leaves every other array as it was. -/
theorem putOuts_ne (V : Valuation τ sig (Elt F)) (O : Outs F) (b : DevRef τ sig) (h0 : b ≠ dv main_v9_0) (h1 : b ≠ dv main_v9_1)
    (h2 : b ≠ dv main_v9_2) (h3 : b ≠ dv main_v9_3) : putOuts V O b = V b := by
  unfold putOuts
  rw [Function.update_of_ne h3, Function.update_of_ne h2, Function.update_of_ne h1, Function.update_of_ne h0]
/-- The first gathered array is the one put. -/
theorem putOuts_org (V : Valuation τ sig (Elt F)) (O : Outs F) : putOuts V O (dv main_v9_0) = O.org := by
  unfold putOuts
  rw [Function.update_of_ne (by decide), Function.update_of_ne (by decide), Function.update_of_ne (by decide), Function.update_self]
/-- So is the second. -/
theorem putOuts_gg (V : Valuation τ sig (Elt F)) (O : Outs F) : putOuts V O (dv main_v9_1) = O.gg := by
  unfold putOuts
  rw [Function.update_of_ne (by decide), Function.update_of_ne (by decide), Function.update_self]
/-- So is the third. -/
theorem putOuts_mem (V : Valuation τ sig (Elt F)) (O : Outs F) : putOuts V O (dv main_v9_2) = O.mem := by
  unfold putOuts
  rw [Function.update_of_ne (by decide), Function.update_self]
/-- So is the count array. -/
theorem putOuts_cc (V : Valuation τ sig (Elt F)) (O : Outs F) : putOuts V O (dv main_v9_3) = O.cc := by
  unfold putOuts
  rw [Function.update_self]

/-- Putting results leaves what the call reads. -/
theorem insOf_putOuts (V : Valuation τ sig (Elt F)) (O : Outs F) : insOf (putOuts V O) = insOf V := by
  unfold insOf
  rw [putOuts_ne V O (dv main_v1) (by decide) (by decide) (by decide) (by decide), putOuts_ne V O (dv main_v3) (by decide) (by decide) (by decide) (by decide),
    putOuts_ne V O (dv main_v5) (by decide) (by decide) (by decide) (by decide), putOuts_ne V O (dv main_v6) (by decide) (by decide) (by decide) (by decide),
    putOuts_ne V O (dv main_v7) (by decide) (by decide) (by decide) (by decide), putOuts_ne V O (dv main_arg3) (by decide) (by decide) (by decide) (by decide),
    putOuts_ne V O (dv main_arg4) (by decide) (by decide) (by decide) (by decide)]
/-- The results are those put. -/
theorem outsOf_putOuts (V : Valuation τ sig (Elt F)) (O : Outs F) : outsOf (putOuts V O) = O := by
  unfold outsOf
  rw [putOuts_org, putOuts_gg, putOuts_mem, putOuts_cc]

/-- Nested conjunctions flatten. -/
theorem sep_flat (X Y Z : sProp 𝕄) : iprop((X ∗ Y) ∗ Z) = iprop(X ∗ Y ∗ Z) := Entails.antisymm BI.sep_assoc BI.sep_assoc'

/-- The call's arrays held at a valuation. -/
theorem held_call (d : Dev nD) (V : Valuation τ sig (Elt F)) :
    (held (d.tc : Thread nD τ) callRefs V : sProp 𝕄) = callPts (insOf V) (outsOf V) d := by
  unfold held callRefs callPts readPts
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  simp only [insOf, outsOf, sep_flat]

/-- The thread's buffers: the call's arrays and the rest. -/
theorem held_uc_call (d : Dev nD) (V : Valuation τ sig (Elt F)) :
    (held (d.tc : Thread nD τ) uc V : sProp 𝕄) = iprop(callPts (insOf V) (outsOf V) d ∗ held (d.tc : Thread nD τ) (uc \ callRefs) V) := by
  rw [StableHlo.held_sub_split (d.tc : Thread nD τ) callRefs_sub V, held_call]
/-- The unscoped arrays after the call: its results put, the rest as before. -/
theorem held_uc_called (d : Dev nD) (V : Valuation τ sig (Elt F)) (O : Outs F) :
    iprop(callPts (insOf V) O d ∗ held (d.tc : Thread nD τ) (uc \ callRefs) V) = (held (d.tc : Thread nD τ) uc (putOuts V O) : sProp 𝕄) := by
  rw [held_uc_call, insOf_putOuts, outsOf_putOuts]
  refine congrArg _ (StableHlo.held_congr _ fun b hb => ?_)
  have hn : b ∉ callRefs := (Finset.mem_sdiff.mp hb).2
  exact (putOuts_ne V O b (fun h => hn (h ▸ by decide)) (fun h => hn (h ▸ by decide)) (fun h => hn (h ▸ by decide)) (fun h => hn (h ▸ by decide))).symm

/-! ## The buffers' contents along @main -/

variable (m : (ℓ : Loc nD τ sig) → Buf (Elt F) ℓ) (ρ : Dev nD → PrngReg)

/-- At launch; -/
def V₀ (d : Dev nD) : Valuation τ sig (Elt F) := fun b => m (d, b)
/-- when the SparseCore call starts; -/
def VA (d : Dev nD) : Valuation τ sig (Elt F) := after opsA (V₀ m d)
/-- when it ends; -/
def VB (d : Dev nD) : Valuation τ sig (Elt F) := putOuts (VA m d) (insOf (VA m d)).outs
/-- when the TensorCore kernel starts; -/
def VC (d : Dev nD) : Valuation τ sig (Elt F) := after opsB (VB m d)
/-- the same, as the TensorCore names its buffers; -/
def VCt (c : Dev nD) (b : Ref sig .tc) : Buf (Elt F) ((c.tc : Thread nD τ).loc b) := VC m c (dv b)
/-- when the kernel ends; -/
def VD (d : Dev nD) : Valuation τ sig (Elt F) := Function.update (VC m d) (dv main_v18) (headed (VCt m) d)
/-- at the end. -/
def VE (d : Dev nD) : Valuation τ sig (Elt F) := after opsC (VD m d)

/-- The pipeline's admissible tables. -/
abbrev adm : (p : Fin 1) → (pcfgs (F := F) p).Adm := fun p => (cfgs p).toPCfg_adm

/-- The TensorCore kernel's region, between those contents. -/
def regM : Pipeline.RegionSeg (pcfgs (F := F)) adm (pdats (VCt m) adm) none defs₀ 𝒱₀ (K (F := F)).L (K (F := F)).lev 0 :=
  reg (VCt m) adm (fun c b => VD m c (dv b)) (fun c => Function.update_self ..)
    (fun c b h => Function.update_of_ne (StableHlo.devRef_ne_of_ne h) ..)

/-- Before the region: the unscoped arrays as they are at its start. -/
theorem regM_pre (d : Dev nD) : (regM m).pre d = iprop(unscopedBufs d (VCt m d) ∗ idle d) := rfl
/-- After it: the same arrays, the result in. -/
theorem regM_post (d : Dev nD) : (regM m).post d = iprop(unscopedBufs d (fun b => VD m d (dv b)) ∗ idle d) := rfl

/-- What the TensorCore holds at the end: the unscoped arrays at their final contents. -/
abbrev FIN (d : Dev nD) : sProp 𝕄 := held (d.tc : Thread nD τ) uc (VE m d)

/-- What the SparseCore call's handshakes carry, for this run. -/
abbrev PM : (K (F := F)).Pay (N := 1) (nD := nD) (Val := Elt F) (Name := ℕ) (U := UU) := P (fun d => insOf (VA m d)) (fun d => outsOf (VA m d))

/-- What the TensorCore keeps after the call besides what it owes. -/
def tcKept (d : Dev nD) : sProp 𝕄 :=
  iprop(atPos EH ((K (F := F)).doneCell d) 1 ∅ 0 ∗ reached EH ((K (F := F)).doneCell d) 1
    ∗ (bigSep Finset.univ fun c : Fin τ.nSC => reached EH ((K (F := F)).startCell d c) ((K (F := F)).sRank c 1))
    ∗ bigSep (SparseCore.Cfg.callsFrom 1) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

/-- After the one call the TensorCore owes nothing. -/
theorem tcSt_one (d : Dev nD) : ((K (F := F)).tcSt EH d 1 : sProp 𝕄) = iprop(idle d ∗ tcKept d) := by
  unfold SparseCore.Cfg.tcSt
  rw [(K (F := F)).Otc_end d le_rfl]
  rfl

set_option backward.isDefEq.respectTransparency.types false in
/-- @main on device `d`'s TensorCore. -/
theorem hmain [∀ e, Nonempty (Elt F e)] (κ : GSem nD τ sig → ℕ) (d : Dev nD) :
    iprop((K (F := F)).ctx EH (PM m) κ (K (F := F)).lev ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, show (unscopedBufs d (fun b => m ((SparseCore.T d).loc b)) : sProp 𝕄) = held (d.tc : Thread nD τ) uc (V₀ m d) from
    Pipeline.unscopedBufs_held d (V₀ m d)]
  iintro ⟨#Hctx, Hst, ⟨Hb, Hh, Hts, -⟩, Hcells, Htoks⟩
  iapply (StableHlo.wp_seq 𝒱 none Set.univ d uc _ opsA opsA_sub opsA_fresh (V₀ m d)) $$ [Hb Hh]
  · isplitl [Hb] <;> iassumption
  iintro ⟨Hb, Hh⟩
  ihave Hh := (Entails.of_eq (show held (d.tc : Thread nD τ) uc (after opsA (V₀ m d)) = _ from held_uc_call d (VA m d))) $$ Hh
  icases Hh with ⟨Hcall, Hrest⟩
  rw [wp_bind]
  iapply ((K (F := F)).wp_run (D (F := F)) 𝒱 (EH := EH) (P := PM m) κ d 0) $$ [Hst Hcall Hrest Hb Hts Hcells Htoks]
  isplitr; · iexact Hctx
  isplitl [Hst]; · iexact Hst
  isplitl [Hcall]
  · iapply (Entails.of_eq (st_eq (fun d => insOf (VA m d)) (fun d => outsOf (VA m d)) d).symm); iexact Hcall
  iintro ⟨Hst, Hdn⟩
  ihave Hdn := (Entails.of_eq (dn_eq (fun d => insOf (VA m d)) (fun d => outsOf (VA m d)) d)) $$ Hdn
  ihave Hh := (Entails.of_eq (show _ = held (d.tc : Thread nD τ) uc (VB m d) from held_uc_called d (VA m d) (insOf (VA m d)).outs)) $$ [Hdn Hrest]
  · isplitl [Hdn] <;> iassumption
  iapply (StableHlo.wp_seq 𝒱 none Set.univ d uc _ opsB opsB_sub opsB_fresh (VB m d)) $$ [Hb Hh]
  · isplitl [Hb] <;> iassumption
  iintro ⟨Hb, Hh⟩
  rw [wp_bind]
  ihave Hst := (Entails.of_eq (show ((K (F := F)).tcSt EH d ((0 : Fin 1).val + 1) : sProp 𝕄) = _ from tcSt_one d)) $$ Hst
  icases Hst with ⟨HO, Hst⟩
  iapply ((K (F := F)).wp_liftProg (D (F := F)) 𝒱 (SparseCore.T d) Set.univ none (Prog.lift (.customCall (Pipeline.entry 0) ())) _)
  iapply (Pipeline.RegionSeg.wp (pcfgs (F := F)) adm (pdats (VCt m) adm) none cellOf_inj EP defs₀ 𝒱₀ (K (F := F)).L (K (F := F)).lev
    (regM m) d none (fun _ h => nomatch h) _ _)
  isplitl [Hst Hts]
  · iintro ⟨Hb, Hpost⟩
    ihave Hp := (Entails.of_eq (regM_post m d)) $$ Hpost
    icases Hp with ⟨Hub, Hi⟩
    rw [wp_ret]; imodintro
    ihave Hh := (Entails.of_eq (Pipeline.unscopedBufs_held d (VD m d))) $$ Hub
    iapply (StableHlo.wp_seq 𝒱 none Set.univ d uc _ opsC opsC_sub opsC_fresh (VD m d)) $$ [Hb Hh]
    · isplitl [Hb] <;> iassumption
    iintro ⟨Hb, Hh⟩
    rw [wp_ret]; imodintro
    isplitl [Hst Hi]
    · iapply (Entails.of_eq (tcSt_one d).symm); isplitl [Hi] <;> iassumption
    isplitl [Hh]; · iexact Hh
    isplitl [Hb] <;> iassumption
  isplitl [Hb]; · iexact Hb
  isplitl [Hh HO]
  · iapply (Entails.of_eq (regM_pre m d).symm)
    isplitl [Hh]
    · iapply (Entails.of_eq (Pipeline.unscopedBufs_held d (VC m d)).symm); iexact Hh
    iexact HO
  isplitr
  · iapply ((K (F := F)).ctx_levAts κ); iexact Hctx
  isplitl [Hcells] <;> iassumption

/-! ## The program's run -/

/-- The buffers' contents at the end, on device `d`. -/
def fq (d : Dev nD) (s' : Phys nD τ sig (Elt F)) : Prop := ∀ b ∈ uc, s'.mem.mem (d, b) = VE m d b

/-- Holding the final arrays, the memory has those contents. -/
theorem hfin (d : Dev nD) (s' : Phys nD τ sig (Elt F)) : iprop(FIN m d ∗ SI s') ⊢ (⌜fq m d s'⌝ : sProp 𝕄) := by
  have h (b : DevRef τ sig) (hb : b ∈ uc) : iprop(FIN m d ∗ SI s') ⊢ (⌜s'.mem.mem (d, b) = VE m d b⌝ : sProp 𝕄) := by
    have hp : (FIN m d : sProp 𝕄) ⊢ ((d, b) : Loc nD τ sig) ↦{fullShare} VE m d b :=
      bigSep_elim (Φ := fun b => (((d, b) : Loc nD τ sig) ↦{fullShare} VE m d b : sProp 𝕄)) hb
    iintro ⟨Hh, HSI⟩
    ihave Hp := hp $$ Hh
    ihave H := (SI_pointsTo_agree (st := s') (ℓ := ((d, b) : Loc nD τ sig)) (I := Finset.univ) (q := fullShare) (f := VE m d b)) $$ [HSI Hp]
    · isplitl [HSI] <;> iassumption
    icases H with %h
    ipureintro; exact funext fun i => h i (Finset.mem_univ i)
  exact fun r hr b hb => h b hb r hr

/-- What a run ends with: every unscoped buffer of the TensorCore at its computed contents, every semaphore at zero. -/
def QC : PUnit × MemSt nD τ sig (Elt F) → Prop := fun r => (∀ d : Dev nD, ∀ b ∈ uc, r.2.mem (d, b) = VE m d b) ∧ r.2.sem = fun _ => 0

/-- Every execution from zero counters, the call's row numbers and topics in range, ends with the computed contents. -/
theorem run_main [∀ e, Nonempty (Elt F e)] (hpre : ∀ d, (insOf (VA m d)).OK) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (fun d => insOf (VA m d)) (fun d => outsOf (VA m d)) hpre)
    (fun q _ => match q with | 0 => SparseCore.Cfg.VecSplit.of_plain (vecSplit (fun d => insOf (VA m d)) (fun d => outsOf (VA m d))))
    m ρ main (fun d => G d) (FIN m) (u₀ (F := F)) (sep_elim_left.trans (hu₀ _ _)) (hmain m ρ) (fq m) (hfin m) (QC m) (fun _ h hz => ⟨h, hz⟩)

end Cert.Proof.Lookup

end
-- ==== Proof.Frames.lean ====
/-
  The frames: under the precondition the launch holds indices in range, and no argument array is written.
-/
module

public import proofs.«01_k».proof.Defs
public import proofs.«01_k».proof.Proof.Main
public import proofs.«01_k».proof.Proof.Gen.Kernel
public import proofs.«01_k».proof.Proof.Gen.Pre_in_range
public import Idealize.ShloMosaic.Lib.ReduceAll

@[expose] public section

noncomputable section

namespace Cert.Proof.Lookup

open Cert.KernelIdeal Cert.KernelIdeal.Gen
open Idealize.ShloMosaic Idealize.SL.Sem
open Idealize.ShloMosaic.StableHlo (after)

variable {F : FTy → Type} [FloatOps F]

/-! ## The precondition, element by element -/

/-- A one-bit conjunction is one exactly when both sides are. -/
theorem andi_one {p q : BitVec 1} (h : IntOp.andi p q = 1#1) : p = 1#1 ∧ q = 1#1 := by
  revert p q; decide

/-- A word that is signed at least 0 and signed below a small bound is, read unsigned, below that bound. -/
theorem lt_of_cmpi (v : BitVec 32) (N : ℕ) (hN : N < 2 ^ 31) (h0 : IntOp.cmpi .sge v 0#32 = 1#1)
    (h1 : IntOp.cmpi .slt v (BitVec.ofNat 32 N) = 1#1) : v.toNat < N := by
  have ofBool_one (p : Bool) : (BitVec.ofBool p = 1#1) ↔ p = true := by cases p <;> decide
  have hm : N % 2 ^ 32 = N := Nat.mod_eq_of_lt (by omega)
  simp only [IntOp.cmpi, ofBool_one, BitVec.sle_eq_decide, BitVec.slt_eq_decide,
    decide_eq_true_eq, BitVec.toInt_eq_toNat_cond, BitVec.toNat_ofNat, Nat.reducePow, Nat.reduceMod] at h0 h1
  rw [show N % 4294967296 = N from hm] at h1
  have := v.isLt
  split_ifs at h0 h1 <;> omega

instance : Subsingleton Cert.Pre_in_range.S_.Idx := ⟨fun a b => funext fun x => x.elim0⟩

/-- The precondition's six conjuncts, element by element. -/
theorem ranges_of_pre [FloatOps F] (a0 : IVec Cert.Pre_in_range.S4096x3 32) (a1 a2 : IVec Cert.Pre_in_range.S4096x50 32)
    (a3 a4 a5 a6 a7 a8 a9 a10 a11) (h : Cert.Pre_in_range.fn (F := F) a0 a1 a2 a3 a4 a5 a6 a7 a8 a9 a10 a11 = fun _ => 1#1) :
    (∀ x, (a0 x).toNat < 100000) ∧ (∀ x, (a1 x).toNat < 1000) ∧ (∀ x, (a2 x).toNat < 1000) := by
  have e := congrFun h default
  obtain ⟨e, e5⟩ := andi_one e
  obtain ⟨e, e4⟩ := andi_one e
  obtain ⟨e, e3⟩ := andi_one e
  obtain ⟨e, e2⟩ := andi_one e
  obtain ⟨e0, e1⟩ := andi_one e
  exact ⟨fun x => lt_of_cmpi _ 100000 (by norm_num) (Host.reduce_andi_all _ _ _ _ _ e0 x) (Host.reduce_andi_all _ _ _ _ _ e1 x),
    fun x => lt_of_cmpi _ 1000 (by norm_num) (Host.reduce_andi_all _ _ _ _ _ e2 x) (Host.reduce_andi_all _ _ _ _ _ e3 x),
    fun x => lt_of_cmpi _ 1000 (by norm_num) (Host.reduce_andi_all _ _ _ _ _ e4 x) (Host.reduce_andi_all _ _ _ _ _ e5 x)⟩

/-! ## What the host operations before the call leave -/

variable (m : (ℓ : Loc nD τ sig) → Buf (Elt F) ℓ) (d : Dev nD)

/-- At the SparseCore call, the first list of words is the first column of the batch rows' words. -/
theorem VA_v1 : VA m d (dv main_v1) = shapeCast S4096 (extractStridedSlice S4096x1 ![0, 0] (m (d, dv main_arg0)) slices_S4096x3_S4096x1_0_0) shapeCasts_S4096x1_S4096 := by
  unfold VA opsA; after_results; rfl
/-- The second list is the second column. -/
theorem VA_v3 : VA m d (dv main_v3) = shapeCast S4096 (extractStridedSlice S4096x1 ![0, 1] (m (d, dv main_arg0)) slices_S4096x3_S4096x1_0_1) shapeCasts_S4096x1_S4096 := by
  unfold VA opsA; after_results; rfl
/-- The third list is the third column. -/
theorem VA_v5 : VA m d (dv main_v5) = shapeCast S4096 (extractStridedSlice S4096x1 ![0, 2] (m (d, dv main_arg0)) slices_S4096x3_S4096x1_0_2) shapeCasts_S4096x1_S4096 := by
  unfold VA opsA; after_results; rfl
/-- The first kind of topics, transposed. -/
theorem VA_v6 : VA m d (dv main_v6) = transpose S50x4096 [1, 0] (m (d, dv main_arg1)) transposes_S4096x50_S50x4096_1_0 := by
  unfold VA opsA; after_results; rfl
/-- The second kind of topics, transposed. -/
theorem VA_v7 : VA m d (dv main_v7) = transpose S50x4096 [1, 0] (m (d, dv main_arg2)) transposes_S4096x50_S50x4096_1_0 := by
  unfold VA opsA; after_results; rfl

/-- The index ranges the run asks for, from the ranges of the argument arrays. -/
theorem ok_of_ranges (h0 : ∀ x, ((m (d, dv main_arg0) : IVec S4096x3 32) x).toNat < 100000)
    (h1 : ∀ x, ((m (d, dv main_arg1) : IVec S4096x50 32) x).toNat < 1000)
    (h2 : ∀ x, ((m (d, dv main_arg2) : IVec S4096x50 32) x).toNat < 1000) : (insOf (VA m d)).OK where
  b0 x := by
    show ((VA m d (dv main_v1) : IVec S4096 32) x).toNat < _
    rw [VA_v1]; exact h0 _
  b1 x := by
    show ((VA m d (dv main_v3) : IVec S4096 32) x).toNat < _
    rw [VA_v3]; exact h0 _
  b2 x := by
    show ((VA m d (dv main_v5) : IVec S4096 32) x).toNat < _
    rw [VA_v5]; exact h0 _
  mt x := by
    show ((VA m d (dv main_v6) : IVec S50x4096 32) x).toNat < _
    rw [VA_v6]; exact (h1 _).trans (by norm_num)
  gt x := by
    show ((VA m d (dv main_v7) : IVec S50x4096 32) x).toNat < _
    rw [VA_v7]; exact (h2 _).trans (by norm_num)

/-! ## No argument array is written -/

/-- The buffers the program writes. -/
def written : Finset (DevRef τ sig) :=
  {dv main_v0, dv main_v1, dv main_v2, dv main_v3, dv main_v4, dv main_v5, dv main_v6, dv main_v7, dv main_c, dv main_call0_v0, dv main_v8,
    dv main_v9_0, dv main_v9_1, dv main_v9_2, dv main_v9_3, dv main_v10, dv main_v11, dv main_v12, dv main_v13, dv main_v14, dv main_v15,
    dv main_v16, dv main_v17, dv main_v18, dv main_v19}

/-- The operations before the SparseCore call write only buffers of that list. -/
theorem opsA_writes : ∀ op ∈ opsA (F := F), op.writes ⊆ written := by
  intro op h; simp only [opsA, List.mem_cons, List.not_mem_nil, or_false] at h
  rcases h with rfl | rfl | rfl | rfl | rfl | rfl | rfl | rfl | rfl | rfl | rfl <;> (intro b hb; cases Finset.mem_singleton.1 hb; decide)
/-- So do those between the two kernels. -/
theorem opsB_writes : ∀ op ∈ opsB (F := F), op.writes ⊆ written := by
  intro op h; simp only [opsB, List.mem_cons, List.not_mem_nil, or_false] at h
  rcases h with rfl | rfl | rfl | rfl | rfl | rfl | rfl | rfl <;> (intro b hb; cases Finset.mem_singleton.1 hb; decide)
/-- So does the one after the TensorCore kernel. -/
theorem opsC_writes : ∀ op ∈ opsC (F := F), op.writes ⊆ written := by
  intro op h; simp only [opsC, List.mem_cons, List.not_mem_nil, or_false] at h
  rcases h with rfl; intro b hb; cases Finset.mem_singleton.1 hb; decide

/-- A buffer outside the written ones ends as it was launched. -/
theorem VE_kept (b : DevRef τ sig) (hb : b ∉ written) : VE m d b = m (d, b) := by
  have ne : ∀ w ∈ written, b ≠ w := fun w hw e => hb (e ▸ hw)
  unfold VE
  rw [StableHlo.after_of_forall_not_mem (b := b) _ _ fun op h hc => hb (opsC_writes op h hc)]
  unfold VD
  rw [Function.update_of_ne (ne _ (by decide))]
  unfold VC
  rw [StableHlo.after_of_forall_not_mem (b := b) _ _ fun op h hc => hb (opsB_writes op h hc)]
  unfold VB
  rw [putOuts_ne _ _ _ (ne _ (by decide)) (ne _ (by decide)) (ne _ (by decide)) (ne _ (by decide))]
  unfold VA
  rw [StableHlo.after_of_forall_not_mem (b := b) _ _ fun op h hc => hb (opsA_writes op h hc)]
  rfl

/-- The final state of the run keeps every argument array and leaves every counter at zero. -/
theorem kept_of_QC (r : PUnit × MemSt nD τ sig (Elt F)) (h : QC m r) (b : Ref sig .tc) (hu : dv b ∈ uc) (hw : dv b ∉ written) (c : Dev nD) :
    r.2.mem ((c.tc : Thread nD τ).loc b) = m ((c.tc : Thread nD τ).loc b) :=
  (h.1 c (dv b) hu).trans (VE_kept m c (dv b) hw)

/-- The run's frame: all twelve argument arrays and the counters. -/
theorem frame_of_QC (r : PUnit × MemSt nD τ sig (Elt F)) (h : QC m r) : (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
    ∧ r.2.sem = fun _ => 0 := by
  refine ⟨fun c => ⟨?_, ?_, ?_, ?_, ?_, ?_, ?_, ?_, ?_, ?_, ?_, ?_⟩, h.2⟩ <;> exact kept_of_QC m r h _ (by decide) (by decide) c

/-- The precondition, at the idealized program's launch. -/
theorem ok_ideal (m : (ℓ : Loc nD τ sig) → Buf (Elt Ideal) ℓ) (h : Cert.Pre_KernelIdeal m) (d : Dev nD) : (insOf (VA m d)).OK :=
  have e := ranges_of_pre _ _ _ _ _ _ _ _ _ _ _ _ (h d)
  ok_of_ranges m d e.1 e.2.1 e.2.2

/-- The precondition, at the machine program's launch. -/
theorem ok_bits (m : (ℓ : Loc nD τ sig) → Buf (Elt Bits) ℓ) (h : Cert.Pre_Kernel m) (d : Dev nD) : (insOf (VA m d)).OK :=
  have e := ranges_of_pre _ _ _ _ _ _ _ _ _ _ _ _ (h d)
  ok_of_ranges m d e.1 e.2.1 e.2.2

/-- The idealized program's frame. -/
theorem frame_ideal : Cert.quiescent_KernelIdeal := fun m ρ h =>
  (θ_run (Cert.KernelIdeal.defs (F := Ideal)) _ _).mono (fun r hr => frame_of_QC m r hr) (run_main (F := Ideal) m ρ (ok_ideal m h))

end Cert.Proof.Lookup

end
-- ==== Proof.Same.lean ====
/-
  The machine program and the idealized one have one text: no rule rewrote anything. So the run of the idealized program, at the
  machine's float values, is the machine program's run, and its frame is read off it.
-/
module

public import proofs.«01_k».proof.Proof.Frames

@[expose] public section

noncomputable section

namespace Cert.Proof.Lookup

open Idealize.ShloMosaic Idealize.SL.Sem

/-- The TensorCore kernel's label calls the same body. -/
theorem same_head (a) : Cert.Kernel.defs₀ (F := Bits) .tc 1 a = Cert.KernelIdeal.defs₀ (F := Bits) .tc 1 a := by
  obtain ⟨t, s⟩ := a
  dsimp only [Cert.Kernel.defs₀, Cert.KernelIdeal.defs₀]
  exact rfl

/-- The SparseCore kernel's label calls the same body on every tile. -/
theorem same_tile (c s a) : Cert.Kernel.defs₀ (F := Bits) (.scVector c s) 0 a = Cert.KernelIdeal.defs₀ (F := Bits) (.scVector c s) 0 a := by
  dsimp only [Cert.Kernel.defs₀, Cert.KernelIdeal.defs₀]
  exact rfl

/-- The TensorCore kernel's label never runs on a SparseCore's scalar processor. -/
theorem same_scalar (c a) : Cert.Kernel.defs₀ (F := Bits) (.scScalar c) 1 a = Cert.KernelIdeal.defs₀ (F := Bits) (.scScalar c) 1 a := by
  dsimp only [Cert.Kernel.defs₀, Cert.KernelIdeal.defs₀]
  exact rfl

/-- The TensorCore kernel's label never runs on a tile. -/
theorem same_vector (c s a) : Cert.Kernel.defs₀ (F := Bits) (.scVector c s) 1 a = Cert.KernelIdeal.defs₀ (F := Bits) (.scVector c s) 1 a := by
  dsimp only [Cert.Kernel.defs₀, Cert.KernelIdeal.defs₀]
  exact rfl

/-- The two programs' kernel labels have the same bodies. -/
theorem same_labels : Cert.Kernel.defs₀ (F := Bits) = Cert.KernelIdeal.defs₀ (F := Bits) := by
  funext p ℓ a
  match p, ℓ, a with
  | .tc, 0, _ => rfl
  | .tc, 1, a => exact same_head a
  | .scScalar _, 0, _ => rfl
  | .scScalar _, 1, a => exact same_scalar _ a
  | .scVector c s, 0, a => exact same_tile c s a
  | .scVector c s, 1, a => exact same_vector c s a

/-- The two programs have the same definitions. -/
theorem same_defs : Cert.Kernel.defs (F := Bits) = Cert.KernelIdeal.defs (F := Bits) := by
  unfold Cert.Kernel.defs Cert.KernelIdeal.defs
  rw [← same_labels]
  rfl

/-- The two programs have the same threads. -/
theorem same_threads : Cert.Kernel.threads (F := Bits) = Cert.KernelIdeal.threads (F := Bits) := rfl

/-- The machine program's frame. -/
theorem frame_kernel : Cert.quiescent_Kernel := fun m ρ h => by
  rw [same_defs, same_threads]
  exact (θ_run (Cert.KernelIdeal.defs (F := Bits)) _ _).mono (fun r hr => frame_of_QC m r hr) (run_main (F := Bits) m ρ (ok_bits m h))

end Cert.Proof.Lookup

end
-- ==== Proof.HeadValue.lean ====
/-
  The kernel's result at a grid point, element by element: three affine layers with the negative part cut off between them, over
  the row's three gathered rows and its two means.
-/
module

public import proofs.«01_k».proof.Proof.Head
public import Idealize.ShloMosaic.Lib.Pointwise

@[expose] public section

set_option maxRecDepth 16384

noncomputable section

namespace Cert.Proof.Lookup

open Cert.KernelIdeal Cert.KernelIdeal.Gen
open Idealize.ShloMosaic hiding ix1

/-- Five rows of 128, one after another. -/
def joined (p0 p1 p2 p3 p4 : Fin 128 → EReal) (i : Fin 640) : EReal :=
  if h0 : i.val < 128 then p0 ⟨i.val, h0⟩
  else if h1 : i.val - 128 < 128 then p1 ⟨i.val - 128, h1⟩
  else if h2 : i.val - 128 - 128 < 128 then p2 ⟨i.val - 128 - 128, h2⟩
  else if h3 : i.val - 128 - 128 - 128 < 128 then p3 ⟨i.val - 128 - 128 - 128, h3⟩
  else p4 ⟨i.val - 128 - 128 - 128 - 128, by omega⟩

/-- One output of the three layers: `x` a row of features, `w3` and `b3` the last layer's column and bias of that output. -/
def layers (x : Fin 640 → EReal) (w1 : Fin 640 → Fin 1024 → EReal) (b1 : Fin 1024 → EReal) (w2 : Fin 1024 → Fin 1024 → EReal)
    (b2 : Fin 1024 → EReal) (w3 : Fin 1024 → EReal) (b3 : EReal) : EReal :=
  (∑ k : Fin 1024, max ((∑ j : Fin 1024, max ((∑ i : Fin 640, x i * w1 i j) + b1 j) 0 * w2 j k) + b2 k) 0 * w3 k) + b3

/-- The counts' high parts: how often the second kind of topic occurs. -/
def high (cc : FVec Ideal S512x1024 .f32) : FVec Ideal S512x1024 .f32 :=
  floor (mulf cc (broadcast S512x1024 (Scalar.ofBits .f32 0x3B800000#32)))

/-- Their low parts: how often the first kind occurs. -/
def low (cc : FVec Ideal S512x1024 .f32) : FVec Ideal S512x1024 .f32 :=
  subf cc (mulf (high cc) (broadcast S512x1024 (Scalar.ofBits .f32 0x43800000#32)))

/-- The topics' rows, each taken as often as the weights say, divided by the constant fifty. -/
def mean (w : FVec Ideal S512x1024 .f32) (tt : FVec Ideal S1024x128 .bf16) : FVec Ideal S512x128 .f32 :=
  divf (matmul dot_S512x1024_S1024x128_S512x128_1_0_0_1_n_n none (truncf .bf16 w bitsLt_bf16_f32) tt (constant S512x128 .f32 0x00000000#32))
    (broadcast S512x128 (Scalar.ofBits .f32 0x42480000#32))

/-- The rows of features the kernel makes. -/
def mixed (org gg mem : FVec Ideal S512x128 .f32) (cc : FVec Ideal S512x1024 .f32) (tt : FVec Ideal S1024x128 .bf16) :
    FVec Ideal S512x640 .bf16 :=
  concatenate S512x640 1
    [⟨S512x128, truncf .bf16 org bitsLt_bf16_f32⟩, ⟨S512x128, truncf .bf16 gg bitsLt_bf16_f32⟩,
     ⟨S512x128, truncf .bf16 mem bitsLt_bf16_f32⟩, ⟨S512x128, truncf .bf16 (mean (low cc) tt) bitsLt_bf16_f32⟩,
     ⟨S512x128, truncf .bf16 (mean (high cc) tt) bitsLt_bf16_f32⟩]
    concatenates_S512x128_S512x128_S512x128_S512x128_S512x128_S512x640_d1

/-- The first layer over those rows. -/
def firstLayer (x : FVec Ideal S512x640 .bf16) (w1 : FVec Ideal S640x1024 .bf16) (b1 : FVec Ideal S1x1024 .f32) : FVec Ideal S512x1024 .f32 :=
  addf (matmul dot_S512x640_S640x1024_S512x1024_1_0_0_1_n_n none x w1 (constant S512x1024 .f32 0x00000000#32))
    (broadcastTo S512x1024 b1 broadcasts_S1x1024_S512x1024)

/-- A cast to the same shape changes nothing. -/
theorem cast_same {S : Shape} {α : Type} (x : S.Idx → α) (h : S.ShapeCasts S) : shapeCast S x h = x :=
  funext fun j => congrArg x (by pointwise)

/-- The kernel's first half is the first layer over the rows of features. -/
theorem pay2_eq (org gg mem : FVec Ideal S512x128 .f32) (cc : FVec Ideal S512x1024 .f32) (tt : FVec Ideal S1024x128 .bf16)
    (w1 : FVec Ideal S640x1024 .bf16) (b1 : FVec Ideal S1x1024 .f32) :
    k1_pay2 (F := Ideal) tt cc org gg mem w1 b1 = firstLayer (mixed org gg mem cc tt) w1 b1 := by
  show firstLayer (mixed (shapeCast S512x128 org shapeCasts_S512x128_S512x128) (shapeCast S512x128 gg shapeCasts_S512x128_S512x128)
      (shapeCast S512x128 mem shapeCasts_S512x128_S512x128) (shapeCast S512x1024 cc shapeCasts_S512x1024_S512x1024)
      (shapeCast S1024x128 tt shapeCasts_S1024x128_S1024x128)) (shapeCast S640x1024 w1 shapeCasts_S640x1024_S640x1024)
      (shapeCast S1x1024 b1 shapeCasts_S1x1024_S1x1024) = _
  simp only [cast_same]

/-- A row of features at an index: the three gathered rows and the two means, one after another. -/
theorem mixed_apply (org gg mem : FVec Ideal S512x128 .f32) (cc : FVec Ideal S512x1024 .f32) (tt : FVec Ideal S1024x128 .bf16)
    (r : Fin 512) (i : Fin 640) :
    mixed org gg mem cc tt (ix2 r i)
      = joined (fun l => org (ix2 r l)) (fun l => gg (ix2 r l)) (fun l => mem (ix2 r l)) (fun l => mean (low cc) tt (ix2 r l))
          (fun l => mean (high cc) tt (ix2 r l)) i := by
  pointwise [mixed, joined]

/-- A mean at an index: the weighted sum of the rows, divided by fifty. -/
theorem mean_apply (w : FVec Ideal S512x1024 .f32) (tt : FVec Ideal S1024x128 .bf16) (r : Fin 512) (l : Fin 128) :
    mean w tt (ix2 r l) = Ideal.div (∑ t : Fin 1024, w (ix2 r t) * tt (ix2 t l)) (Ideal.ofBits .f32 0x42480000#32) := by
  pointwise [mean]

/-- The kernel's second half, at output `o` of row `r`: the two other layers over the first. -/
theorem pay1_apply (x : FVec Ideal S512x640 .bf16) (w1 : FVec Ideal S640x1024 .bf16) (b1 : FVec Ideal S1x1024 .f32)
    (w2 : FVec Ideal S1024x1024 .bf16) (b2 : FVec Ideal S1x1024 .f32) (w3 : FVec Ideal S1000x1024 .bf16) (b3 : FVec Ideal S1000x1 .f32)
    (o : Fin 1000) (r : Fin 512) :
    k1_pay1 (F := Ideal) (firstLayer x w1 b1) (Scalar.ofBits .f32 0x00000000#32) w2 b2 w3 b3 (ix2 o r)
      = layers (fun i => x (ix2 r i)) (fun i j => w1 (ix2 i j)) (fun j => b1 (ix2 0 j)) (fun j k => w2 (ix2 j k)) (fun k => b2 (ix2 0 k))
          (fun k => w3 (ix2 o k)) (b3 (ix2 o 0)) := by
  pointwise [k1_pay1, firstLayer, layers]
  exact Ideal.add_congr (Finset.sum_congr rfl fun k _ => mul_comm _ _) rfl

/-- The kernel's result at a grid point, at output `o` of row `r`. -/
theorem headOut_apply (org gg mem : FVec Ideal S512x128 .f32) (cc : FVec Ideal S512x1024 .f32) (tt : FVec Ideal S1024x128 .bf16)
    (w1 : FVec Ideal S640x1024 .bf16) (b1 : FVec Ideal S1x1024 .f32) (w2 : FVec Ideal S1024x1024 .bf16) (b2 : FVec Ideal S1x1024 .f32)
    (w3 : FVec Ideal S1000x1024 .bf16) (b3 : FVec Ideal S1000x1 .f32) (o : Fin 1000) (r : Fin 512) :
    headOut (F := Ideal) org gg mem cc tt w1 b1 w2 b2 w3 b3 (ix2 o r)
      = layers (joined (fun l => org (ix2 r l)) (fun l => gg (ix2 r l)) (fun l => mem (ix2 r l)) (fun l => mean (low cc) tt (ix2 r l))
            (fun l => mean (high cc) tt (ix2 r l)))
          (fun i j => w1 (ix2 i j)) (fun j => b1 (ix2 0 j)) (fun j k => w2 (ix2 j k)) (fun k => b2 (ix2 0 k))
          (fun k => w3 (ix2 o k)) (b3 (ix2 o 0)) := by
  rw [headOut, pay2_eq, pay1_apply]
  exact congrArg (fun x => layers x _ _ _ _ _ _) (funext fun i => mixed_apply org gg mem cc tt r i)

end Cert.Proof.Lookup
-- ==== Proof.CountValue.lean ====
/-
  What a count holds, over the extended reals: the number of the first kind's topics that name the row, plus 256 times the number
  of the second kind's. Both are at most fifty, so a floor tells them apart; and a sum over the table's rows, each weighted by
  its count, is the sum of the rows that the fifty topics name.
-/
module

public import proofs.«01_k».proof.Proof.HeadValue
public import Idealize.ShloMosaic.Lib.IdealHost

@[expose] public section

noncomputable section

namespace Cert.Proof.Lookup

open Cert.KernelIdeal Cert.KernelIdeal.Gen
open Cert.Proof.Sweep
open Idealize.ShloMosaic hiding ix1

/-! ## The two constants -/

/-- The constant that counts a topic of the second kind is 256. -/
theorem ofBits_256 : Ideal.ofBits .f32 0x43800000#32 = ((256 : ℝ) : EReal) := by
  simp [Ideal.ofBits, Ideal.ieee, -EReal.coe_mul]; norm_num

/-- The constant that the kernel multiplies the counts with is a 256th. -/
theorem ofBits_inv256 : Ideal.ofBits .f32 0x3B800000#32 = ((1 / 256 : ℝ) : EReal) := by
  simp [Ideal.ofBits, Ideal.ieee, -EReal.coe_mul]; norm_num

/-! ## How often -/

/-- How many of the first `n` steps have their guard. -/
def times (p : ℕ → Prop) (n : ℕ) : ℕ := cell p (· + 1) n 0

/-- A property holds no more often than there are steps. -/
theorem times_le (p : ℕ → Prop) : ∀ n, times p n ≤ n
  | 0 => le_refl 0
  | n + 1 => by
    have h := times_le p n
    unfold times at h ⊢
    rw [cell]
    split <;> omega

/-- Adding a constant at each such step adds it that many times. -/
theorem cell_bump (p : ℕ → Prop) (c : ℝ) (y : ℝ) : ∀ n,
    cell p (bump (F := Ideal) true ((c : ℝ) : EReal)) n ((y : ℝ) : EReal) = ((y + c * (times p n : ℝ) : ℝ) : EReal)
  | 0 => by
    show ((y : ℝ) : EReal) = _
    simp [times, cell]
  | n + 1 => by
    have h := cell_bump p c y n
    unfold times at h ⊢
    rw [cell, cell]
    by_cases hp : p n
    · rw [if_pos hp, if_pos hp, h]
      show ((y + c * _ : ℝ) : EReal) + ((c : ℝ) : EReal) = _
      rw [← EReal.coe_add]
      refine congrArg _ ?_
      push_cast
      ring
    · rw [if_neg hp, if_neg hp, h]

/-- The sum over all rows, each as often as it is named, is the sum of the rows named. -/
theorem sum_times {m : ℕ} (f : ℕ → Fin m) (x : Fin m → EReal) : ∀ n : ℕ,
    ∑ t : Fin m, (((times (fun h => f h = t) n : ℕ) : ℝ) : EReal) * x t = ∑ h : Fin n, x (f h)
  | 0 => by
    show ∑ t : Fin m, (((0 : ℕ) : ℝ) : EReal) * x t = _
    simp
  | n + 1 => by
    have step (t : Fin m) : (((times (fun h => f h = t) (n + 1) : ℕ) : ℝ) : EReal) * x t
        = (((times (fun h => f h = t) n : ℕ) : ℝ) : EReal) * x t + if f n = t then x t else 0 := by
      unfold times
      rw [cell]
      by_cases e : f n = t
      · rw [if_pos e, if_pos e]
        push_cast
        rw [EReal.right_distrib_of_nonneg (by exact_mod_cast Nat.zero_le _) zero_le_one, one_mul]
      · rw [if_neg e, if_neg e, add_zero]
    rw [Finset.sum_congr rfl fun t _ => step t, Finset.sum_add_distrib, sum_times f x n, Finset.sum_ite_eq,
      if_pos (Finset.mem_univ _), Fin.sum_univ_castSucc]
    rfl

/-! ## A count and its two parts -/

/-- The number of topics of batch row `b` that name row `t`. -/
def named (tp : IVec S50x4096 32) (b : Fin 4096) (t : ℕ) : ℕ := times (isTopic tp b t) 50

/-- A count is the first kind's number plus 256 times the second kind's. -/
theorem counts_apply (mt gt : IVec S50x4096 32) (x : S4096x1024.Idx) :
    counts (F := Ideal) mt gt x
      = (((named mt (x 0) (x 1).val : ℝ) + 256 * (named gt (x 0) (x 1).val : ℝ) : ℝ) : EReal) := by
  have z : (zeroF : Ideal .f32) = ((0 : ℝ) : EReal) := Ideal.ofBits_zero_f32
  have o : (oneF : Ideal .f32) = ((1 : ℝ) : EReal) := Ideal.ofBits_one_f32
  have h : (bigF : Ideal .f32) = ((256 : ℝ) : EReal) := ofBits_256
  unfold counts
  rw [z, o, h, cell_bump, cell_bump]
  simp only [named, zero_add, one_mul]

/-- The floor of a 256th is the second number. -/
theorem high_apply (cc : FVec Ideal S512x1024 .f32) (j : S512x1024.Idx) (a g : ℕ) (ha : a < 256)
    (h : cc j = (((a : ℝ) + 256 * (g : ℝ) : ℝ) : EReal)) : high cc j = ((g : ℝ) : EReal) := by
  show Ideal.liftRound Int.floor (cc j * Ideal.ofBits .f32 0x3B800000#32) = _
  rw [h, ofBits_inv256, ← EReal.coe_mul]
  show (((⌊((a : ℝ) + 256 * (g : ℝ)) * (1 / 256)⌋ : ℤ) : ℝ) : EReal) = _
  have e : ⌊((a : ℝ) + 256 * (g : ℝ)) * (1 / 256)⌋ = (g : ℤ) := by
    have : (a : ℝ) < 256 := by exact_mod_cast ha
    have : (0 : ℝ) ≤ (a : ℝ) := by exact_mod_cast Nat.zero_le a
    rw [Int.floor_eq_iff]
    push_cast
    constructor <;> linarith
  rw [e]
  norm_cast

/-- What it leaves is the first. -/
theorem low_apply (cc : FVec Ideal S512x1024 .f32) (j : S512x1024.Idx) (a g : ℕ) (ha : a < 256)
    (h : cc j = (((a : ℝ) + 256 * (g : ℝ) : ℝ) : EReal)) : low cc j = ((a : ℝ) : EReal) := by
  show cc j - high cc j * Ideal.ofBits .f32 0x43800000#32 = _
  rw [high_apply cc j a g ha h, h, ofBits_256, ← EReal.coe_mul, ← EReal.coe_sub]
  exact congrArg _ (by ring)

/-- The rows of a padded table weighted by a kind's counts sum to the rows that kind's fifty topics name. -/
theorem sum_named (tp : IVec S50x4096 32) (b : Fin 4096) (ht : ∀ x, (tp x).toNat < 1024) (x : Fin 1024 → EReal) :
    ∑ t : Fin 1024, ((named tp b t.val : ℝ) : EReal) * x t = ∑ h : Fin 50, x ⟨(tp (ixT h b)).toNat, ht _⟩ := by
  let f : ℕ → Fin 1024 := fun h => if hh : h < 50 then ⟨(tp (ixT ⟨h, hh⟩ b)).toNat, ht _⟩ else 0
  have e (t : Fin 1024) : named tp b t.val = times (fun h => f h = t) 50 := by
    refine cell_congr _ 50 0 fun h hh => ?_
    simp only [isTopic, f, dif_pos hh, Fin.ext_iff]
    exact ⟨fun ⟨_, e⟩ => e, fun e => ⟨hh, e⟩⟩
  simp only [e]
  rw [sum_times f x 50]
  exact Finset.sum_congr rfl fun h _ => congrArg x (dif_pos h.isLt)

/-- The two means of a batch row: the rows its topics of either kind name, summed and divided by fifty. -/
theorem mean_low (mt gt : IVec S50x4096 32) (b : Fin 4096) (ht : ∀ x, (mt x).toNat < 1024) (cc : FVec Ideal S512x1024 .f32)
    (tt : FVec Ideal S1024x128 .bf16) (r : Fin 512) (l : Fin 128)
    (h : ∀ t : Fin 1024, cc (ix2 r t) = (((named mt b t.val : ℝ) + 256 * (named gt b t.val : ℝ) : ℝ) : EReal)) :
    mean (low cc) tt (ix2 r l)
      = Ideal.div (∑ h : Fin 50, tt (ix2 ⟨(mt (ixT h b)).toNat, ht _⟩ l)) (Ideal.ofBits .f32 0x42480000#32) := by
  rw [mean_apply, ← sum_named mt b ht fun t => tt (ix2 t l)]
  refine congrArg (fun s => Ideal.div s _) (Finset.sum_congr rfl fun t _ => ?_)
  rw [low_apply cc _ (named mt b t.val) (named gt b t.val) (lt_of_le_of_lt (times_le _ 50) (by decide)) (h t)]

/-- The same for the second kind. -/
theorem mean_high (mt gt : IVec S50x4096 32) (b : Fin 4096) (ht : ∀ x, (gt x).toNat < 1024) (cc : FVec Ideal S512x1024 .f32)
    (tt : FVec Ideal S1024x128 .bf16) (r : Fin 512) (l : Fin 128)
    (h : ∀ t : Fin 1024, cc (ix2 r t) = (((named mt b t.val : ℝ) + 256 * (named gt b t.val : ℝ) : ℝ) : EReal)) :
    mean (high cc) tt (ix2 r l)
      = Ideal.div (∑ h : Fin 50, tt (ix2 ⟨(gt (ixT h b)).toNat, ht _⟩ l)) (Ideal.ofBits .f32 0x42480000#32) := by
  rw [mean_apply, ← sum_named gt b ht fun t => tt (ix2 t l)]
  refine congrArg (fun s => Ideal.div s _) (Finset.sum_congr rfl fun t _ => ?_)
  rw [high_apply cc _ (named mt b t.val) (named gt b t.val) (lt_of_le_of_lt (times_le _ 50) (by decide)) (h t)]

end Cert.Proof.Lookup
-- ==== Proof.HeadedValue.lean ====
/-
  The array the TensorCore kernel leaves, element by element: the eight grid points write its eight blocks of columns, and each
  column is the three layers over one batch row.
-/
module

public import proofs.«01_k».proof.Proof.CountValue
public import proofs.«01_k».proof.Proof.Region
public import Idealize.ShloMosaic.Lib.Pipeline.ValueKit

@[expose] public section

set_option maxRecDepth 16384

noncomputable section

namespace Cert.Proof.Lookup

open Cert.KernelIdeal Cert.KernelIdeal.Gen
open Idealize.ShloMosaic hiding ix1
open Idealize.ShloMosaic.TcCoe

/-- Grid point `t` reads block `t` of the four arrays of batch rows. -/
theorem index_rows : ∀ t : Fin cfg1.N, win1_0.index t = ![t.val, 0] ∧ win1_1.index t = ![t.val, 0]
    ∧ win1_2.index t = ![t.val, 0] ∧ win1_3.index t = ![t.val, 0] ∧ win1_11.index t = ![0, t.val] := by
  decide +kernel

/-- It reads the rest whole. -/
theorem index_whole : ∀ t : Fin cfg1.N, win1_4.index t = ![0, 0] ∧ win1_5.index t = ![0, 0]
    ∧ win1_6.index t = ![0, 0] ∧ win1_7.index t = ![0, 0] ∧ win1_8.index t = ![0, 0]
    ∧ win1_9.index t = ![0, 0] ∧ win1_10.index t = ![0, 0] := by
  decide +kernel

variable (V : (c : Dev nD) → (b : Ref sig .tc) → Buf (Elt Ideal) ((c.tc : Thread nD τ).loc b))

/-- The batch row that row `r` of block `t` is. -/
def rowOf (t : Fin cfg1.N) (r : Fin 512) : Fin 4096 := ⟨t.val * 512 + r.val, by have : t.val < 8 := t.isLt; omega⟩

/-- Where an element of block `t` lies in its array: in the arrays of batch rows, at row `512 t + r`. -/
theorem place_rows (t : Fin cfg1.N) (r : Fin 512) (l : Fin 128) (k : Fin 1024) (o : Fin 1000) :
    (win1_0.blk t).view.emb (ix2 r l) = ix2 (rowOf t r) l ∧ (win1_1.blk t).view.emb (ix2 r l) = ix2 (rowOf t r) l
    ∧ (win1_2.blk t).view.emb (ix2 r l) = ix2 (rowOf t r) l ∧ (win1_3.blk t).view.emb (ix2 r k) = ix2 (rowOf t r) k
    ∧ (win1_11.blk t).view.emb (ix2 o r) = ix2 o (rowOf t r) := by
  have e := index_rows t
  refine ⟨?_, ?_, ?_, ?_, ?_⟩ <;> blk_ext [rowOf, e]

/-- In an array read whole, at itself. -/
theorem place_whole (t : Fin cfg1.N) (i : Fin 640) (j k : Fin 1024) (l : Fin 128) (o : Fin 1000) :
    (win1_4.blk t).view.emb (ix2 j l) = ix2 j l ∧ (win1_5.blk t).view.emb (ix2 i j) = ix2 i j
    ∧ (win1_6.blk t).view.emb (ix2 0 j) = ix2 0 j ∧ (win1_7.blk t).view.emb (ix2 j k) = ix2 j k
    ∧ (win1_8.blk t).view.emb (ix2 0 j) = ix2 0 j ∧ (win1_9.blk t).view.emb (ix2 o j) = ix2 o j
    ∧ (win1_10.blk t).view.emb (ix2 o 0) = ix2 o 0 := by
  have e := index_whole t
  refine ⟨?_, ?_, ?_, ?_, ?_, ?_, ?_⟩ <;> blk_ext [e]

/-- The mean of the rows of the bfloat16 table that row `b`'s topics name, at column `l`. -/
def tableMean (tt : FVec Ideal S1024x128 .bf16) (tp : IVec S50x4096 32) (ht : ∀ x, (tp x).toNat < 1024) (b : Fin 4096) (l : Fin 128) : EReal :=
  Ideal.div (∑ h : Fin 50, tt (ix2 ⟨(tp (ixT h b)).toNat, ht _⟩ l)) (Ideal.ofBits .f32 0x42480000#32)

/-- The kernel's result: output `o` of batch row `b`, in terms of the arrays it reads. -/
def outAt (c : Dev nD) (mt gt : IVec S50x4096 32) (hm : ∀ x, (mt x).toNat < 1024) (hg : ∀ x, (gt x).toNat < 1024) (o : Fin 1000)
    (b : Fin 4096) : EReal :=
  layers (joined (fun l => V c main_v9_0 (ix2 b l)) (fun l => V c main_v9_1 (ix2 b l)) (fun l => V c main_v9_2 (ix2 b l))
      (tableMean (V c main_v10) mt hm b) (tableMean (V c main_v10) gt hg b))
    (fun i j => V c main_v11 (ix2 i j)) (fun j => V c main_v12 (ix2 0 j)) (fun j k => V c main_v13 (ix2 j k))
    (fun k => V c main_v14 (ix2 0 k)) (fun k => V c main_v16 (ix2 o k)) (V c main_v17 (ix2 o 0))

/-- Where the count array holds the counts of two lists of topics, the kernel's result array holds that. -/
theorem headed_eq (c : Dev nD) (mt gt : IVec S50x4096 32) (hm : ∀ x, (mt x).toNat < 1024) (hg : ∀ x, (gt x).toNat < 1024)
    (hc : V c main_v9_3 = counts (F := Ideal) mt gt) : headed V c = fun x => outAt V c mt gt hm hg (x 0) (x 1) := by
  refine (dat V c).arrAt_eq_of_covers 11 _ (by decide +kernel) fun t _ y => ?_
  show headAt V c t y = (fun x : S1000x4096.Idx => outAt V c mt gt hm hg (x 0) (x 1)) ((win1_11.blk t).view.emb y)
  obtain ⟨o, r, rfl⟩ : ∃ (o : Fin 1000) (r : Fin 512), y = ix2 o r := ⟨y 0, y 1, eq_ix2 y⟩
  rw [(place_rows t r 0 0 o).2.2.2.2]
  show _ = outAt V c mt gt hm hg o (rowOf t r)
  have cnt (k : Fin 1024) : blkAt V c 3 t (ix2 r k)
      = (((named mt (rowOf t r) k.val : ℝ) + 256 * (named gt (rowOf t r) k.val : ℝ) : ℝ) : EReal) := by
    show V c main_v9_3 ((win1_3.blk t).view.emb (ix2 r k)) = _
    rw [(place_rows t r 0 k 0).2.2.2.1, hc]
    exact counts_apply mt gt _
  have tab (j : Fin 1024) (l : Fin 128) : blkAt V c 4 t (ix2 j l) = V c main_v10 (ix2 j l) :=
    congrArg (V c main_v10) (place_whole t 0 j 0 l 0).1
  rw [headAt, headOut_apply]
  unfold outAt tableMean
  congr 1
  · congr 1 <;> funext l
    · exact congrArg (V c main_v9_0) (place_rows t r l 0 0).1
    · exact congrArg (V c main_v9_1) (place_rows t r l 0 0).2.1
    · exact congrArg (V c main_v9_2) (place_rows t r l 0 0).2.2.1
    · rw [mean_low mt gt (rowOf t r) hm _ _ r l cnt]
      simp only [tab]
    · rw [mean_high mt gt (rowOf t r) hg _ _ r l cnt]
      simp only [tab]
  · funext i j; exact congrArg (V c main_v11) (place_whole t i j 0 0 0).2.1
  · funext j; exact congrArg (V c main_v12) (place_whole t 0 j 0 0 0).2.2.1
  · funext j k; exact congrArg (V c main_v13) (place_whole t 0 j k 0 0).2.2.2.1
  · funext j; exact congrArg (V c main_v14) (place_whole t 0 j 0 0 0).2.2.2.2.1
  · funext j; exact congrArg (V c main_v16) (place_whole t 0 j 0 0 o).2.2.2.2.2.1
  · exact congrArg (V c main_v17) (place_whole t 0 0 0 0 o).2.2.2.2.2.2

end Cert.Proof.Lookup
-- ==== Proof.Score.lean ====
/-
  The problem's result, written once, element by element, as a function of the twelve argument arrays. Both programs are proved
  to leave it.
-/
module

public import proofs.«01_k».proof.Proof.HeadValue

@[expose] public section

noncomputable section

namespace Cert.Proof.Lookup

open Idealize.ShloMosaic
open Cert.KernelIdeal (S4096x3 S4096x50 S100000x128 S1000x128 S640x1024 S1024 S1024x1024 S1024x1000 S1000)

/-- The row of `tab` that entry `k` of batch row `b` names. -/
def rowAt (tab : FVec Ideal S100000x128 .f32) (a0 : IVec S4096x3 32) (h0 : ∀ x, (a0 x).toNat < 100000) (k : Fin 3) (b : Fin 4096)
    (l : Fin 128) : EReal := tab (ix2 ⟨(a0 (ix2 b k)).toNat, h0 _⟩ l)

/-- The mean of the fifty rows of `tab` that batch row `b`'s topics name. -/
def avgAt (tab : FVec Ideal S1000x128 .f32) (tp : IVec S4096x50 32) (h : ∀ x, (tp x).toNat < 1000) (b : Fin 4096) (l : Fin 128) : EReal :=
  Ideal.div (∑ k : Fin 50, tab (ix2 ⟨(tp (ix2 b k)).toNat, h _⟩ l)) (Ideal.ofBits .f32 0x42480000#32)

/-- The result's entry `(b, o)`. -/
def scoreAt (a0 : IVec S4096x3 32) (a1 a2 : IVec S4096x50 32) (a3 a4 : FVec Ideal S100000x128 .f32) (a5 : FVec Ideal S1000x128 .f32)
    (a6 : FVec Ideal S640x1024 .f32) (a7 : FVec Ideal S1024 .f32) (a8 : FVec Ideal S1024x1024 .f32) (a9 : FVec Ideal S1024 .f32)
    (a10 : FVec Ideal S1024x1000 .f32) (a11 : FVec Ideal S1000 .f32) (h0 : ∀ x, (a0 x).toNat < 100000)
    (h1 : ∀ x, (a1 x).toNat < 1000) (h2 : ∀ x, (a2 x).toNat < 1000) (b : Fin 4096) (o : Fin 1000) : EReal :=
  layers (joined (rowAt a3 a0 h0 0 b) (rowAt a4 a0 h0 1 b) (rowAt a3 a0 h0 2 b) (avgAt a5 a1 h1 b) (avgAt a5 a2 h2 b))
    (fun i j => a6 (ix2 i j)) (fun j => a7 (Idealize.ShloMosaic.ix1 j)) (fun j k => a8 (ix2 j k)) (fun k => a9 (Idealize.ShloMosaic.ix1 k))
    (fun k => a10 (ix2 k o)) (a11 (Idealize.ShloMosaic.ix1 o))

/-- It depends on the arrays alone. -/
theorem scoreAt_congr {a0 c0 : IVec S4096x3 32} {a1 a2 c1 c2 : IVec S4096x50 32} {a3 a4 c3 c4 : FVec Ideal S100000x128 .f32}
    {a5 c5 : FVec Ideal S1000x128 .f32} {a6 c6 : FVec Ideal S640x1024 .f32} {a7 c7 : FVec Ideal S1024 .f32}
    {a8 c8 : FVec Ideal S1024x1024 .f32} {a9 c9 : FVec Ideal S1024 .f32} {a10 c10 : FVec Ideal S1024x1000 .f32} {a11 c11 : FVec Ideal S1000 .f32}
    (e0 : a0 = c0) (e1 : a1 = c1) (e2 : a2 = c2) (e3 : a3 = c3) (e4 : a4 = c4) (e5 : a5 = c5) (e6 : a6 = c6) (e7 : a7 = c7) (e8 : a8 = c8)
    (e9 : a9 = c9) (e10 : a10 = c10) (e11 : a11 = c11) (h0 : ∀ x, (a0 x).toNat < 100000) (h1 : ∀ x, (a1 x).toNat < 1000)
    (h2 : ∀ x, (a2 x).toNat < 1000) (k0 : ∀ x, (c0 x).toNat < 100000) (k1 : ∀ x, (c1 x).toNat < 1000) (k2 : ∀ x, (c2 x).toNat < 1000)
    (b : Fin 4096) (o : Fin 1000) :
    scoreAt a0 a1 a2 a3 a4 a5 a6 a7 a8 a9 a10 a11 h0 h1 h2 b o = scoreAt c0 c1 c2 c3 c4 c5 c6 c7 c8 c9 c10 c11 k0 k1 k2 b o := by
  subst e0 e1 e2 e3 e4 e5 e6 e7 e8 e9 e10 e11
  rfl

end Cert.Proof.Lookup
-- ==== Proof.KernelValue.lean ====
/-
  The kernel's result, element by element: what the TensorCore kernel reads, in terms of the argument arrays.
-/
module

public import proofs.«01_k».proof.Proof.HeadedValue
public import proofs.«01_k».proof.Proof.Score
public import proofs.«01_k».proof.Proof.Frames

@[expose] public section

set_option maxRecDepth 16384

noncomputable section

namespace Cert.Proof.Lookup

open Cert.KernelIdeal Cert.KernelIdeal.Gen
open Idealize.ShloMosaic hiding ix1
open Idealize.ShloMosaic.TcCoe
open Idealize.ShloMosaic.StableHlo (after)

variable (m : (ℓ : Loc nD τ sig) → Buf (Elt Ideal) ℓ) (d : Dev nD)

/-! ## The arrays at the TensorCore kernel -/

/-- The operations between the two kernels leave what they do not write. -/
theorem VC_keep (b : DevRef τ sig) (h : ∀ op ∈ opsB (F := Ideal), b ∉ op.writes) : VC m d b = VB m d b :=
  StableHlo.after_of_forall_not_mem (b := b) _ _ h

/-- An argument array, before them. -/
theorem VB_arg (b : DevRef τ sig) (hb : b ∉ written) : VB m d b = m (d, b) := by
  have ne : ∀ w ∈ written, b ≠ w := fun w hw e => hb (e ▸ hw)
  unfold VB
  rw [putOuts_ne _ _ _ (ne _ (by decide)) (ne _ (by decide)) (ne _ (by decide)) (ne _ (by decide))]
  unfold VA
  rw [StableHlo.after_of_forall_not_mem (b := b) _ _ fun op h hc => hb (opsA_writes op h hc)]
  rfl

/-- The TensorCore kernel reads the first gathered array as the SparseCore call left it. -/
theorem VC_v9_0 : VC m d (dv main_v9_0) = (insOf (VA m d)).outs.org := by
  refine Eq.trans ?_ (putOuts_org (VA m d) (insOf (VA m d)).outs)
  unfold VC opsB; after_results; rfl
/-- The second gathered array. -/
theorem VC_v9_1 : VC m d (dv main_v9_1) = (insOf (VA m d)).outs.gg := by
  refine Eq.trans ?_ (putOuts_gg (VA m d) (insOf (VA m d)).outs)
  unfold VC opsB; after_results; rfl
/-- The third gathered array. -/
theorem VC_v9_2 : VC m d (dv main_v9_2) = (insOf (VA m d)).outs.mem := by
  refine Eq.trans ?_ (putOuts_mem (VA m d) (insOf (VA m d)).outs)
  unfold VC opsB; after_results; rfl
/-- The counts. -/
theorem VC_v9_3 : VC m d (dv main_v9_3) = (insOf (VA m d)).outs.cc := by
  refine Eq.trans ?_ (putOuts_cc (VA m d) (insOf (VA m d)).outs)
  unfold VC opsB; after_results; rfl

/-- The topic table, padded. -/
theorem VB_v8 : VB m d (dv main_v8) = pad (α := Ideal .f32) S1024x128 ![0, 0] ![24, 0] ![0, 0] (m (d, dv main_arg5) : FVec Ideal S1000x128 .f32)
    (sitofp (F := Ideal) .f32 (constantI S_ 32 0#32)) pads_S1000x128_S1024x128_0240_000 h_S_ := by
  unfold VB
  rw [putOuts_ne _ _ _ (by decide) (by decide) (by decide) (by decide)]
  unfold VA opsA; after_results; rfl

/-- The padded table in the narrow format. -/
theorem VC_v10 : VC m d (dv main_v10) = truncf (F := Ideal) .bf16 (VB m d (dv main_v8) : FVec Ideal S1024x128 .f32) bitsLt_bf16_f32 := by
  unfold VC opsB; after_results
/-- The first layer's weights, in the narrow format. -/
theorem VC_v11 : VC m d (dv main_v11) = truncf (F := Ideal) .bf16 (VB m d (dv main_arg6) : FVec Ideal S640x1024 .f32) bitsLt_bf16_f32 := by
  unfold VC opsB; after_results
/-- The first layer's bias, as a row. -/
theorem VC_v12 : VC m d (dv main_v12) = shapeCast S1x1024 (VB m d (dv main_arg7) : FVec Ideal S1024 .f32) shapeCasts_S1024_S1x1024 := by
  unfold VC opsB; after_results; rfl
/-- The second layer's weights, in the narrow format. -/
theorem VC_v13 : VC m d (dv main_v13) = truncf (F := Ideal) .bf16 (VB m d (dv main_arg8) : FVec Ideal S1024x1024 .f32) bitsLt_bf16_f32 := by
  unfold VC opsB; after_results
/-- The second layer's bias, as a row. -/
theorem VC_v14 : VC m d (dv main_v14) = shapeCast S1x1024 (VB m d (dv main_arg9) : FVec Ideal S1024 .f32) shapeCasts_S1024_S1x1024 := by
  unfold VC opsB; after_results; rfl
/-- The last layer's weights, transposed, in the narrow format. -/
theorem VC_v16 : VC m d (dv main_v16) = truncf (F := Ideal) .bf16 (transpose S1000x1024 [1, 0] (VB m d (dv main_arg10) : FVec Ideal S1024x1000 .f32)
    transposes_S1024x1000_S1000x1024_1_0) bitsLt_bf16_f32 := by
  unfold VC opsB; after_results
/-- The last layer's bias, as a column. -/
theorem VC_v17 : VC m d (dv main_v17) = shapeCast S1000x1 (VB m d (dv main_arg11) : FVec Ideal S1000 .f32) shapeCasts_S1000_S1000x1 := by
  unfold VC opsB; after_results; rfl

/-- The program's result is the TensorCore kernel's, transposed. -/
theorem VE_v19 : VE m d (dv main_v19) = transpose S4096x1000 [1, 0] (headed (VCt m) d : FVec Ideal S1000x4096 .f32) transposes_S1000x4096_S4096x1000_1_0 := by
  refine Eq.trans (b := transpose S4096x1000 [1, 0] (VD m d (dv main_v18) : FVec Ideal S1000x4096 .f32) transposes_S1000x4096_S4096x1000_1_0) ?_ ?_
  · unfold VE opsC; after_results
  · unfold VD; rw [Function.update_self]

/-! ## Element by element -/

/-- The two spellings of an index by its coordinates. -/
theorem ixT_eq (h : Fin 50) (k : Fin 4096) : ixT h k = ix2 h k := eq_ix2 _
/-- The same for a table row and a column. -/
theorem ixE_eq (r : Fin 100000) (l : Fin 128) : ixE r l = ix2 r l := eq_ix2 _
/-- The same for a batch row. -/
theorem ix1_eq (k : Fin 4096) : ix1 k = Idealize.ShloMosaic.ix1 k := eq_ix1 _

/-- A list of the batch rows' words, element by element. -/
theorem column_apply (k : Fin 3) (h : S4096x3.Slices ![0, k.val] S4096x1) (a0 : IVec S4096x3 32) (b : Fin 4096) :
    shapeCast S4096 (extractStridedSlice S4096x1 ![0, k.val] a0 h) shapeCasts_S4096x1_S4096 (ix1 b) = a0 (ix2 b k) := by
  rw [ix1_eq]
  fin_cases k <;> pointwise

/-- A gathered array holds the named rows. -/
theorem gathered_apply (w : IVec S4096 32) (tab : FVec Ideal S100000x128 .f32) (a0 : IVec S4096x3 32)
    (h0 : ∀ x, (a0 x).toNat < 100000) (k : Fin 3) (h : S4096x3.Slices ![0, k.val] S4096x1)
    (hw : w = shapeCast S4096 (extractStridedSlice S4096x1 ![0, k.val] a0 h) shapeCasts_S4096x1_S4096) (b : Fin 4096) (l : Fin 128) :
    gathered w tab (ix2 b l) = rowAt tab a0 h0 k b l := by
  have e : w (ix1 b) = a0 (ix2 b k) := by rw [hw]; exact column_apply k h a0 b
  have hb : (w (ix1 b)).toNat < 100000 := by rw [e]; exact h0 _
  show tab (ixE (if h : (w (ix1 b)).toNat < 100000 then ⟨(w (ix1 b)).toNat, h⟩ else 0) l) = _
  rw [dif_pos hb, ixE_eq]
  exact congrArg (fun r => tab (ix2 r l)) (Fin.ext (congrArg BitVec.toNat e))

/-- The padded table holds the table's rows. -/
theorem pad_apply (x : FVec Ideal S1000x128 .f32) (z : FVec Ideal S_ .f32) (j : Fin 1024) (hj : j.val < 1000) (l : Fin 128) :
    pad S1024x128 ![0, 0] ![24, 0] ![0, 0] x z pads_S1000x128_S1024x128_0240_000 h_S_ (ix2 j l) = x (ix2 ⟨j.val, hj⟩ l) := by
  pointwise
  exact dif_pos hj

/-- The padded table the TensorCore kernel reads is the topic table in its first thousand rows. -/
theorem padded_apply (j : Fin 1024) (hj : j.val < 1000) (l : Fin 128) :
    (VC m d (dv main_v10) : FVec Ideal S1024x128 .bf16) (ix2 j l) = (m (d, dv main_arg5) : FVec Ideal S1000x128 .f32) (ix2 ⟨j.val, hj⟩ l) := by
  rw [VC_v10, VB_v8]
  exact pad_apply _ _ j hj l

/-- The mean over the padded table is the mean over the table. -/
theorem tableMean_eq (tp : IVec S4096x50 32) (h : ∀ x, (tp x).toNat < 1000) (tt : IVec S50x4096 32)
    (ht : tt = transpose S50x4096 [1, 0] tp transposes_S4096x50_S50x4096_1_0) (hl : ∀ x, (tt x).toNat < 1024) (b : Fin 4096) (l : Fin 128) :
    tableMean (VC m d (dv main_v10)) tt hl b l = avgAt (m (d, dv main_arg5)) tp h b l := by
  unfold tableMean avgAt
  refine congrArg (fun s => Ideal.div s _) (Finset.sum_congr rfl fun k _ => ?_)
  have e : tt (ixT k b) = tp (ix2 b k) := by rw [ht, ixT_eq]; pointwise
  rw [padded_apply m d _ (by show (tt (ixT k b)).toNat < 1000; rw [e]; exact h _) l]
  exact congrArg (fun r => (m (d, dv main_arg5) : FVec Ideal S1000x128 .f32) (ix2 r l)) (Fin.ext (congrArg BitVec.toNat e))

/-- The weights and biases, as the kernel reads them. -/
theorem v11_apply (i : Fin 640) (j : Fin 1024) :
    (VC m d (dv main_v11) : FVec Ideal S640x1024 .bf16) (ix2 i j) = (m (d, dv main_arg6) : FVec Ideal S640x1024 .f32) (ix2 i j) := by
  rw [VC_v11, VB_arg m d (dv main_arg6) (by decide)]; rfl
/-- The second layer's weights, element by element. -/
theorem v13_apply (j k : Fin 1024) :
    (VC m d (dv main_v13) : FVec Ideal S1024x1024 .bf16) (ix2 j k) = (m (d, dv main_arg8) : FVec Ideal S1024x1024 .f32) (ix2 j k) := by
  rw [VC_v13, VB_arg m d (dv main_arg8) (by decide)]; rfl
/-- A list cast to a row, at an index. -/
theorem row_cast (x : FVec Ideal S1024 .f32) (j : Fin 1024) :
    shapeCast S1x1024 x shapeCasts_S1024_S1x1024 (ix2 0 j) = x (Idealize.ShloMosaic.ix1 j) := by pointwise
/-- The first layer's bias, element by element. -/
theorem v12_apply (j : Fin 1024) :
    (VC m d (dv main_v12) : FVec Ideal S1x1024 .f32) (ix2 0 j) = (m (d, dv main_arg7) : FVec Ideal S1024 .f32) (Idealize.ShloMosaic.ix1 j) := by
  rw [VC_v12, VB_arg m d (dv main_arg7) (by decide)]; exact row_cast _ j
/-- The second layer's bias, element by element. -/
theorem v14_apply (j : Fin 1024) :
    (VC m d (dv main_v14) : FVec Ideal S1x1024 .f32) (ix2 0 j) = (m (d, dv main_arg9) : FVec Ideal S1024 .f32) (Idealize.ShloMosaic.ix1 j) := by
  rw [VC_v14, VB_arg m d (dv main_arg9) (by decide)]; exact row_cast _ j
/-- A transposed weight array at an index. -/
theorem swap_apply (x : FVec Ideal S1024x1000 .f32) (o : Fin 1000) (k : Fin 1024) :
    transpose S1000x1024 [1, 0] x transposes_S1024x1000_S1000x1024_1_0 (ix2 o k) = x (ix2 k o) := by pointwise
/-- The last layer's weights, element by element. -/
theorem v16_apply (o : Fin 1000) (k : Fin 1024) :
    (VC m d (dv main_v16) : FVec Ideal S1000x1024 .bf16) (ix2 o k) = (m (d, dv main_arg10) : FVec Ideal S1024x1000 .f32) (ix2 k o) := by
  rw [VC_v16, VB_arg m d (dv main_arg10) (by decide)]; exact swap_apply _ o k
/-- A list cast to a column, at an index. -/
theorem col_cast (x : FVec Ideal S1000 .f32) (o : Fin 1000) :
    shapeCast S1000x1 x shapeCasts_S1000_S1000x1 (ix2 o 0) = x (Idealize.ShloMosaic.ix1 o) := by pointwise
/-- The last layer's bias, element by element. -/
theorem v17_apply (o : Fin 1000) :
    (VC m d (dv main_v17) : FVec Ideal S1000x1 .f32) (ix2 o 0) = (m (d, dv main_arg11) : FVec Ideal S1000 .f32) (Idealize.ShloMosaic.ix1 o) := by
  rw [VC_v17, VB_arg m d (dv main_arg11) (by decide)]; exact col_cast _ o

/-- An argument array at the SparseCore call. -/
theorem VA_arg (b : DevRef τ sig) (hb : b ∉ written) : VA m d b = m (d, b) := by
  unfold VA
  rw [StableHlo.after_of_forall_not_mem (b := b) _ _ fun op h hc => hb (opsA_writes op h hc)]
  rfl

/-- The gathered arrays, as the kernel reads them. -/
theorem org_apply (h0 : ∀ x, ((m (d, dv main_arg0) : IVec S4096x3 32) x).toNat < 100000) (b : Fin 4096) (l : Fin 128) :
    (VC m d (dv main_v9_0) : FVec Ideal S4096x128 .f32) (ix2 b l) = rowAt (m (d, dv main_arg3)) (m (d, dv main_arg0)) h0 0 b l := by
  rw [VC_v9_0, ← VA_arg m d (dv main_arg3) (by decide)]
  exact gathered_apply (VA m d (dv main_v1)) _ _ h0 0 _ (VA_v1 m d) b l
/-- The second gathered array, element by element. -/
theorem gg_apply (h0 : ∀ x, ((m (d, dv main_arg0) : IVec S4096x3 32) x).toNat < 100000) (b : Fin 4096) (l : Fin 128) :
    (VC m d (dv main_v9_1) : FVec Ideal S4096x128 .f32) (ix2 b l) = rowAt (m (d, dv main_arg4)) (m (d, dv main_arg0)) h0 1 b l := by
  rw [VC_v9_1, ← VA_arg m d (dv main_arg4) (by decide)]
  exact gathered_apply (VA m d (dv main_v3)) _ _ h0 1 _ (VA_v3 m d) b l
/-- The third gathered array, element by element. -/
theorem mem_apply (h0 : ∀ x, ((m (d, dv main_arg0) : IVec S4096x3 32) x).toNat < 100000) (b : Fin 4096) (l : Fin 128) :
    (VC m d (dv main_v9_2) : FVec Ideal S4096x128 .f32) (ix2 b l) = rowAt (m (d, dv main_arg3)) (m (d, dv main_arg0)) h0 2 b l := by
  rw [VC_v9_2, ← VA_arg m d (dv main_arg3) (by decide)]
  exact gathered_apply (VA m d (dv main_v5)) _ _ h0 2 _ (VA_v5 m d) b l

/-- Topics in range stay in range when transposed. -/
theorem small {tp : IVec S4096x50 32} (h : ∀ x, (tp x).toNat < 1000) {tt : IVec S50x4096 32}
    (ht : tt = transpose S50x4096 [1, 0] tp transposes_S4096x50_S50x4096_1_0) (x : S50x4096.Idx) : (tt x).toNat < 1024 := by
  subst ht; exact lt_trans (h _) (by decide)

/-- Equal parts give equal results. -/
theorem joined_congr {p0 p1 p2 p3 p4 q0 q1 q2 q3 q4 : Fin 128 → EReal} (h0 : ∀ l, p0 l = q0 l) (h1 : ∀ l, p1 l = q1 l)
    (h2 : ∀ l, p2 l = q2 l) (h3 : ∀ l, p3 l = q3 l) (h4 : ∀ l, p4 l = q4 l) (i : Fin 640) :
    joined p0 p1 p2 p3 p4 i = joined q0 q1 q2 q3 q4 i := by
  rw [funext h0, funext h1, funext h2, funext h3, funext h4]

/-- Equal inputs give equal outputs of the three layers. -/
theorem layers_congr {x x' : Fin 640 → EReal} {w1 w1' : Fin 640 → Fin 1024 → EReal} {b1 b1' : Fin 1024 → EReal}
    {w2 w2' : Fin 1024 → Fin 1024 → EReal} {b2 b2' w3 w3' : Fin 1024 → EReal} {b3 b3' : EReal} (hx : ∀ i, x i = x' i)
    (hw1 : ∀ i j, w1 i j = w1' i j) (hb1 : ∀ j, b1 j = b1' j) (hw2 : ∀ j k, w2 j k = w2' j k) (hb2 : ∀ k, b2 k = b2' k)
    (hw3 : ∀ k, w3 k = w3' k) (hb3 : b3 = b3') : layers x w1 b1 w2 b2 w3 b3 = layers x' w1' b1' w2' b2' w3' b3' := by
  rw [funext hx, funext fun i => funext (hw1 i), funext hb1, funext fun j => funext (hw2 j), funext hb2, funext hw3, hb3]

/-- What the kernel's column `b` holds at `o`. -/
theorem outAt_eq (h0 : ∀ x, ((m (d, dv main_arg0) : IVec S4096x3 32) x).toNat < 100000)
    (h1 : ∀ x, ((m (d, dv main_arg1) : IVec S4096x50 32) x).toNat < 1000)
    (h2 : ∀ x, ((m (d, dv main_arg2) : IVec S4096x50 32) x).toNat < 1000) (b : Fin 4096) (o : Fin 1000) :
    outAt (VCt m) d (VA m d (dv main_v6)) (VA m d (dv main_v7)) (small h1 (VA_v6 m d)) (small h2 (VA_v7 m d)) o b
      = scoreAt (m (d, dv main_arg0)) (m (d, dv main_arg1)) (m (d, dv main_arg2)) (m (d, dv main_arg3)) (m (d, dv main_arg4))
          (m (d, dv main_arg5)) (m (d, dv main_arg6)) (m (d, dv main_arg7)) (m (d, dv main_arg8)) (m (d, dv main_arg9))
          (m (d, dv main_arg10)) (m (d, dv main_arg11)) h0 h1 h2 b o := by
  refine layers_congr (fun i => joined_congr ?_ ?_ ?_ ?_ ?_ i) ?_ ?_ ?_ ?_ ?_ ?_
  · exact fun l => org_apply m d h0 b l
  · exact fun l => gg_apply m d h0 b l
  · exact fun l => mem_apply m d h0 b l
  · exact fun l => tableMean_eq m d _ h1 _ (VA_v6 m d) _ b l
  · exact fun l => tableMean_eq m d _ h2 _ (VA_v7 m d) _ b l
  · exact fun i j => v11_apply m d i j
  · exact fun j => v12_apply m d j
  · exact fun j k => v13_apply m d j k
  · exact fun k => v14_apply m d k
  · exact fun k => v16_apply m d o k
  · exact v17_apply m d o

/-- The transposed result at an index. -/
theorem turned_apply (x : FVec Ideal S1000x4096 .f32) (b : Fin 4096) (o : Fin 1000) :
    transpose S4096x1000 [1, 0] x transposes_S1000x4096_S4096x1000_1_0 (ix2 b o) = x (ix2 o b) := by pointwise

/-- The kernel's result at an index, the words in range. -/
theorem kernel_apply (h0 : ∀ x, ((m (d, dv main_arg0) : IVec S4096x3 32) x).toNat < 100000)
    (h1 : ∀ x, ((m (d, dv main_arg1) : IVec S4096x50 32) x).toNat < 1000)
    (h2 : ∀ x, ((m (d, dv main_arg2) : IVec S4096x50 32) x).toNat < 1000) (b : Fin 4096) (o : Fin 1000) :
    (VE m d (dv main_v19) : FVec Ideal S4096x1000 .f32) (ix2 b o)
      = scoreAt (m (d, dv main_arg0)) (m (d, dv main_arg1)) (m (d, dv main_arg2)) (m (d, dv main_arg3)) (m (d, dv main_arg4))
          (m (d, dv main_arg5)) (m (d, dv main_arg6)) (m (d, dv main_arg7)) (m (d, dv main_arg8)) (m (d, dv main_arg9))
          (m (d, dv main_arg10)) (m (d, dv main_arg11)) h0 h1 h2 b o := by
  rw [VE_v19, headed_eq (VCt m) d (VA m d (dv main_v6)) (VA m d (dv main_v7)) (small h1 (VA_v6 m d)) (small h2 (VA_v7 m d)) (VC_v9_3 m d)]
  exact (turned_apply _ b o).trans (outAt_eq m d h0 h1 h2 b o)

end Cert.Proof.Lookup
-- ==== Proof.Takes.lean ====
/-
  The reference's two kinds of take, read at an index: a row of a table named by a word in range, and the mean of the fifty
  rows that a batch row's topics name.
-/
module

public import proofs.«01_k».proof.Defs
public import proofs.«01_k».proof.Proof.Gen.ReferenceIdeal
public import Idealize.ShloMosaic.Lib.Pointwise
public import Idealize.ShloMosaic.Lib.ReduceAll

@[expose] public section

set_option maxRecDepth 16384

noncomputable section

namespace Cert.Proof.Plain

open Cert.ReferenceIdeal Cert.ReferenceIdeal.Gen
open Idealize.ShloMosaic

/-! ## Words in range -/

/-- A word below `2 ^ 31` is its own unsigned value when read signed. -/
theorem toInt_small (v : BitVec 32) (h : v.toNat < 2 ^ 31) : v.toInt = (v.toNat : ℤ) := by
  rw [BitVec.toInt_eq_toNat_cond, if_pos (by omega)]

/-- It is not negative, so the wrap of negative indices leaves it. -/
theorem wrap_small (v w : BitVec 32) (h : v.toNat < 2 ^ 31) : Scalar.select (IntOp.cmpi .slt v 0#32) w v = v := by
  have e : IntOp.cmpi .slt v 0#32 = 0#1 := by
    simp only [IntOp.cmpi, BitVec.slt_eq_decide, toInt_small v h]
    rw [decide_eq_false (by simp)]
    rfl
  rw [e]
  rfl

/-- It passes the test of lying between 0 and a bound. -/
theorem inside (v : BitVec 32) (n : ℕ) (hn : n < 2 ^ 31) (h : v.toNat ≤ n) :
    IntOp.andi (IntOp.cmpi .sge v 0#32) (IntOp.cmpi .sle v (BitVec.ofNat 32 n)) = 1#1 := by
  have hm : (BitVec.ofNat 32 n).toNat = n := by rw [BitVec.toNat_ofNat]; exact Nat.mod_eq_of_lt (by omega)
  simp only [IntOp.cmpi, BitVec.sle_eq_decide, toInt_small v (by omega), toInt_small (BitVec.ofNat 32 n) (by omega), hm]
  rw [decide_eq_true (by simp), decide_eq_true (by exact_mod_cast h)]
  rfl

/-- A selection whose condition holds at an index is there its first choice. -/
theorem select_at {S : Shape} {α : Type} (c : IVec S 1) (x y : S.Idx → α) (j : S.Idx) (h : c j = 1#1) : select c x y j = x j := by
  show Scalar.select (c j) (x j) (y j) = x j
  rw [h]
  rfl

/-! ## The two gathers -/

/-- The row take: entry `(b, l)` is column `l` of the row that word `(b, 0)` names. -/
theorem gather_rows (tab : FVec Ideal S100000x128 .f32) (w : IVec S4096x1 32) (b : Fin 4096) (l : Fin 128)
    (h : (w (ix2 b 0)).toNat < 100000) :
    Host.gather gather_S100000x128_S4096x1_S4096x128_1_0_n_n_0_1_1128 tab w (ix2 b l) = tab (ix2 ⟨(w (ix2 b 0)).toNat, h⟩ l) := by
  let d := gather_S100000x128_S4096x1_S4096x128_1_0_n_n_0_1_1128
  have none (a : Fin 2) : d.batchCoord (ix2 b l) a = 0 := d.batchCoord_eq_zero _ _ List.not_mem_nil
  refine congrArg tab (funext fun a => Fin.ext ?_)
  show d.start (ix2 b l) w a + d.batchCoord (ix2 b l) a + d.offCoord (ix2 b l) a = _
  rw [none a]
  match a with
  | ⟨0, _⟩ =>
    have e : d.start (ix2 b l) w 0 = min (w (ix2 b 0)).toInt.toNat (100000 - 1) := by
      unfold GatherDims.start
      rw [dif_pos (show (0 : Fin 2) ∈ d.startIndexMap from List.mem_singleton.2 rfl)]
      refine congrArg (fun i => min (w i).toInt.toNat (100000 - 1)) (funext fun a' => Fin.ext ?_)
      match a' with
      | ⟨0, _⟩ => rfl
      | ⟨1, _⟩ => rfl
    have o : d.offCoord (ix2 b l) 0 = 0 := d.offCoord_eq_zero _ _ (by decide)
    show d.start (ix2 b l) w 0 + 0 + d.offCoord (ix2 b l) 0 = (w (ix2 b 0)).toNat
    rw [e, o, toInt_small _ (by omega)]
    show min (w (ix2 b 0)).toNat (100000 - 1) + 0 + 0 = _
    omega
  | ⟨1, _⟩ =>
    show d.start (ix2 b l) w 1 + 0 + d.offCoord (ix2 b l) 1 = l.val
    have e : d.start (ix2 b l) w 1 = 0 := by
      unfold GatherDims.start
      exact dif_neg (by decide)
    have o : d.offCoord (ix2 b l) 1 = l.val := by
      unfold GatherDims.offCoord
      rw [dif_pos (by decide)]
      rfl
    rw [e, o, Nat.zero_add]

/-- The topic take: entry `(b, h, l)` is column `l` of the row that word `(b, h, 0)` names. -/
theorem gather_topics (tab : FVec Ideal S1000x128 .f32) (w : IVec S4096x50x1 32) (b : Fin 4096) (k : Fin 50) (l : Fin 128)
    (h : (w (ix3 b k 0)).toNat < 1000) :
    Host.gather gather_S1000x128_S4096x50x1_S4096x50x128_2_0_n_n_0_2_1128 tab w (ix3 b k l)
      = tab (ix2 ⟨(w (ix3 b k 0)).toNat, h⟩ l) := by
  let d := gather_S1000x128_S4096x50x1_S4096x50x128_2_0_n_n_0_2_1128
  have none (a : Fin 2) : d.batchCoord (ix3 b k l) a = 0 := d.batchCoord_eq_zero _ _ List.not_mem_nil
  refine congrArg tab (funext fun a => Fin.ext ?_)
  show d.start (ix3 b k l) w a + d.batchCoord (ix3 b k l) a + d.offCoord (ix3 b k l) a = _
  rw [none a]
  match a with
  | ⟨0, _⟩ =>
    have e : d.start (ix3 b k l) w 0 = min (w (ix3 b k 0)).toInt.toNat (1000 - 1) := by
      unfold GatherDims.start
      rw [dif_pos (show (0 : Fin 2) ∈ d.startIndexMap from List.mem_singleton.2 rfl)]
      refine congrArg (fun i => min (w i).toInt.toNat (1000 - 1)) (funext fun a' => Fin.ext ?_)
      match a' with
      | ⟨0, _⟩ => rfl
      | ⟨1, _⟩ => rfl
      | ⟨2, _⟩ => rfl
    have o : d.offCoord (ix3 b k l) 0 = 0 := d.offCoord_eq_zero _ _ (by decide)
    show d.start (ix3 b k l) w 0 + 0 + d.offCoord (ix3 b k l) 0 = (w (ix3 b k 0)).toNat
    rw [e, o, toInt_small _ (by omega)]
    show min (w (ix3 b k 0)).toNat (1000 - 1) + 0 + 0 = _
    omega
  | ⟨1, _⟩ =>
    show d.start (ix3 b k l) w 1 + 0 + d.offCoord (ix3 b k l) 1 = l.val
    have e : d.start (ix3 b k l) w 1 = 0 := by
      unfold GatherDims.start
      exact dif_neg (by decide)
    have o : d.offCoord (ix3 b k l) 1 = l.val := by
      unfold GatherDims.offCoord
      rw [dif_pos (by decide)]
      rfl
    rw [e, o, Nat.zero_add]

/-! ## The takes with their masks -/

/-- The words the row take reads with: negative ones wrapped, as a column. -/
def rowWords (col : IVec S4096 32) : IVec S4096x1 32 :=
  broadcastInDim S4096x1 ![0] bcast_S4096_S4096x1_0
    (select (cmpi .slt col (broadcastInDim S4096 ![] bcast_S_S4096 (constantI S_ 32 0#32)))
      (addi col (broadcastInDim S4096 ![] bcast_S_S4096 (constantI S_ 32 100000#32))) col)

/-- The rows of `tab` that the words `col` name; not-a-number where a word is out of range. -/
def rowTake (tab : FVec Ideal S100000x128 .f32) (col : IVec S4096 32) : FVec Ideal S4096x128 .f32 :=
  select (broadcastInDim S4096x128 ![0] bcast_S4096_S4096x128_0
      (Host.reduce IntOp.andi
        (andi (cmpi .sge (rowWords col) (broadcastInDim S4096x1 ![] bcast_S_S4096x1 (constantI S_ 32 0#32)))
          (cmpi .sle (rowWords col) (broadcastInDim S4096x1 ![0, 1] bcast_S1x1_S4096x1_0_1
            (broadcastInDim S1x1 ![1] bcast_S1_S1x1_1 (constantI S1 32 99999#32)))))
        (constantI S_ 1 1#1) reducesTo_S4096x1_S4096_d1 h_S_))
    (Host.gather gather_S100000x128_S4096x1_S4096x128_1_0_n_n_0_1_1128 tab (rowWords col))
    (broadcastInDim S4096x128 ![] bcast_S_S4096x128 (constant S_ .f32 0x7FC00000#32))

/-- The words the topic take reads with. -/
def topicWords (tp : IVec S4096x50 32) : IVec S4096x50x1 32 :=
  broadcastInDim S4096x50x1 ![0, 1] bcast_S4096x50_S4096x50x1_0_1
    (select (cmpi .slt tp (broadcastInDim S4096x50 ![] bcast_S_S4096x50 (constantI S_ 32 0#32)))
      (addi tp (broadcastInDim S4096x50 ![] bcast_S_S4096x50 (constantI S_ 32 1000#32))) tp)

/-- The rows of the topic table, fifty for each batch row. -/
def topicTake (tab : FVec Ideal S1000x128 .f32) (tp : IVec S4096x50 32) : FVec Ideal S4096x50x128 .f32 :=
  select (broadcastInDim S4096x50x128 ![0, 1] bcast_S4096x50_S4096x50x128_0_1
      (Host.reduce IntOp.andi
        (andi (cmpi .sge (topicWords tp) (broadcastInDim S4096x50x1 ![] bcast_S_S4096x50x1 (constantI S_ 32 0#32)))
          (cmpi .sle (topicWords tp) (broadcastInDim S4096x50x1 ![0, 1, 2] bcast_S1x1x1_S4096x50x1_0_1_2
            (broadcastInDim S1x1x1 ![2] bcast_S1_S1x1x1_2 (constantI S1 32 999#32)))))
        (constantI S_ 1 1#1) reducesTo_S4096x50x1_S4096x50_d2 h_S_))
    (Host.gather gather_S1000x128_S4096x50x1_S4096x50x128_2_0_n_n_0_2_1128 tab (topicWords tp))
    (broadcastInDim S4096x50x128 ![] bcast_S_S4096x50x128 (constant S_ .f32 0x7FC00000#32))

/-- Their mean. -/
def topicMean (tab : FVec Ideal S1000x128 .f32) (tp : IVec S4096x50 32) : FVec Ideal S4096x128 .f32 :=
  Host.divf (Host.reduceAdd (topicTake tab tp) (constant S_ .f32 0x00000000#32) reducesTo_S4096x50x128_S4096x128_d1 h_S_)
    (broadcastInDim S4096x128 ![] bcast_S_S4096x128 (constant S_ .f32 0x42480000#32))

/-- A word in range is read as it stands. -/
theorem rowWords_apply (col : IVec S4096 32) (h : ∀ x, (col x).toNat < 100000) (j : S4096x1.Idx) : rowWords col j = col (ix1 (j 0)) := by
  pointwise [rowWords]
  exact wrap_small _ _ (by have := h (ix1 (j 0)); omega)

/-- The same for topics. -/
theorem topicWords_apply (tp : IVec S4096x50 32) (h : ∀ x, (tp x).toNat < 1000) (j : S4096x50x1.Idx) :
    topicWords tp j = tp (ix2 (j 0) (j 1)) := by
  pointwise [topicWords]
  exact wrap_small _ _ (by have := h (ix2 (j 0) (j 1)); omega)

/-- The row take at an index, its words in range. -/
theorem rowTake_apply (tab : FVec Ideal S100000x128 .f32) (col : IVec S4096 32) (h : ∀ x, (col x).toNat < 100000) (b : Fin 4096)
    (l : Fin 128) : rowTake tab col (ix2 b l) = tab (ix2 ⟨(col (ix1 b)).toNat, h _⟩ l) := by
  have e := rowWords_apply col h
  unfold rowTake
  refine (select_at _ _ _ _ ?_).trans ?_
  · exact Host.reduce_andi_one _ _ _ _ _ rfl fun i => inside _ 99999 (by decide) (by rw [e]; have := h (ix1 (i 0)); omega)
  rw [gather_rows tab _ b l (by rw [e]; exact h _)]
  exact congrArg (fun r => tab (ix2 r l)) (Fin.ext (congrArg BitVec.toNat (e _)))

/-- The topic take at an index, its words in range. -/
theorem topicTake_apply (tab : FVec Ideal S1000x128 .f32) (tp : IVec S4096x50 32) (h : ∀ x, (tp x).toNat < 1000) (b : Fin 4096)
    (k : Fin 50) (l : Fin 128) : topicTake tab tp (ix3 b k l) = tab (ix2 ⟨(tp (ix2 b k)).toNat, h _⟩ l) := by
  have e := topicWords_apply tp h
  unfold topicTake
  refine (select_at _ _ _ _ ?_).trans ?_
  · exact Host.reduce_andi_one _ _ _ _ _ rfl fun i => inside _ 999 (by decide) (by rw [e]; have := h (ix2 (i 0) (i 1)); omega)
  rw [gather_topics tab _ b k l (by rw [e]; exact h _)]
  exact congrArg (fun r => tab (ix2 r l)) (Fin.ext (congrArg BitVec.toNat (e _)))

/-- The mean at an index: the fifty rows' sum, divided by the constant fifty. -/
theorem topicMean_apply (tab : FVec Ideal S1000x128 .f32) (tp : IVec S4096x50 32) (h : ∀ x, (tp x).toNat < 1000) (b : Fin 4096)
    (l : Fin 128) :
    topicMean tab tp (ix2 b l)
      = Ideal.div (∑ k : Fin 50, tab (ix2 ⟨(tp (ix2 b k)).toNat, h _⟩ l)) (Ideal.ofBits .f32 0x42480000#32) := by
  pointwise [topicMean]
  simp only [topicTake_apply tab tp h]

end Cert.Proof.Plain
-- ==== Proof.RefValue.lean ====
/-
  The reference's result, element by element.
-/
module

public import proofs.«01_k».proof.Proof.Takes
public import proofs.«01_k».proof.Proof.Score
public import proofs.«01_k».proof.Proof.Gen.ReferenceIdeal.Run

@[expose] public section

set_option maxRecDepth 16384

noncomputable section

namespace Cert.Proof.Plain

open Cert.ReferenceIdeal Cert.ReferenceIdeal.Gen
open Cert.Proof.Lookup (layers joined rowAt avgAt scoreAt)
open Idealize.ShloMosaic Idealize.ShloMosaic.TcCoe

/-- Column `k` of the batch rows' three words. -/
def col (k : Fin 3) (h : S4096x3.Slices ![0, k.val] S4096x1) (a0 : IVec S4096x3 32) : IVec S4096 32 :=
  shapeCast S4096 (extractStridedSlice S4096x1 ![0, k.val] a0 h) shapeCasts_S4096x1_S4096

/-- The rows of features the reference makes. -/
def features (p0 p1 p2 p3 p4 : FVec Ideal S4096x128 .f32) : FVec Ideal S4096x640 .f32 :=
  concatenate S4096x640 1 [⟨S4096x128, p0⟩, ⟨S4096x128, p1⟩, ⟨S4096x128, p2⟩, ⟨S4096x128, p3⟩, ⟨S4096x128, p4⟩]
    concatenates_S4096x128_S4096x128_S4096x128_S4096x128_S4096x128_S4096x640_d1

/-- The three layers over them. -/
def net (x : FVec Ideal S4096x640 .f32) (a6 : FVec Ideal S640x1024 .f32) (a7 : FVec Ideal S1024 .f32) (a8 : FVec Ideal S1024x1024 .f32)
    (a9 : FVec Ideal S1024 .f32) (a10 : FVec Ideal S1024x1000 .f32) (a11 : FVec Ideal S1000 .f32) : FVec Ideal S4096x1000 .f32 :=
  have y : FVec Ideal S4096x1024 .f32 := maximumf
    (addf (Host.dotGeneral dot_S4096x640_S640x1024_S4096x1024_1_0_0_1_n_n none x a6)
      (broadcastInDim S4096x1024 ![0, 1] bcast_S1x1024_S4096x1024_0_1 (broadcastInDim S1x1024 ![1] bcast_S1024_S1x1024_1 a7)))
    (broadcastInDim S4096x1024 ![] bcast_S_S4096x1024 (constant S_ .f32 0x00000000#32))
  have z : FVec Ideal S4096x1024 .f32 := maximumf
    (addf (Host.dotGeneral dot_S4096x1024_S1024x1024_S4096x1024_1_0_0_1_n_n none y a8)
      (broadcastInDim S4096x1024 ![0, 1] bcast_S1x1024_S4096x1024_0_1 (broadcastInDim S1x1024 ![1] bcast_S1024_S1x1024_1 a9)))
    (broadcastInDim S4096x1024 ![] bcast_S_S4096x1024 (constant S_ .f32 0x00000000#32))
  addf (Host.dotGeneral dot_S4096x1024_S1024x1000_S4096x1000_1_0_0_1_n_n none z a10)
    (broadcastInDim S4096x1000 ![0, 1] bcast_S1x1000_S4096x1000_0_1 (broadcastInDim S1x1000 ![1] bcast_S1000_S1x1000_1 a11))

/-- The reference's printed result is those layers over the three takes and the two means. -/
theorem result_eq (m : (ℓ : Loc nD τ sig) → Buf (Elt Ideal) ℓ) (c : Dev nD) :
    Value.res_main_v31 (F := Ideal) m c
      = net (features (rowTake (m ((c.tc : Thread nD τ).loc main_arg3)) (col 0 slices_S4096x3_S4096x1_0_0 (m ((c.tc : Thread nD τ).loc main_arg0))))
            (rowTake (m ((c.tc : Thread nD τ).loc main_arg4)) (col 1 slices_S4096x3_S4096x1_0_1 (m ((c.tc : Thread nD τ).loc main_arg0))))
            (rowTake (m ((c.tc : Thread nD τ).loc main_arg3)) (col 2 slices_S4096x3_S4096x1_0_2 (m ((c.tc : Thread nD τ).loc main_arg0))))
            (topicMean (m ((c.tc : Thread nD τ).loc main_arg5)) (m ((c.tc : Thread nD τ).loc main_arg1)))
            (topicMean (m ((c.tc : Thread nD τ).loc main_arg5)) (m ((c.tc : Thread nD τ).loc main_arg2))))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11)) := by
  rfl

/-- A row of features at an index. -/
theorem features_apply (p0 p1 p2 p3 p4 : FVec Ideal S4096x128 .f32) (b : Fin 4096) (i : Fin 640) :
    features p0 p1 p2 p3 p4 (ix2 b i)
      = joined (fun l => p0 (ix2 b l)) (fun l => p1 (ix2 b l)) (fun l => p2 (ix2 b l)) (fun l => p3 (ix2 b l)) (fun l => p4 (ix2 b l)) i := by
  pointwise [features, joined]

/-- The three layers at an index. -/
theorem net_apply (x : FVec Ideal S4096x640 .f32) (a6 : FVec Ideal S640x1024 .f32) (a7 : FVec Ideal S1024 .f32)
    (a8 : FVec Ideal S1024x1024 .f32) (a9 : FVec Ideal S1024 .f32) (a10 : FVec Ideal S1024x1000 .f32) (a11 : FVec Ideal S1000 .f32)
    (b : Fin 4096) (o : Fin 1000) :
    net x a6 a7 a8 a9 a10 a11 (ix2 b o)
      = layers (fun i => x (ix2 b i)) (fun i j => a6 (ix2 i j)) (fun j => a7 (ix1 j)) (fun j k => a8 (ix2 j k)) (fun k => a9 (ix1 k))
          (fun k => a10 (ix2 k o)) (a11 (ix1 o)) := by
  pointwise [net, layers]

/-- A column of the words at an index. -/
theorem col_apply (k : Fin 3) (h : S4096x3.Slices ![0, k.val] S4096x1) (a0 : IVec S4096x3 32) (b : Fin 4096) :
    col k h a0 (ix1 b) = a0 (ix2 b k) := by
  fin_cases k <;> pointwise [col]

/-- The three takes at an index. -/
theorem rowTake_col (tab : FVec Ideal S100000x128 .f32) (a0 : IVec S4096x3 32) (h0 : ∀ x, (a0 x).toNat < 100000) (k : Fin 3)
    (h : S4096x3.Slices ![0, k.val] S4096x1) (b : Fin 4096) (l : Fin 128) :
    rowTake tab (col k h a0) (ix2 b l) = rowAt tab a0 h0 k b l := by
  rw [rowTake_apply tab _ fun x => by
    obtain ⟨b', rfl⟩ : ∃ b' : Fin 4096, x = ix1 b' := ⟨x 0, eq_ix1 x⟩
    rw [col_apply]; exact h0 _]
  exact congrArg (fun r => tab (ix2 r l)) (Fin.ext (congrArg BitVec.toNat (col_apply k h a0 b)))

/-- The reference's result at an index, the words in range. -/
theorem result_apply (m : (ℓ : Loc nD τ sig) → Buf (Elt Ideal) ℓ) (c : Dev nD)
    (h0 : ∀ x, ((m ((c.tc : Thread nD τ).loc main_arg0) : IVec S4096x3 32) x).toNat < 100000)
    (h1 : ∀ x, ((m ((c.tc : Thread nD τ).loc main_arg1) : IVec S4096x50 32) x).toNat < 1000)
    (h2 : ∀ x, ((m ((c.tc : Thread nD τ).loc main_arg2) : IVec S4096x50 32) x).toNat < 1000) (b : Fin 4096) (o : Fin 1000) :
    Value.res_main_v31 (F := Ideal) m c (ix2 b o)
      = scoreAt (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          h0 h1 h2 b o := by
  rw [result_eq]
  refine (net_apply _ _ _ _ _ _ _ b o).trans ?_
  unfold scoreAt
  refine congrArg (fun x => layers x _ _ _ _ _ _) (funext fun i => (features_apply _ _ _ _ _ b i).trans ?_)
  congr 1 <;> funext l
  · exact rowTake_col _ _ h0 0 _ b l
  · exact rowTake_col _ _ h0 1 _ b l
  · exact rowTake_col _ _ h0 2 _ b l
  · exact topicMean_apply _ _ h1 b l
  · exact topicMean_apply _ _ h2 b l

end Cert.Proof.Plain
-- ==== Proof.Equal.lean ====
/-
  The two idealized programs, run on the same argument arrays, leave the same result.
-/
module

public import proofs.«01_k».proof.Defs
public import proofs.«01_k».proof.Proof.KernelValue
public import proofs.«01_k».proof.Proof.RefValue

@[expose] public section

noncomputable section

namespace Cert.Proof.Lookup

open Cert.KernelIdeal Cert.KernelIdeal.Gen
open Idealize.ShloMosaic hiding ix1
open Idealize.SL.Sem

/-- The index ranges that the precondition gives at the launch. -/
theorem ranges_at {m : (ℓ : Loc nD τ sig) → Buf (Elt Ideal) ℓ} (h : Cert.Pre_KernelIdeal m) (d : Dev nD) :
    (∀ x, ((m (d, dv main_arg0) : IVec S4096x3 32) x).toNat < 100000) ∧ (∀ x, ((m (d, dv main_arg1) : IVec S4096x50 32) x).toNat < 1000)
      ∧ (∀ x, ((m (d, dv main_arg2) : IVec S4096x50 32) x).toNat < 1000) :=
  ranges_of_pre _ _ _ _ _ _ _ _ _ _ _ _ (h d)

/-- The kernel and the reference compute the same array from the same arguments, at the extended reals. -/
theorem algebraic : Cert.algebraic_KernelIdeal_ReferenceIdeal := by
  intro m g m' g' hpre hargs
  refine ⟨fun c => VE m c (dv main_v19),
    (θ_run (Cert.KernelIdeal.defs (F := Ideal)) _ _).mono (fun r hr c => ⟨hr.1 c (dv main_v19) (by decide), (frame_of_QC m r hr).1 c⟩)
      (run_main (F := Ideal) m g (ok_ideal m hpre)),
    (θ_run (Cert.ReferenceIdeal.defs (F := Ideal)) _ _).mono (fun r h c => ⟨(h c).1.trans ?_, (h c).2⟩)
      (Cert.ReferenceIdeal.Value.run (F := Ideal) m' g')⟩
  obtain ⟨e0, e1, e2, e3, e4, e5, e6, e7, e8, e9, e10, e11⟩ := hargs c
  obtain ⟨k0, k1, k2⟩ := ranges_at hpre c
  refine funext fun x => ?_
  obtain ⟨b, o, rfl⟩ : ∃ (b : Fin 4096) (o : Fin 1000), x = ix2 b o := ⟨x 0, x 1, eq_ix2 x⟩
  refine (Plain.result_apply m' c (fun y => ?_) (fun y => ?_) (fun y => ?_) b o).trans
    ((scoreAt_congr e0 e1 e2 e3 e4 e5 e6 e7 e8 e9 e10 e11 _ _ _ k0 k1 k2 b o).trans (kernel_apply m c k0 k1 k2 b o).symm)
  · exact (congrArg (fun a : IVec S4096x3 32 => (a y).toNat) e0).trans_lt (k0 y)
  · exact (congrArg (fun a : IVec S4096x50 32 => (a y).toNat) e1).trans_lt (k1 y)
  · exact (congrArg (fun a : IVec S4096x50 32 => (a y).toNat) e2).trans_lt (k2 y)

end Cert.Proof.Lookup
-- ==== Proof.lean ====
/-
  The proof of `Cert.Claim` (proofs.«01_k».proof.Defs): the frames of the kernel, of its idealized program and
  of the reference, and the equality of the two idealized programs' results. The modules behind it, in order:
    Sweep, Setup  — the indices of the sweeps, the values of the lookup, the ghost state
    Loops, Tile, Fetch, Task — one tile's task of the SparseCore kernel
    Launch        — the launch of the thirty-two tiles
    Head, Region  — the TensorCore kernel at a point of its grid, and its pipeline
    Main          — the whole program's run
    Frames, Same  — the frames
    HeadValue, CountValue, HeadedValue, KernelValue — the kernel's result, element by element
    Score         — the problem's result, written once
    Takes, RefValue — the reference's result, element by element
    Equal         — the two results are equal
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Same
public import proofs.«01_k».proof.Proof.Equal
public import Idealize.ShloMosaic.Lib.Claim

@[expose] public section

noncomputable section

namespace Cert.Proof

open Idealize.ShloMosaic Idealize.SL.Sem

/-- The reference's frame. -/
theorem frame_reference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- Everything claimed. -/
theorem claim : Cert.Claim := ⟨Cert.Kernel.Gen.facts, Cert.KernelIdeal.Gen.facts, Cert.ReferenceIdeal.Gen.facts, Cert.Pre_in_range.Gen.facts,
  Lookup.frame_kernel, Lookup.frame_ideal, frame_reference, fun m g _ => frame_reference m g trivial, trivial, Lookup.algebraic⟩

end Cert.Proof

end
